-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v198)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v198) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v58_0)) (v1 : (c : Dev Cert.Kernel4Ideal.nD) → Buf (Elt Ideal) ((c.tc : Thread Cert.Kernel4Ideal.nD Cert.Kernel4Ideal.τ).loc Cert.Kernel4Ideal.main_v58_1)) (v2 : (c : Dev Cert.Kernel4Ideal.nD) → Buf (Elt Ideal) ((c.tc : Thread Cert.Kernel4Ideal.nD Cert.Kernel4Ideal.τ).loc Cert.Kernel4Ideal.main_v58_4)) (v3 : (c : Dev Cert.Kernel4Ideal.nD) → Buf (Elt Ideal) ((c.tc : Thread Cert.Kernel4Ideal.nD Cert.Kernel4Ideal.τ).loc Cert.Kernel4Ideal.main_v58_6)) (v4 : (c : Dev Cert.Kernel4Ideal.nD) → Buf (Elt Ideal) ((c.tc : Thread Cert.Kernel4Ideal.nD Cert.Kernel4Ideal.τ).loc Cert.Kernel4Ideal.main_v58_7)) (v5 : (c : Dev Cert.Kernel4Ideal.nD) → Buf (Elt Ideal) ((c.tc : Thread Cert.Kernel4Ideal.nD Cert.Kernel4Ideal.τ).loc Cert.Kernel4Ideal.main_v58_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v58_0) = v0 c
          ∧ r.2.mem ((c.tc : Thread Cert.Kernel4Ideal.nD Cert.Kernel4Ideal.τ).loc Cert.Kernel4Ideal.main_v58_1) = v1 c
          ∧ r.2.mem ((c.tc : Thread Cert.Kernel4Ideal.nD Cert.Kernel4Ideal.τ).loc Cert.Kernel4Ideal.main_v58_4) = v2 c
          ∧ r.2.mem ((c.tc : Thread Cert.Kernel4Ideal.nD Cert.Kernel4Ideal.τ).loc Cert.Kernel4Ideal.main_v58_6) = v3 c
          ∧ r.2.mem ((c.tc : Thread Cert.Kernel4Ideal.nD Cert.Kernel4Ideal.τ).loc Cert.Kernel4Ideal.main_v58_7) = v4 c
          ∧ r.2.mem ((c.tc : Thread Cert.Kernel4Ideal.nD Cert.Kernel4Ideal.τ).loc Cert.Kernel4Ideal.main_v58_8) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_v50) = v1 c
          ∧ r.2.mem ((c.tc : Thread Cert.Reference4Ideal.nD Cert.Reference4Ideal.τ).loc Cert.Reference4Ideal.main_v40) = v2 c
          ∧ r.2.mem ((c.tc : Thread Cert.Reference4Ideal.nD Cert.Reference4Ideal.τ).loc Cert.Reference4Ideal.main_v42) = v3 c
          ∧ r.2.mem ((c.tc : Thread Cert.Reference4Ideal.nD Cert.Reference4Ideal.τ).loc Cert.Reference4Ideal.main_v44) = v4 c
          ∧ r.2.mem ((c.tc : Thread Cert.Reference4Ideal.nD Cert.Reference4Ideal.τ).loc Cert.Reference4Ideal.main_v49) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S8x256x4096 : Shape := ⟨3, ![8, 256, 4096]⟩
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S_ : Shape := ⟨0, ![]⟩

class Facts : Prop where
  bcast_S_S8x256x4096 : S_.BroadcastsInDim S8x256x4096 (![] : Fin 0 → Fin S8x256x4096.rank)
  reducesTo_S8x256x4096_S_d0_1_2 : S8x256x4096.ReducesTo [0, 1, 2] S_
  h_S_ : 0 < S_.numel
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_
  bcast_S_S16x64x16 : S_.BroadcastsInDim S16x64x16 (![] : Fin 0 → Fin S16x64x16.rank)
  reducesTo_S16x64x16_S_d0_1_2 : S16x64x16.ReducesTo [0, 1, 2] S_
  bcast_S_S16x16x64 : S_.BroadcastsInDim S16x16x64 (![] : Fin 0 → Fin S16x16x64.rank)
  reducesTo_S16x16x64_S_d0_1_2 : S16x16x64.ReducesTo [0, 1, 2] S_

variable [Facts]

def fn_part2 {F : FTy → Type} [FloatOps F] (main_arg1 : FVec F S16x64 .f32) (main_arg2 : FVec F S16x64 .f32) (main_arg7 : FVec F S16x16x64 .f32) (main_v33 : IVec S_ 1) : IVec S_ 1 :=
  let main_v34 : FVec F S16x16x64 .f32 := Host.absf main_arg7
  let main_cst_12 : FVec F S_ .f32 := constant S_ .f32 0x7F800000#32
  let main_v35 : FVec F S16x16x64 .f32 := broadcastInDim S16x16x64 ![] bcast_S_S16x16x64 main_cst_12
  let main_v36 : IVec S16x16x64 1 := cmpf .olt main_v34 main_v35
  let main_c_13 : IVec S_ 1 := constantI S_ 1 1#1
  let main_v37 : IVec S_ 1 := (fun x v => Host.reduce IntOp.andi x v reducesTo_S16x16x64_S_d0_1_2 h_S_) main_v36 main_c_13
  let main_v38 : IVec S_ 1 := andi main_v33 main_v37
  let main_v39 : FVec F S16x64 .f32 := mulf main_arg1 main_arg1
  let main_v40 : FVec F S16x64 .f32 := mulf main_arg2 main_arg2
  let main_v41 : FVec F S16x64 .f32 := addf main_v39 main_v40
  let main_cst_14 : FVec F S_ .f32 := constant S_ .f32 0x00000000#32
  let main_v42 : FVec F S16x64 .f32 := broadcastInDim S16x64 ![] bcast_S_S16x64 main_cst_14
  let main_v43 : IVec S16x64 1 := cmpf .ogt main_v41 main_v42
  let main_c_15 : IVec S_ 1 := constantI S_ 1 1#1
  let main_v44 : IVec S_ 1 := (fun x v => Host.reduce IntOp.andi x v reducesTo_S16x64_S_d0_1 h_S_) main_v43 main_c_15
  let main_v45 : IVec S_ 1 := andi main_v38 main_v44
  main_v45

def fn_part1 {F : FTy → Type} [FloatOps F] (main_arg1 : FVec F S16x64 .f32) (main_arg2 : FVec F S16x64 .f32) (main_arg4 : FVec F S16x64x16 .f32) (main_arg5 : FVec F S16x64x16 .f32) (main_arg6 : FVec F S16x16x64 .f32) (main_arg7 : FVec F S16x16x64 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x64x16 .f32 := Host.absf main_arg4
  let main_cst_6 : FVec F S_ .f32 := constant S_ .f32 0x7F800000#32
  let main_v20 : FVec F S16x64x16 .f32 := broadcastInDim S16x64x16 ![] bcast_S_S16x64x16 main_cst_6
  let main_v21 : IVec S16x64x16 1 := cmpf .olt main_v19 main_v20
  let main_c_7 : IVec S_ 1 := constantI S_ 1 1#1
  let main_v22 : IVec S_ 1 := (fun x v => Host.reduce IntOp.andi x v reducesTo_S16x64x16_S_d0_1_2 h_S_) main_v21 main_c_7
  let main_v23 : IVec S_ 1 := andi main_v18 main_v22
  let main_v24 : FVec F S16x64x16 .f32 := Host.absf main_arg5
  let main_cst_8 : FVec F S_ .f32 := constant S_ .f32 0x7F800000#32
  let main_v25 : FVec F S16x64x16 .f32 := broadcastInDim S16x64x16 ![] bcast_S_S16x64x16 main_cst_8
  let main_v26 : IVec S16x64x16 1 := cmpf .olt main_v24 main_v25
  let main_c_9 : IVec S_ 1 := constantI S_ 1 1#1
  let main_v27 : IVec S_ 1 := (fun x v => Host.reduce IntOp.andi x v reducesTo_S16x64x16_S_d0_1_2 h_S_) main_v26 main_c_9
  let main_v28 : IVec S_ 1 := andi main_v23 main_v27
  let main_v29 : FVec F S16x16x64 .f32 := Host.absf main_arg6
  let main_cst_10 : FVec F S_ .f32 := constant S_ .f32 0x7F800000#32
  let main_v30 : FVec F S16x16x64 .f32 := broadcastInDim S16x16x64 ![] bcast_S_S16x16x64 main_cst_10
  let main_v31 : IVec S16x16x64 1 := cmpf .olt main_v29 main_v30
  let main_c_11 : IVec S_ 1 := constantI S_ 1 1#1
  let main_v32 : IVec S_ 1 := (fun x v => Host.reduce IntOp.andi x v reducesTo_S16x16x64_S_d0_1_2 h_S_) main_v31 main_c_11
  let main_v33 : IVec S_ 1 := andi main_v28 main_v32
  fn_part2 (F := F) main_arg1 main_arg2 main_arg7 main_v33

def fn {F : FTy → Type} [FloatOps F] (main_arg0 : FVec F S8x256x4096 .f32) (main_arg1 : FVec F S16x64 .f32) (main_arg2 : FVec F S16x64 .f32) (main_arg3 : FVec F S16 .f32) (main_arg4 : FVec F S16x64x16 .f32) (main_arg5 : FVec F S16x64x16 .f32) (main_arg6 : FVec F S16x16x64 .f32) (main_arg7 : FVec F S16x16x64 .f32) : IVec S_ 1 :=
  let main_v0 : FVec F S8x256x4096 .f32 := Host.absf main_arg0
  let main_cst : FVec F S_ .f32 := constant S_ .f32 0x7F800000#32
  let main_v1 : FVec F S8x256x4096 .f32 := broadcastInDim S8x256x4096 ![] bcast_S_S8x256x4096 main_cst
  let main_v2 : IVec S8x256x4096 1 := cmpf .olt main_v0 main_v1
  let main_c : IVec S_ 1 := constantI S_ 1 1#1
  let main_v3 : IVec S_ 1 := (fun x v => Host.reduce IntOp.andi x v reducesTo_S8x256x4096_S_d0_1_2 h_S_) main_v2 main_c
  let main_v4 : FVec F S16x64 .f32 := Host.absf main_arg1
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S16x64 .f32 := Host.absf main_arg2
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg1 main_arg2 main_arg4 main_arg5 main_arg6 main_arg7 main_v13 main_v16
-- ==== Kernel.lean ====
abbrev S8x256x4096 : Shape := ⟨3, ![8, 256, 4096]⟩
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S16x1 : Shape := ⟨2, ![16, 1]⟩
abbrev S_ : Shape := ⟨0, ![]⟩
abbrev S16x64x1 : Shape := ⟨3, ![16, 64, 1]⟩
abbrev S65 : Shape := ⟨1, ![65]⟩
abbrev S1x1x65 : Shape := ⟨3, ![1, 1, 65]⟩
abbrev S16x1x1 : Shape := ⟨3, ![16, 1, 1]⟩
abbrev S16x64x65 : Shape := ⟨3, ![16, 64, 65]⟩
abbrev S16x16x64x1 : Shape := ⟨4, ![16, 16, 64, 1]⟩
abbrev S16x1x64x65 : Shape := ⟨4, ![16, 1, 64, 65]⟩
abbrev S16x16x64x65 : Shape := ⟨4, ![16, 16, 64, 65]⟩
abbrev S16x16x64x64 : Shape := ⟨4, ![16, 16, 64, 64]⟩
abbrev S16x16x16x64 : Shape := ⟨4, ![16, 16, 16, 64]⟩
abbrev S16x64x16x16 : Shape := ⟨4, ![16, 64, 16, 16]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S1x64x64x1x1 : Shape := ⟨5, ![1, 64, 64, 1, 1]⟩
abbrev S64x64x1 : Shape := ⟨3, ![64, 64, 1]⟩
abbrev S16x64x64x16x16 : Shape := ⟨5, ![16, 64, 64, 16, 16]⟩
abbrev S16x16x64x16x64 : Shape := ⟨5, ![16, 16, 64, 16, 64]⟩
abbrev S16x16x64x1024 : Shape := ⟨4, ![16, 16, 64, 1024]⟩
abbrev S16x64x64 : Shape := ⟨3, ![16, 64, 64]⟩
abbrev S16x64x64x1 : Shape := ⟨4, ![16, 64, 64, 1]⟩
abbrev S16x64x1x16 : Shape := ⟨4, ![16, 64, 1, 16]⟩
abbrev S16x64x64x16 : Shape := ⟨4, ![16, 64, 64, 16]⟩
abbrev S16x16x64x128 : Shape := ⟨4, ![16, 16, 64, 128]⟩
abbrev S16x64x16x64 : Shape := ⟨4, ![16, 64, 16, 64]⟩
abbrev S16x128x16x64 : Shape := ⟨4, ![16, 128, 16, 64]⟩
abbrev S16x128x1024 : Shape := ⟨3, ![16, 128, 1024]⟩
abbrev S8 : Shape := ⟨1, ![8]⟩
abbrev S1x1x8 : Shape := ⟨3, ![1, 1, 8]⟩
abbrev S16x64x8 : Shape := ⟨3, ![16, 64, 8]⟩
abbrev S16x8x64 : Shape := ⟨3, ![16, 8, 64]⟩
abbrev S16x8x128 : Shape := ⟨3, ![16, 8, 128]⟩
abbrev S16x8x1x128 : Shape := ⟨4, ![16, 8, 1, 128]⟩
abbrev S16x8x2x128 : Shape := ⟨4, ![16, 8, 2, 128]⟩
abbrev S8x256x64x64 : Shape := ⟨4, ![8, 256, 64, 64]⟩
abbrev S8x16x64x64 : Shape := ⟨4, ![8, 16, 64, 64]⟩
abbrev S1x16x64x1024 : Shape := ⟨4, ![1, 16, 64, 1024]⟩
abbrev S1x16x64x128 : Shape := ⟨4, ![1, 16, 64, 128]⟩
abbrev S1x128x1024 : Shape := ⟨3, ![1, 128, 1024]⟩
abbrev S1x8x2x128 : Shape := ⟨4, ![1, 8, 2, 128]⟩
abbrev S8x1x64x64 : Shape := ⟨4, ![8, 1, 64, 64]⟩
abbrev S8x64x64 : Shape := ⟨3, ![8, 64, 64]⟩
abbrev S512x64 : Shape := ⟨2, ![512, 64]⟩
abbrev S1x1x64x1024 : Shape := ⟨4, ![1, 1, 64, 1024]⟩
abbrev S64x1024 : Shape := ⟨2, ![64, 1024]⟩
abbrev S512x1024 : Shape := ⟨2, ![512, 1024]⟩
abbrev S1x1x64x128 : Shape := ⟨4, ![1, 1, 64, 128]⟩
abbrev S64x128 : Shape := ⟨2, ![64, 128]⟩
abbrev S512x128 : Shape := ⟨2, ![512, 128]⟩
abbrev S512x1 : Shape := ⟨2, ![512, 1]⟩
abbrev S1x1x1x128 : Shape := ⟨4, ![1, 1, 1, 128]⟩
abbrev S1x128 : Shape := ⟨2, ![1, 128]⟩
abbrev S128x1024 : Shape := ⟨2, ![128, 1024]⟩

abbrev nBuf : Space → Nat
  | .hbm => 224
  | .vmem => 12
  | .smem => 0
  | _ => 0

abbrev hbmTy0_0 (i : Nat) : BufTy := match i % 128 with
  | 0 => ⟨S8x256x4096, .f32⟩
  | 1 => ⟨S16x64, .f32⟩
  | 2 => ⟨S16x64, .f32⟩
  | 3 => ⟨S16, .f32⟩
  | 4 => ⟨S16x64x16, .f32⟩
  | 5 => ⟨S16x64x16, .f32⟩
  | 6 => ⟨S16x16x64, .f32⟩
  | 7 => ⟨S16x16x64, .f32⟩
  | 8 => ⟨S16, .f32⟩
  | 9 => ⟨S16x1, .f32⟩
  | 10 => ⟨S16x64, .f32⟩
  | 11 => ⟨S16x64, .f32⟩
  | 12 => ⟨S16x64, .f32⟩
  | 13 => ⟨S16x64, .f32⟩
  | 14 => ⟨S16x64, .f32⟩
  | 15 => ⟨S16x64, .f32⟩
  | 16 => ⟨S16x64, .f32⟩
  | 17 => ⟨S16x64, .f32⟩
  | 18 => ⟨S16x64, .f32⟩
  | 19 => ⟨S16x64, .f32⟩
  | 20 => ⟨S16x64, .f32⟩
  | 21 => ⟨S16x64, .f32⟩
  | 22 => ⟨S16x64, .f32⟩
  | 23 => ⟨S16x64, .f32⟩
  | 24 => ⟨S_, .f32⟩
  | 25 => ⟨S16x64, .f32⟩
  | 26 => ⟨S16x64, .f32⟩
  | 27 => ⟨S16x64, .f32⟩
  | 28 => ⟨S16x64, .f32⟩
  | 29 => ⟨S16x64, .f32⟩
  | 30 => ⟨S16x64, .f32⟩
  | 31 => ⟨S16x64, .f32⟩
  | 32 => ⟨S_, .f32⟩
  | 33 => ⟨S16x64, .f32⟩
  | 34 => ⟨S16x64, .f32⟩
  | 35 => ⟨S16x64, .f32⟩
  | 36 => ⟨S16x64, .f32⟩
  | 37 => ⟨S16x64, .f32⟩
  | 38 => ⟨S16x64x1, .f32⟩
  | 39 => ⟨S16x64x16, .f32⟩
  | 40 => ⟨S16x64x16, .f32⟩
  | 41 => ⟨S16x64x1, .f32⟩
  | 42 => ⟨S16x64x16, .f32⟩
  | 43 => ⟨S16x64x16, .f32⟩
  | 44 => ⟨S16x64x16, .f32⟩
  | 45 => ⟨S16x64x1, .f32⟩
  | 46 => ⟨S16x64x16, .f32⟩
  | 47 => ⟨S16x64x16, .f32⟩
  | 48 => ⟨S16x64x1, .f32⟩
  | 49 => ⟨S16x64x16, .f32⟩
  | 50 => ⟨S16x64x16, .f32⟩
  | 51 => ⟨S16x64x16, .f32⟩
  | 52 => ⟨S65, .f32⟩
  | 53 => ⟨S1x1x65, .f32⟩
  | 54 => ⟨S16x64x1, .f32⟩
  | 55 => ⟨S16x1x1, .f32⟩
  | 56 => ⟨S16x64x1, .f32⟩
  | 57 => ⟨S16x64x1, .f32⟩
  | 58 => ⟨S16x64x65, .f32⟩
  | 59 => ⟨S16x64x65, .f32⟩
  | 60 => ⟨S16x64x65, .f32⟩
  | 61 => ⟨S16x64x65, .f32⟩
  | 62 => ⟨S16x64x1, .f32⟩
  | 63 => ⟨S16x1x1, .f32⟩
  | 64 => ⟨S16x64x1, .f32⟩
  | 65 => ⟨S16x64x1, .f32⟩
  | 66 => ⟨S16x64x65, .f32⟩
  | 67 => ⟨S16x64x65, .f32⟩
  | 68 => ⟨S16x64x65, .f32⟩
  | 69 => ⟨S16x64x65, .f32⟩
  | 70 => ⟨S16x64x65, .f32⟩
  | 71 => ⟨S16x64x65, .f32⟩
  | 72 => ⟨S16x64x65, .f32⟩
  | 73 => ⟨S16x16x64x1, .f32⟩
  | 74 => ⟨S16x1x64x65, .f32⟩
  | 75 => ⟨S16x16x64x65, .f32⟩
  | 76 => ⟨S16x16x64x65, .f32⟩
  | 77 => ⟨S16x16x64x65, .f32⟩
  | 78 => ⟨S16x16x64x1, .f32⟩
  | 79 => ⟨S16x1x64x65, .f32⟩
  | 80 => ⟨S16x16x64x65, .f32⟩
  | 81 => ⟨S16x16x64x65, .f32⟩
  | 82 => ⟨S16x16x64x65, .f32⟩
  | 83 => ⟨S16x16x64x65, .f32⟩
  | 84 => ⟨S16x16x64x1, .f32⟩
  | 85 => ⟨S16x1x64x65, .f32⟩
  | 86 => ⟨S16x16x64x65, .f32⟩
  | 87 => ⟨S16x16x64x65, .f32⟩
  | 88 => ⟨S16x16x64x65, .f32⟩
  | 89 => ⟨S16x16x64x1, .f32⟩
  | 90 => ⟨S16x1x64x65, .f32⟩
  | 91 => ⟨S16x16x64x65, .f32⟩
  | 92 => ⟨S16x16x64x65, .f32⟩
  | 93 => ⟨S16x16x64x65, .f32⟩
  | 94 => ⟨S16x16x64x65, .f32⟩
  | 95 => ⟨S16x16x64x64, .f32⟩
  | 96 => ⟨S16x16x16x64, .f32⟩
  | 97 => ⟨S16x64x16x16, .f32⟩
  | 98 => ⟨S16x16x64x64, .f32⟩
  | 99 => ⟨S16x16x16x64, .f32⟩
  | 100 => ⟨S16x64x16x16, .f32⟩
  | 101 => ⟨S16x64x16x16, .f32⟩
  | 102 => ⟨S64, .i32⟩
  | 103 => ⟨S1x64, .i32⟩
  | 104 => ⟨S64x1, .i32⟩
  | 105 => ⟨S64x64, .i32⟩
  | 106 => ⟨S64x64, .i32⟩
  | 107 => ⟨S64x64, .i32⟩
  | 108 => ⟨S_, .i32⟩
  | 109 => ⟨S64x64, .i32⟩
  | 110 => ⟨S64x64, .i1⟩
  | 111 => ⟨S1x64x64x1x1, .i1⟩
  | 112 => ⟨S_, .i32⟩
  | 113 => ⟨S64x64, .i32⟩
  | 114 => ⟨S64x64, .i32⟩
  | 115 => ⟨S_, .i32⟩
  | 116 => ⟨S64x64, .i32⟩
  | 117 => ⟨S64x64, .i1⟩
  | 118 => ⟨S_, .i32⟩
  | 119 => ⟨S64x64, .i32⟩
  | 120 => ⟨S64x64, .i32⟩
  | 121 => ⟨S64x64, .i32⟩
  | 122 => ⟨S64x64x1, .i32⟩
  | 123 => ⟨S16x64x64x16x16, .f32⟩
  | 124 => ⟨S_, .f32⟩
  | 125 => ⟨S_, .f32⟩
  | 126 => ⟨S16x64x64x16x16, .i1⟩
  | 127 => ⟨S16x64x64x16x16, .f32⟩
  | _ => ⟨S8x256x4096, .f32⟩

abbrev hbmTy0_1 (i : Nat) : BufTy := match i % 128 with
  | 0 => ⟨S16x64x64x16x16, .f32⟩
  | 1 => ⟨S16x16x64x16x64, .f32⟩
  | 2 => ⟨S16x16x64x1024, .f32⟩
  | 3 => ⟨S_, .i32⟩
  | 4 => ⟨S64, .i32⟩
  | 5 => ⟨S64, .i32⟩
  | 6 => ⟨S_, .i32⟩
  | 7 => ⟨S64, .i32⟩
  | 8 => ⟨S64, .i1⟩
  | 9 => ⟨S_, .i32⟩
  | 10 => ⟨S64, .i32⟩
  | 11 => ⟨S64, .i32⟩
  | 12 => ⟨S64, .i32⟩
  | 13 => ⟨S64x1, .i32⟩
  | 14 => ⟨S16x64x64, .f32⟩
  | 15 => ⟨S_, .i32⟩
  | 16 => ⟨S64, .i32⟩
  | 17 => ⟨S64, .i1⟩
  | 18 => ⟨S_, .i32⟩
  | 19 => ⟨S64, .i32⟩
  | 20 => ⟨S64, .i32⟩
  | 21 => ⟨S64, .i32⟩
  | 22 => ⟨S64x1, .i32⟩
  | 23 => ⟨S16x64x64, .f32⟩
  | 24 => ⟨S16x64x64x1, .f32⟩
  | 25 => ⟨S16x64x1x16, .f32⟩
  | 26 => ⟨S16x64x64x16, .f32⟩
  | 27 => ⟨S16x64x64x16, .f32⟩
  | 28 => ⟨S16x64x64x16, .f32⟩
  | 29 => ⟨S16x64x64x1, .f32⟩
  | 30 => ⟨S16x64x1x16, .f32⟩
  | 31 => ⟨S16x64x64x16, .f32⟩
  | 32 => ⟨S16x64x64x16, .f32⟩
  | 33 => ⟨S16x64x64x16, .f32⟩
  | 34 => ⟨S16x64x64x16, .f32⟩
  | 35 => ⟨S16x64x64x1, .f32⟩
  | 36 => ⟨S16x64x1x16, .f32⟩
  | 37 => ⟨S16x64x64x16, .f32⟩
  | 38 => ⟨S16x64x64x16, .f32⟩
  | 39 => ⟨S16x64x64x16, .f32⟩
  | 40 => ⟨S16x64x64x1, .f32⟩
  | 41 => ⟨S16x64x1x16, .f32⟩
  | 42 => ⟨S16x64x64x16, .f32⟩
  | 43 => ⟨S16x64x64x16, .f32⟩
  | 44 => ⟨S16x64x64x16, .f32⟩
  | 45 => ⟨S16x64x64x16, .f32⟩
  | 46 => ⟨S16x16x64x64, .f32⟩
  | 47 => ⟨S16x16x64x64, .f32⟩
  | 48 => ⟨S16x16x64x128, .f32⟩
  | 49 => ⟨S16x16x64x64, .f32⟩
  | 50 => ⟨S16x64x16x64, .f32⟩
  | 51 => ⟨S16x16x64x64, .f32⟩
  | 52 => ⟨S16x64x16x64, .f32⟩
  | 53 => ⟨S16x64x16x64, .f32⟩
  | 54 => ⟨S16x128x16x64, .f32⟩
  | 55 => ⟨S16x128x1024, .f32⟩
  | 56 => ⟨S8, .f32⟩
  | 57 => ⟨S_, .f32⟩
  | 58 => ⟨S8, .f32⟩
  | 59 => ⟨S8, .f32⟩
  | 60 => ⟨S_, .f32⟩
  | 61 => ⟨S8, .f32⟩
  | 62 => ⟨S8, .f32⟩
  | 63 => ⟨S1x1x8, .f32⟩
  | 64 => ⟨S16x64x1, .f32⟩
  | 65 => ⟨S16x1x1, .f32⟩
  | 66 => ⟨S16x64x1, .f32⟩
  | 67 => ⟨S16x64x1, .f32⟩
  | 68 => ⟨S16x64x8, .f32⟩
  | 69 => ⟨S16x64x8, .f32⟩
  | 70 => ⟨S16x64x8, .f32⟩
  | 71 => ⟨S16x64x8, .f32⟩
  | 72 => ⟨S16x64x1, .f32⟩
  | 73 => ⟨S16x1x1, .f32⟩
  | 74 => ⟨S16x64x1, .f32⟩
  | 75 => ⟨S16x64x1, .f32⟩
  | 76 => ⟨S16x64x8, .f32⟩
  | 77 => ⟨S16x64x8, .f32⟩
  | 78 => ⟨S16x64x8, .f32⟩
  | 79 => ⟨S16x64x8, .f32⟩
  | 80 => ⟨S16x64x8, .f32⟩
  | 81 => ⟨S16x8x64, .f32⟩
  | 82 => ⟨S16x64x8, .f32⟩
  | 83 => ⟨S16x64x8, .f32⟩
  | 84 => ⟨S16x8x64, .f32⟩
  | 85 => ⟨S16x8x128, .f32⟩
  | 86 => ⟨S16x8x64, .f32⟩
  | 87 => ⟨S16x8x128, .f32⟩
  | 88 => ⟨S16x8x1x128, .f32⟩
  | 89 => ⟨S16x8x1x128, .f32⟩
  | 90 => ⟨S16x8x2x128, .f32⟩
  | 91 => ⟨S16x16x64x1024, .bf16⟩
  | 92 => ⟨S16x16x64x128, .bf16⟩
  | 93 => ⟨S16x128x1024, .bf16⟩
  | 94 => ⟨S8x256x64x64, .f32⟩
  | 95 => ⟨S8x256x64x64, .f32⟩
  | _ => ⟨S8x256x4096, .f32⟩

abbrev hbmTy (i : Nat) : BufTy := match i / 128 with
  | 0 => hbmTy0_0 i
  | 1 => hbmTy0_1 i
  | _ => ⟨S8x256x4096, .f32⟩

abbrev bufTy : (tb : Table) → Fin (tcTables nBuf tb) → BufTy
  | .hbm, ⟨i, _⟩ => hbmTy i
  | .local _ .vmem, ⟨0, _⟩ => ⟨S8x16x64x64, .f32⟩
  | .local _ .vmem, ⟨1, _⟩ => ⟨S8x16x64x64, .f32⟩
  | .local _ .vmem, ⟨2, _⟩ => ⟨S1x16x64x1024, .bf16⟩
  | .local _ .vmem, ⟨3, _⟩ => ⟨S1x16x64x1024, .bf16⟩
  | .local _ .vmem, ⟨4, _⟩ => ⟨S1x16x64x128, .bf16⟩
  | .local _ .vmem, ⟨5, _⟩ => ⟨S1x16x64x128, .bf16⟩
  | .local _ .vmem, ⟨6, _⟩ => ⟨S1x128x1024, .bf16⟩
  | .local _ .vmem, ⟨7, _⟩ => ⟨S1x128x1024, .bf16⟩
  | .local _ .vmem, ⟨8, _⟩ => ⟨S1x8x2x128, .f32⟩
  | .local _ .vmem, ⟨9, _⟩ => ⟨S1x8x2x128, .f32⟩
  | .local _ .vmem, ⟨10, _⟩ => ⟨S8x16x64x64, .f32⟩
  | .local _ .vmem, ⟨11, _⟩ => ⟨S8x16x64x64, .f32⟩
  | _, _ => ⟨S8x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_c : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_c_1 : Ref sig .tc := ⟨.hbm, 112, rfl⟩
abbrev main_v101 : Ref sig .tc := ⟨.hbm, 113, rfl⟩
abbrev main_v102 : Ref sig .tc := ⟨.hbm, 114, rfl⟩
abbrev main_c_2 : Ref sig .tc := ⟨.hbm, 115, rfl⟩
abbrev main_v103 : Ref sig .tc := ⟨.hbm, 116, rfl⟩
abbrev main_v104 : Ref sig .tc := ⟨.hbm, 117, rfl⟩
abbrev main_c_3 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_cst_4 : Ref sig .tc := ⟨.hbm, 124, rfl⟩
abbrev main_call0_v0 : Ref sig .tc := ⟨.hbm, 125, rfl⟩
abbrev main_call0_v1 : Ref sig .tc := ⟨.hbm, 126, rfl⟩
abbrev main_call0_v2 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_c_5 : Ref sig .tc := ⟨.hbm, 131, rfl⟩
abbrev main_v113 : Ref sig .tc := ⟨.hbm, 132, rfl⟩
abbrev main_v114 : Ref sig .tc := ⟨.hbm, 133, rfl⟩
abbrev main_c_6 : Ref sig .tc := ⟨.hbm, 134, rfl⟩
abbrev main_v115 : Ref sig .tc := ⟨.hbm, 135, rfl⟩
abbrev main_v116 : Ref sig .tc := ⟨.hbm, 136, rfl⟩
abbrev main_c_7 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_c_8 : Ref sig .tc := ⟨.hbm, 143, rfl⟩
abbrev main_v122 : Ref sig .tc := ⟨.hbm, 144, rfl⟩
abbrev main_v123 : Ref sig .tc := ⟨.hbm, 145, rfl⟩
abbrev main_c_9 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_cst_10 : Ref sig .tc := ⟨.hbm, 185, rfl⟩
abbrev main_v162 : Ref sig .tc := ⟨.hbm, 186, rfl⟩
abbrev main_v163 : Ref sig .tc := ⟨.hbm, 187, rfl⟩
abbrev main_cst_11 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S8x16x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x64x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x16x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x256x4096 : Shape := ⟨3, ![8, 256, 4096]⟩
abbrev S16x64 : Shape := ⟨2, ![16, 64]⟩
abbrev S16 : Shape := ⟨1, ![16]⟩
abbrev S16x64x16 : Shape := ⟨3, ![16, 64, 16]⟩
abbrev S16x16x64 : Shape := ⟨3, ![16, 16, 64]⟩
abbrev S8x4096x256 : Shape := ⟨3, ![8, 4096, 256]⟩
abbrev S8x4096x16x16 : Shape := ⟨4, ![8, 4096, 16, 16]⟩
abbrev S16x1 : Shape := ⟨2, ![16, 1]⟩
abbrev S_ : Shape := ⟨0, ![]⟩
abbrev S16x64x1 : Shape := ⟨3, ![16, 64, 1]⟩
abbrev S16x8x4096x64 : Shape := ⟨4, ![16, 8, 4096, 64]⟩
abbrev S8x4096x16x64 : Shape := ⟨4, ![8, 4096, 16, 64]⟩
abbrev S8x16x64 : Shape := ⟨3, ![8, 16, 64]⟩
abbrev S4096x8x16x64 : Shape := ⟨4, ![4096, 8, 16, 64]⟩
abbrev S1x8x16x64 : Shape := ⟨4, ![1, 8, 16, 64]⟩
abbrev S1x16x64 : Shape := ⟨3, ![1, 16, 64]⟩
abbrev S16x8x4096x16 : Shape := ⟨4, ![16, 8, 4096, 16]⟩
abbrev S8x256x64x64 : Shape := ⟨4, ![8, 256, 64, 64]⟩

abbrev nBuf : Space → Nat
  | .hbm => 126
  | .vmem => 0
  | .smem => 0
  | _ => 0

abbrev bufTy : (tb : Table) → Fin (tcTables nBuf tb) → BufTy
  | .hbm, ⟨0, _⟩ => ⟨S8x256x4096, .f32⟩
  | .hbm, ⟨1, _⟩ => ⟨S16x64, .f32⟩
  | .hbm, ⟨2, _⟩ => ⟨S16x64, .f32⟩
  | .hbm, ⟨3, _⟩ => ⟨S16, .f32⟩
  | .hbm, ⟨4, _⟩ => ⟨S16x64x16, .f32⟩
  | .hbm, ⟨5, _⟩ => ⟨S16x64x16, .f32⟩
  | .hbm, ⟨6, _⟩ => ⟨S16x16x64, .f32⟩
  | .hbm, ⟨7, _⟩ => ⟨S16x16x64, .f32⟩
  | .hbm, ⟨8, _⟩ => ⟨S8x4096x256, .f32⟩
  | .hbm, ⟨9, _⟩ => ⟨S8x4096x16x16, .f32⟩
  | .hbm, ⟨10, _⟩ => ⟨S16, .f32⟩
  | .hbm, ⟨11, _⟩ => ⟨S16x1, .f32⟩
  | .hbm, ⟨12, _⟩ => ⟨S16x64, .f32⟩
  | .hbm, ⟨13, _⟩ => ⟨S16x64, .f32⟩
  | .hbm, ⟨14, _⟩ => ⟨S16x64, .f32⟩
  | .hbm, ⟨15, _⟩ => ⟨S16x64, .f32⟩
  | .hbm, ⟨16, _⟩ => ⟨S16x64, .f32⟩
  | .hbm, ⟨17, _⟩ => ⟨S16x64, .f32⟩
  | .hbm, ⟨18, _⟩ => ⟨S16x64, .f32⟩
  | .hbm, ⟨19, _⟩ => ⟨S16x64, .f32⟩
  | .hbm, ⟨20, _⟩ => ⟨S16x64, .f32⟩
  | .hbm, ⟨21, _⟩ => ⟨S16x64, .f32⟩
  | .hbm, ⟨22, _⟩ => ⟨S16x64, .f32⟩
  | .hbm, ⟨23, _⟩ => ⟨S16x64, .f32⟩
  | .hbm, ⟨24, _⟩ => ⟨S16x64, .f32⟩
  | .hbm, ⟨25, _⟩ => ⟨S16x64, .f32⟩
  | .hbm, ⟨26, _⟩ => ⟨S_, .f32⟩
  | .hbm, ⟨27, _⟩ => ⟨S16x64, .f32⟩
  | .hbm, ⟨28, _⟩ => ⟨S16x64, .f32⟩
  | .hbm, ⟨29, _⟩ => ⟨S16x64, .f32⟩
  | .hbm, ⟨30, _⟩ => ⟨S16x64, .f32⟩
  | .hbm, ⟨31, _⟩ => ⟨S16x64, .f32⟩
  | .hbm, ⟨32, _⟩ => ⟨S16x64, .f32⟩
  | .hbm, ⟨33, _⟩ => ⟨S16x64, .f32⟩
  | .hbm, ⟨34, _⟩ => ⟨S_, .f32⟩
  | .hbm, ⟨35, _⟩ => ⟨S16x64, .f32⟩
  | .hbm, ⟨36, _⟩ => ⟨S16x64, .f32⟩
  | .hbm, ⟨37, _⟩ => ⟨S16x64, .f32⟩
  | .hbm, ⟨38, _⟩ => ⟨S16x64, .f32⟩
  | .hbm, ⟨39, _⟩ => ⟨S16x64, .f32⟩
  | .hbm, ⟨40, _⟩ => ⟨S16x64x1, .f32⟩
  | .hbm, ⟨41, _⟩ => ⟨S16x64x16, .f32⟩
  | .hbm, ⟨42, _⟩ => ⟨S16x64x16, .f32⟩
  | .hbm, ⟨43, _⟩ => ⟨S16x64x1, .f32⟩
  | .hbm, ⟨44, _⟩ => ⟨S16x64x16, .f32⟩
  | .hbm, ⟨45, _⟩ => ⟨S16x64x16, .f32⟩
  | .hbm, ⟨46, _⟩ => ⟨S16x64x16, .f32⟩
  | .hbm, ⟨47, _⟩ => ⟨S16x64x1, .f32⟩
  | .hbm, ⟨48, _⟩ => ⟨S16x64x16, .f32⟩
  | .hbm, ⟨49, _⟩ => ⟨S16x64x16, .f32⟩
  | .hbm, ⟨50, _⟩ => ⟨S16x64x1, .f32⟩
  | .hbm, ⟨51, _⟩ => ⟨S16x64x16, .f32⟩
  | .hbm, ⟨52, _⟩ => ⟨S16x64x16, .f32⟩
  | .hbm, ⟨53, _⟩ => ⟨S16x64x16, .f32⟩
  | .hbm, ⟨54, _⟩ => ⟨S16x8x4096x64, .f32⟩
  | .hbm, ⟨55, _⟩ => ⟨S8x4096x16x64, .f32⟩
  | .hbm, ⟨56, _⟩ => ⟨S16x8x4096x64, .f32⟩
  | .hbm, ⟨57, _⟩ => ⟨S8x4096x16x64, .f32⟩
  | .hbm, ⟨58, _⟩ => ⟨S_, .f32⟩
  | .hbm, ⟨59, _⟩ => ⟨S8x16x64, .f32⟩
  | .hbm, ⟨60, _⟩ => ⟨S4096x8x16x64, .f32⟩
  | .hbm, ⟨61, _⟩ => ⟨S4096x8x16x64, .f32⟩
  | .hbm, ⟨62, _⟩ => ⟨S_, .f32⟩
  | .hbm, ⟨63, _⟩ => ⟨S4096x8x16x64, .f32⟩
  | .hbm, ⟨64, _⟩ => ⟨S_, .f32⟩
  | .hbm, ⟨65, _⟩ => ⟨S4096x8x16x64, .f32⟩
  | .hbm, ⟨66, _⟩ => ⟨S_, .i32⟩
  | .hbm, ⟨67, _⟩ => ⟨S4096x8x16x64, .f32⟩
  | .hbm, ⟨68, _⟩ => ⟨S4096x8x16x64, .f32⟩
  | .hbm, ⟨69, _⟩ => ⟨S16x64, .f32⟩
  | .hbm, ⟨70, _⟩ => ⟨S16x64, .f32⟩
  | .hbm, ⟨71, _⟩ => ⟨S_, .i32⟩
  | .hbm, ⟨72, _⟩ => ⟨S8x16x64, .f32⟩
  | .hbm, ⟨73, _⟩ => ⟨S8x16x64, .f32⟩
  | .hbm, ⟨74, _⟩ => ⟨S4096x8x16x64, .f32⟩
  | .hbm, ⟨75, _⟩ => ⟨S4096x8x16x64, .f32⟩
  | .hbm, ⟨76, _⟩ => ⟨S_, .i32⟩
  | .hbm, ⟨77, _⟩ => ⟨S_, .i1⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S1x8x16x64, .f32⟩
  | .hbm, ⟨82, _⟩ => ⟨S8x16x64, .f32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S1x8x16x64, .f32⟩
  | .hbm, ⟨87, _⟩ => ⟨S8x16x64, .f32⟩
  | .hbm, ⟨88, _⟩ => ⟨S1x16x64, .f32⟩
  | .hbm, ⟨89, _⟩ => ⟨S8x16x64, .f32⟩
  | .hbm, ⟨90, _⟩ => ⟨S8x16x64, .f32⟩
  | .hbm, ⟨91, _⟩ => ⟨S1x16x64, .f32⟩
  | .hbm, ⟨92, _⟩ => ⟨S8x16x64, .f32⟩
  | .hbm, ⟨93, _⟩ => ⟨S8x16x64, .f32⟩
  | .hbm, ⟨94, _⟩ => ⟨S8x16x64, .f32⟩
  | .hbm, ⟨95, _⟩ => ⟨S8x16x64, .f32⟩
  | .hbm, ⟨96, _⟩ => ⟨S1x16x64, .f32⟩
  | .hbm, ⟨97, _⟩ => ⟨S8x16x64, .f32⟩
  | .hbm, ⟨98, _⟩ => ⟨S8x16x64, .f32⟩
  | .hbm, ⟨99, _⟩ => ⟨S1x16x64, .f32⟩
  | .hbm, ⟨100, _⟩ => ⟨S8x16x64, .f32⟩
  | .hbm, ⟨101, _⟩ => ⟨S8x16x64, .f32⟩
  | .hbm, ⟨102, _⟩ => ⟨S8x16x64, .f32⟩
  | .hbm, ⟨103, _⟩ => ⟨S8x16x64, .f32⟩
  | .hbm, ⟨104, _⟩ => ⟨S1x8x16x64, .f32⟩
  | .hbm, ⟨105, _⟩ => ⟨S_, .i32⟩
  | .hbm, ⟨106, _⟩ => ⟨S_, .i32⟩
  | .hbm, ⟨107, _⟩ => ⟨S_, .i32⟩
  | .hbm, ⟨108, _⟩ => ⟨S4096x8x16x64, .f32⟩
  | .hbm, ⟨109, _⟩ => ⟨S1x8x16x64, .f32⟩
  | .hbm, ⟨110, _⟩ => ⟨S_, .i32⟩
  | .hbm, ⟨111, _⟩ => ⟨S_, .i32⟩
  | .hbm, ⟨112, _⟩ => ⟨S_, .i32⟩
  | .hbm, ⟨113, _⟩ => ⟨S4096x8x16x64, .f32⟩
  | .hbm, ⟨114, _⟩ => ⟨S_, .i32⟩
  | .hbm, ⟨115, _⟩ => ⟨S_, .i32⟩
  | .hbm, ⟨116, _⟩ => ⟨S8x4096x16x64, .f32⟩
  | .hbm, ⟨117, _⟩ => ⟨S8x4096x16x64, .f32⟩
  | .hbm, ⟨118, _⟩ => ⟨S16x8x4096x16, .f32⟩
  | .hbm, ⟨119, _⟩ => ⟨S8x4096x16x16, .f32⟩
  | .hbm, ⟨120, _⟩ => ⟨S16x8x4096x16, .f32⟩
  | .hbm, ⟨121, _⟩ => ⟨S8x4096x16x16, .f32⟩
  | .hbm, ⟨122, _⟩ => ⟨S8x4096x16x16, .f32⟩
  | .hbm, ⟨123, _⟩ => ⟨S8x4096x256, .f32⟩
  | .hbm, ⟨124, _⟩ => ⟨S8x256x4096, .f32⟩
  | .hbm, ⟨125, _⟩ => ⟨S8x256x64x64, .f32⟩
  | _, _ => ⟨S8x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_1 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_2 : Ref sig .tc := ⟨.hbm, 62, rfl⟩
abbrev main_v51 : Ref sig .tc := ⟨.hbm, 63, rfl⟩
abbrev main_cst_3 : Ref sig .tc := ⟨.hbm, 64, rfl⟩
abbrev main_v52 : Ref sig .tc := ⟨.hbm, 65, rfl⟩
abbrev main_c : Ref sig .tc := ⟨.hbm, 66, rfl⟩
abbrev main_v53_0 : Ref sig .tc := ⟨.hbm, 67, rfl⟩
abbrev main_v53_1 : Ref sig .tc := ⟨.hbm, 68, rfl⟩
abbrev main_v53_2 : Ref sig .tc := ⟨.hbm, 69, rfl⟩
abbrev main_v53_3 : Ref sig .tc := ⟨.hbm, 70, rfl⟩
abbrev main_v53_4 : Ref sig .tc := ⟨.hbm, 71, rfl⟩
abbrev main_v53_5 : Ref sig .tc := ⟨.hbm, 72, rfl⟩
abbrev main_v53_6 : Ref sig .tc := ⟨.hbm, 73, rfl⟩
abbrev main_v53_7 : Ref sig .tc := ⟨.hbm, 74, rfl⟩
abbrev main_v53_8 : Ref sig .tc := ⟨.hbm, 75, rfl⟩
abbrev main_while0c_c_12 : Ref sig .tc := ⟨.hbm, 76, rfl⟩
abbrev main_while0c_v64 : Ref sig .tc := ⟨.hbm, 77, rfl⟩
abbrev main_while0b_call0_c : Ref sig .tc := ⟨.hbm, 78, rfl⟩
abbrev main_while0b_call0_c_0 : Ref sig .tc := ⟨.hbm, 79, rfl⟩
abbrev main_while0b_call0_c_1 : Ref sig .tc := ⟨.hbm, 80, rfl⟩
abbrev main_while0b_call0_v0 : Ref sig .tc := ⟨.hbm, 81, rfl⟩
abbrev main_while0b_v64 : Ref sig .tc := ⟨.hbm, 82, rfl⟩
abbrev main_while0b_call1_c : Ref sig .tc := ⟨.hbm, 83, rfl⟩
abbrev main_while0b_call1_c_0 : Ref sig .tc := ⟨.hbm, 84, rfl⟩
abbrev main_while0b_call1_c_1 : Ref sig .tc := ⟨.hbm, 85, rfl⟩
abbrev main_while0b_call1_v0 : Ref sig .tc := ⟨.hbm, 86, rfl⟩
abbrev main_while0b_v65 : Ref sig .tc := ⟨.hbm, 87, rfl⟩
abbrev main_while0b_v66 : Ref sig .tc := ⟨.hbm, 88, rfl⟩
abbrev main_while0b_v67 : Ref sig .tc := ⟨.hbm, 89, rfl⟩
abbrev main_while0b_v68 : Ref sig .tc := ⟨.hbm, 90, rfl⟩
abbrev main_while0b_v69 : Ref sig .tc := ⟨.hbm, 91, rfl⟩
abbrev main_while0b_v70 : Ref sig .tc := ⟨.hbm, 92, rfl⟩
abbrev main_while0b_v71 : Ref sig .tc := ⟨.hbm, 93, rfl⟩
abbrev main_while0b_v72 : Ref sig .tc := ⟨.hbm, 94, rfl⟩
abbrev main_while0b_v73 : Ref sig .tc := ⟨.hbm, 95, rfl⟩
abbrev main_while0b_v74 : Ref sig .tc := ⟨.hbm, 96, rfl⟩
abbrev main_while0b_v75 : Ref sig .tc := ⟨.hbm, 97, rfl⟩
abbrev main_while0b_v76 : Ref sig .tc := ⟨.hbm, 98, rfl⟩
abbrev main_while0b_v77 : Ref sig .tc := ⟨.hbm, 99, rfl⟩
abbrev main_while0b_v78 : Ref sig .tc := ⟨.hbm, 100, rfl⟩
abbrev main_while0b_v79 : Ref sig .tc := ⟨.hbm, 101, rfl⟩
abbrev main_while0b_v80 : Ref sig .tc := ⟨.hbm, 102, rfl⟩
abbrev main_while0b_v81 : Ref sig .tc := ⟨.hbm, 103, rfl⟩
abbrev main_while0b_call2_v0 : Ref sig .tc := ⟨.hbm, 104, rfl⟩
abbrev main_while0b_call2_c : Ref sig .tc := ⟨.hbm, 105, rfl⟩
abbrev main_while0b_call2_c_0 : Ref sig .tc := ⟨.hbm, 106, rfl⟩
abbrev main_while0b_call2_c_1 : Ref sig .tc := ⟨.hbm, 107, rfl⟩
abbrev main_while0b_v82 : Ref sig .tc := ⟨.hbm, 108, rfl⟩
abbrev main_while0b_call3_v0 : Ref sig .tc := ⟨.hbm, 109, rfl⟩
abbrev main_while0b_call3_c : Ref sig .tc := ⟨.hbm, 110, rfl⟩
abbrev main_while0b_call3_c_0 : Ref sig .tc := ⟨.hbm, 111, rfl⟩
abbrev main_while0b_call3_c_1 : Ref sig .tc := ⟨.hbm, 112, rfl⟩
abbrev main_while0b_v83 : Ref sig .tc := ⟨.hbm, 113, rfl⟩
abbrev main_while0b_c_12 : Ref sig .tc := ⟨.hbm, 114, rfl⟩
abbrev main_while0b_v84 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S32768x1024 : Shape := ⟨2, ![32768, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x5632 : Shape := ⟨2, ![1, 5632]⟩
abbrev S1x1024 : Shape := ⟨2, ![1, 1024]⟩
abbrev S512x1024 : Shape := ⟨2, ![512, 1024]⟩
abbrev S8x1024 : Shape := ⟨2, ![8, 1024]⟩
abbrev S1024x1408 : Shape := ⟨2, ![1024, 1408]⟩
abbrev S3x1408 : Shape := ⟨2, ![3, 1408]⟩
abbrev S1x1408 : Shape := ⟨2, ![1, 1408]⟩
abbrev S1408x1024 : Shape := ⟨2, ![1408, 1024]⟩
abbrev S520x1024 : Shape := ⟨2, ![520, 1024]⟩
abbrev S8 : Shape := ⟨1, ![8]⟩
abbrev S8x1 : Shape := ⟨2, ![8, 1]⟩
abbrev S512 : Shape := ⟨1, ![512]⟩
abbrev S512x1 : Shape := ⟨2, ![512, 1]⟩
abbrev S520x1408 : Shape := ⟨2, ![520, 1408]⟩
abbrev S512x1408 : Shape := ⟨2, ![512, 1408]⟩

abbrev nBuf : Space → Nat
  | .hbm => 13
  | .vmem => 24
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1024x5632, .bf16⟩
  | .hbm, ⟨8, _⟩ => ⟨S1x5632, .f32⟩
  | .hbm, ⟨9, _⟩ => ⟨S1x1024, .f32⟩
  | .hbm, ⟨10, _⟩ => ⟨S2816x1024, .bf16⟩
  | .hbm, ⟨11, _⟩ => ⟨S1x1024, .f32⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S1x1024, .f32⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S3x1408, .f32⟩
  | .local _ .vmem, ⟨10, _⟩ => ⟨S3x1408, .f32⟩
  | .local _ .vmem, ⟨11, _⟩ => ⟨S3x1408, .f32⟩
  | .local _ .vmem, ⟨12, _⟩ => ⟨S3x1408, .f32⟩
  | .local _ .vmem, ⟨13, _⟩ => ⟨S1x1408, .f32⟩
  | .local _ .vmem, ⟨14, _⟩ => ⟨S1x1408, .f32⟩
  | .local _ .vmem, ⟨15, _⟩ => ⟨S1x1408, .f32⟩
  | .local _ .vmem, ⟨16, _⟩ => ⟨S1x1408, .f32⟩
  | .local _ .vmem, ⟨17, _⟩ => ⟨S1408x1024, .bf16⟩
  | .local _ .vmem, ⟨18, _⟩ => ⟨S1408x1024, .bf16⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S520x1024, .bf16⟩
  | .local _ .vmem, ⟨23, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32_28 : BitVec 32 := 1#32
  let v75 : BitVec 1 := Scalar.cmpi .eq arg1 c1_i32_28
  let v76 : BitVec 32 := Scalar.extui v75
  let c0_i32_29 : BitVec 32 := 0#32
  let v77 : BitVec 1 := Scalar.cmpi .ne v76 c0_i32_29
  v77

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1408x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference2Ideal.lean ====
abbrev S32768x1024 : Shape := ⟨2, ![32768, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4098x5632 : Shape := ⟨3, ![8, 4098, 5632]⟩
abbrev S1x5632 : Shape := ⟨2, ![1, 5632]⟩
abbrev S1x1x5632 : Shape := ⟨3, ![1, 1, 5632]⟩
abbrev S8x4096x2816 : Shape := ⟨3, ![8, 4096, 2816]⟩

abbrev nBuf : Space → Nat
  | .hbm => 93
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S8x4096x1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S8x4096x5632, .f32⟩
  | .hbm, ⟨25, _⟩ => ⟨S_, .i32⟩
  | .hbm, ⟨26, _⟩ => ⟨S_, .f32⟩
  | .hbm, ⟨27, _⟩ => ⟨S8x4098x5632, .f32⟩
  | .hbm, ⟨28, _⟩ => ⟨S1x5632, .f32⟩
  | .hbm, ⟨29, _⟩ => ⟨S5632, .f32⟩
  | .hbm, ⟨30, _⟩ => ⟨S8x4096x5632, .f32⟩
  | .hbm, ⟨31, _⟩ => ⟨S1x1x5632, .f32⟩
  | .hbm, ⟨32, _⟩ => ⟨S8x4096x5632, .f32⟩
  | .hbm, ⟨33, _⟩ => ⟨S8x4096x5632, .f32⟩
  | .hbm, ⟨34, _⟩ => ⟨S_, .f32⟩
  | .hbm, ⟨35, _⟩ => ⟨S8x4096x5632, .f32⟩
  | .hbm, ⟨36, _⟩ => ⟨S8x4096x5632, .f32⟩
  | .hbm, ⟨37, _⟩ => ⟨S1x5632, .f32⟩
  | .hbm, ⟨38, _⟩ => ⟨S5632, .f32⟩
  | .hbm, ⟨39, _⟩ => ⟨S8x4096x5632, .f32⟩
  | .hbm, ⟨40, _⟩ => ⟨S1x1x5632, .f32⟩
  | .hbm, ⟨41, _⟩ => ⟨S8x4096x5632, .f32⟩
  | .hbm, ⟨42, _⟩ => ⟨S8x4096x5632, .f32⟩
  | .hbm, ⟨43, _⟩ => ⟨S8x4096x5632, .f32⟩
  | .hbm, ⟨44, _⟩ => ⟨S1x5632, .f32⟩
  | .hbm, ⟨45, _⟩ => ⟨S5632, .f32⟩
  | .hbm, ⟨46, _⟩ => ⟨S8x4096x5632, .f32⟩
  | .hbm, ⟨47, _⟩ => ⟨S1x1x5632, .f32⟩
  | .hbm, ⟨48, _⟩ => ⟨S8x4096x5632, .f32⟩
  | .hbm, ⟨49, _⟩ => ⟨S8x4096x5632, .f32⟩
  | .hbm, ⟨50, _⟩ => ⟨S8x4096x5632, .f32⟩
  | .hbm, ⟨51, _⟩ => ⟨S1x1x5632, .f32⟩
  | .hbm, ⟨52, _⟩ => ⟨S8x4096x5632, .f32⟩
  | .hbm, ⟨53, _⟩ => ⟨S8x4096x5632, .f32⟩
  | .hbm, ⟨54, _⟩ => ⟨S8x4096x2816, .f32⟩
  | .hbm, ⟨55, _⟩ => ⟨S8x4096x2816, .f32⟩
  | .hbm, ⟨56, _⟩ => ⟨S8x4096x2816, .f32⟩
  | .hbm, ⟨57, _⟩ => ⟨S8x4096x2816, .f32⟩
  | .hbm, ⟨58, _⟩ => ⟨S_, .f32⟩
  | .hbm, ⟨59, _⟩ => ⟨S8x4096x2816, .f32⟩
  | .hbm, ⟨60, _⟩ => ⟨S8x4096x2816, .f32⟩
  | .hbm, ⟨61, _⟩ => ⟨S8x4096x2816, .f32⟩
  | .hbm, ⟨62, _⟩ => ⟨S_, .f32⟩
  | .hbm, ⟨63, _⟩ => ⟨S8x4096x2816, .f32⟩
  | .hbm, ⟨64, _⟩ => ⟨S8x4096x2816, .f32⟩
  | .hbm, ⟨65, _⟩ => ⟨S8x4096x2816, .f32⟩
  | .hbm, ⟨66, _⟩ => ⟨S_, .f32⟩
  | .hbm, ⟨67, _⟩ => ⟨S8x4096x2816, .f32⟩
  | .hbm, ⟨68, _⟩ => ⟨S8x4096x2816, .f32⟩
  | .hbm, ⟨69, _⟩ => ⟨S_, .f32⟩
  | .hbm, ⟨70, _⟩ => ⟨S8x4096x2816, .f32⟩
  | .hbm, ⟨71, _⟩ => ⟨S8x4096x2816, .f32⟩
  | .hbm, ⟨72, _⟩ => ⟨S8x4096x2816, .f32⟩
  | .hbm, ⟨73, _⟩ => ⟨S8x4096x2816, .f32⟩
  | .hbm, ⟨74, _⟩ => ⟨S8x4096x1024, .f32⟩
  | .hbm, ⟨75, _⟩ => ⟨S8x4096x1024, .f32⟩
  | .hbm, ⟨76, _⟩ => ⟨S_, .f32⟩
  | .hbm, ⟨77, _⟩ => ⟨S8x4096, .f32⟩
  | .hbm, ⟨78, _⟩ => ⟨S8x4096x1, .f32⟩
  | .hbm, ⟨79, _⟩ => ⟨S_, .f32⟩
  | .hbm, ⟨80, _⟩ => ⟨S8x4096x1, .f32⟩
  | .hbm, ⟨81, _⟩ => ⟨S8x4096x1, .f32⟩
  | .hbm, ⟨82, _⟩ => ⟨S_, .f32⟩
  | .hbm, ⟨83, _⟩ => ⟨S8x4096x1, .f32⟩
  | .hbm, ⟨84, _⟩ => ⟨S8x4096x1, .f32⟩
  | .hbm, ⟨85, _⟩ => ⟨S8x4096x1, .f32⟩
  | .hbm, ⟨86, _⟩ => ⟨S8x4096x1024, .f32⟩
  | .hbm, ⟨87, _⟩ => ⟨S8x4096x1024, .f32⟩
  | .hbm, ⟨88, _⟩ => ⟨S1x1x1024, .f32⟩
  | .hbm, ⟨89, _⟩ => ⟨S8x4096x1024, .f32⟩
  | .hbm, ⟨90, _⟩ => ⟨S8x4096x1024, .f32⟩
  | .hbm, ⟨91, _⟩ => ⟨S8x4096x1024, .f32⟩
  | .hbm, ⟨92, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_call0_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_4 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_5 : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_7 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_v62 : Ref sig .tc := ⟨.hbm, 81, rfl⟩
abbrev main_cst_9 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩

abbrev nD : Nat := 1
abbrev τ : Topo := Topo.v7x

variable {F : FTy → Type} [FloatOps F]
-- ==== Kernel3.lean ====
abbrev S32768x1024 : Shape := ⟨2, ![32768, 1024]⟩
abbrev S8x4096x256 : Shape := ⟨3, ![8, 4096, 256]⟩
abbrev S256x1024 : Shape := ⟨2, ![256, 1024]⟩
abbrev S1024 : Shape := ⟨1, ![1024]⟩
abbrev S1024x1024 : Shape := ⟨2, ![1024, 1024]⟩
abbrev S32768x256 : Shape := ⟨2, ![32768, 256]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 10
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S8x4096x256, .f32⟩
  | .hbm, ⟨2, _⟩ => ⟨S256x1024, .f32⟩
  | .hbm, ⟨3, _⟩ => ⟨S1024, .f32⟩
  | .hbm, ⟨4, _⟩ => ⟨S1024x1024, .f32⟩
  | .hbm, ⟨5, _⟩ => ⟨S32768x256, .f32⟩
  | .hbm, ⟨6, _⟩ => ⟨S256x1024, .bf16⟩
  | .hbm, ⟨7, _⟩ => ⟨S1x1024, .f32⟩
  | .hbm, ⟨8, _⟩ => ⟨S1024x1024, .bf16⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S256x1024, .bf16⟩
  | .local _ .vmem, ⟨5, _⟩ => ⟨S1x1024, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S32768x1024 : Shape := ⟨2, ![32768, 1024]⟩
abbrev S8x4096x256 : Shape := ⟨3, ![8, 4096, 256]⟩
abbrev S256x1024 : Shape := ⟨2, ![256, 1024]⟩
abbrev S1024 : Shape := ⟨1, ![1024]⟩
abbrev S1024x1024 : Shape := ⟨2, ![1024, 1024]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x4096x256, .f32⟩
  | .hbm, ⟨2, _⟩ => ⟨S256x1024, .f32⟩
  | .hbm, ⟨3, _⟩ => ⟨S1024, .f32⟩
  | .hbm, ⟨4, _⟩ => ⟨S1024x1024, .f32⟩
  | .hbm, ⟨5, _⟩ => ⟨S8x4096x1024, .f32⟩
  | .hbm, ⟨6, _⟩ => ⟨S8x4096x1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S_, .f32⟩
  | .hbm, ⟨27, _⟩ => ⟨S8x4096x1024, .f32⟩
  | .hbm, ⟨28, _⟩ => ⟨S8x4096x1024, .f32⟩
  | .hbm, ⟨29, _⟩ => ⟨S_, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel4.lean ====
abbrev S8x4096x1024 : Shape := ⟨3, ![8, 4096, 1024]⟩
abbrev S1024 : Shape := ⟨1, ![1024]⟩
abbrev S1024x2834 : Shape := ⟨2, ![1024, 2834]⟩
abbrev S1408 : Shape := ⟨1, ![1408]⟩
abbrev S768x1 : Shape := ⟨2, ![768, 1]⟩
abbrev S1024x1152 : Shape := ⟨2, ![1024, 1152]⟩
abbrev S1024x64 : Shape := ⟨2, ![1024, 64]⟩
abbrev S_ : Shape := ⟨0, ![]⟩
abbrev S1024x128 : Shape := ⟨2, ![1024, 128]⟩
abbrev S1024x1170 : Shape := ⟨2, ![1024, 1170]⟩
abbrev S1024x256 : Shape := ⟨2, ![1024, 256]⟩
abbrev S1024x2176 : Shape := ⟨2, ![1024, 2176]⟩
abbrev S1024x2304 : Shape := ⟨2, ![1024, 2304]⟩
abbrev S1024x9 : Shape := ⟨2, ![1024, 9]⟩
abbrev S1024x7 : Shape := ⟨2, ![1024, 7]⟩
abbrev S1024x1024 : Shape := ⟨2, ![1024, 1024]⟩
abbrev S1024x288 : Shape := ⟨2, ![1024, 288]⟩
abbrev S1024x1312 : Shape := ⟨2, ![1024, 1312]⟩
abbrev S1312x1024 : Shape := ⟨2, ![1312, 1024]⟩
abbrev S1152 : Shape := ⟨1, ![1152]⟩
abbrev S64 : Shape := ⟨1, ![64]⟩
abbrev S128 : Shape := ⟨1, ![128]⟩
abbrev S1536 : Shape := ⟨1, ![1536]⟩
abbrev S1x1536 : Shape := ⟨2, ![1, 1536]⟩
abbrev S1x1024 : Shape := ⟨2, ![1, 1024]⟩
abbrev S8x4096x1536 : Shape := ⟨3, ![8, 4096, 1536]⟩
abbrev S8x256x4096 : Shape := ⟨3, ![8, 256, 4096]⟩
abbrev S8x2x4096x128 : Shape := ⟨4, ![8, 2, 4096, 128]⟩
abbrev S8x768x4096 : Shape := ⟨3, ![8, 768, 4096]⟩
abbrev S8x2x64x4096 : Shape := ⟨4, ![8, 2, 64, 4096]⟩
abbrev S8x32x4096 : Shape := ⟨3, ![8, 32, 4096]⟩
abbrev S1x256x1024 : Shape := ⟨3, ![1, 256, 1024]⟩
abbrev S1x256x1536 : Shape := ⟨3, ![1, 256, 1536]⟩
abbrev S1x256x256 : Shape := ⟨3, ![1, 256, 256]⟩
abbrev S1x2x256x128 : Shape := ⟨4, ![1, 2, 256, 128]⟩
abbrev S1x768x256 : Shape := ⟨3, ![1, 768, 256]⟩
abbrev S1x2x64x256 : Shape := ⟨4, ![1, 2, 64, 256]⟩
abbrev S1x32x256 : Shape := ⟨3, ![1, 32, 256]⟩
abbrev S256x1024 : Shape := ⟨2, ![256, 1024]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S1024x512 : Shape := ⟨2, ![1024, 512]⟩
abbrev S256x512 : Shape := ⟨2, ![256, 512]⟩
abbrev S256x128 : Shape := ⟨2, ![256, 128]⟩
abbrev S1x1x256x128 : Shape := ⟨4, ![1, 1, 256, 128]⟩
abbrev S256x256 : Shape := ⟨2, ![256, 256]⟩
abbrev S1312x256 : Shape := ⟨2, ![1312, 256]⟩
abbrev S768x256 : Shape := ⟨2, ![768, 256]⟩
abbrev S64x256 : Shape := ⟨2, ![64, 256]⟩
abbrev S1x1x64x256 : Shape := ⟨4, ![1, 1, 64, 256]⟩
abbrev S32x256 : Shape := ⟨2, ![32, 256]⟩

abbrev nBuf : Space → Nat
  | .hbm => 88
  | .vmem => 24
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2834, .f32⟩
  | .hbm, ⟨3, _⟩ => ⟨S1408, .f32⟩
  | .hbm, ⟨4, _⟩ => ⟨S768x1, .f32⟩
  | .hbm, ⟨5, _⟩ => ⟨S1024x1152, .f32⟩
  | .hbm, ⟨6, _⟩ => ⟨S1024x64, .f32⟩
  | .hbm, ⟨7, _⟩ => ⟨S_, .f32⟩
  | .hbm, ⟨8, _⟩ => ⟨S1024x64, .f32⟩
  | .hbm, ⟨9, _⟩ => ⟨S1024x64, .f32⟩
  | .hbm, ⟨10, _⟩ => ⟨S_, .f32⟩
  | .hbm, ⟨11, _⟩ => ⟨S1024x64, .f32⟩
  | .hbm, ⟨12, _⟩ => ⟨S1024x128, .f32⟩
  | .hbm, ⟨13, _⟩ => ⟨S1024x1170, .f32⟩
  | .hbm, ⟨14, _⟩ => ⟨S1024x256, .f32⟩
  | .hbm, ⟨15, _⟩ => ⟨S1024x64, .f32⟩
  | .hbm, ⟨16, _⟩ => ⟨S_, .f32⟩
  | .hbm, ⟨17, _⟩ => ⟨S1024x64, .f32⟩
  | .hbm, ⟨18, _⟩ => ⟨S1024x64, .f32⟩
  | .hbm, ⟨19, _⟩ => ⟨S_, .f32⟩
  | .hbm, ⟨20, _⟩ => ⟨S1024x64, .f32⟩
  | .hbm, ⟨21, _⟩ => ⟨S1024x64, .f32⟩
  | .hbm, ⟨22, _⟩ => ⟨S_, .f32⟩
  | .hbm, ⟨23, _⟩ => ⟨S1024x64, .f32⟩
  | .hbm, ⟨24, _⟩ => ⟨S1024x64, .f32⟩
  | .hbm, ⟨25, _⟩ => ⟨S_, .f32⟩
  | .hbm, ⟨26, _⟩ => ⟨S1024x64, .f32⟩
  | .hbm, ⟨27, _⟩ => ⟨S1024x64, .f32⟩
  | .hbm, ⟨28, _⟩ => ⟨S1024x64, .f32⟩
  | .hbm, ⟨29, _⟩ => ⟨S1024x64, .f32⟩
  | .hbm, ⟨30, _⟩ => ⟨S1024x64, .f32⟩
  | .hbm, ⟨31, _⟩ => ⟨S1024x2176, .f32⟩
  | .hbm, ⟨32, _⟩ => ⟨S1024x128, .f32⟩
  | .hbm, ⟨33, _⟩ => ⟨S1024x2304, .f32⟩
  | .hbm, ⟨34, _⟩ => ⟨S1024x2304, .bf16⟩
  | .hbm, ⟨35, _⟩ => ⟨S1024x64, .f32⟩
  | .hbm, ⟨36, _⟩ => ⟨S_, .f32⟩
  | .hbm, ⟨37, _⟩ => ⟨S1024x64, .f32⟩
  | .hbm, ⟨38, _⟩ => ⟨S1024x64, .f32⟩
  | .hbm, ⟨39, _⟩ => ⟨S_, .f32⟩
  | .hbm, ⟨40, _⟩ => ⟨S1024x64, .f32⟩
  | .hbm, ⟨41, _⟩ => ⟨S1024x64, .f32⟩
  | .hbm, ⟨42, _⟩ => ⟨S_, .f32⟩
  | .hbm, ⟨43, _⟩ => ⟨S1024x64, .f32⟩
  | .hbm, ⟨44, _⟩ => ⟨S1024x64, .f32⟩
  | .hbm, ⟨45, _⟩ => ⟨S_, .f32⟩
  | .hbm, ⟨46, _⟩ => ⟨S1024x64, .f32⟩
  | .hbm, ⟨47, _⟩ => ⟨S1024x64, .f32⟩
  | .hbm, ⟨48, _⟩ => ⟨S_, .f32⟩
  | .hbm, ⟨49, _⟩ => ⟨S1024x64, .f32⟩
  | .hbm, ⟨50, _⟩ => ⟨S1024x64, .f32⟩
  | .hbm, ⟨51, _⟩ => ⟨S_, .f32⟩
  | .hbm, ⟨52, _⟩ => ⟨S1024x64, .f32⟩
  | .hbm, ⟨53, _⟩ => ⟨S1024x9, .f32⟩
  | .hbm, ⟨54, _⟩ => ⟨S_, .f32⟩
  | .hbm, ⟨55, _⟩ => ⟨S1024x7, .f32⟩
  | .hbm, ⟨56, _⟩ => ⟨S1024x9, .f32⟩
  | .hbm, ⟨57, _⟩ => ⟨S_, .f32⟩
  | .hbm, ⟨58, _⟩ => ⟨S1024x7, .f32⟩
  | .hbm, ⟨59, _⟩ => ⟨S1024x64, .f32⟩
  | .hbm, ⟨60, _⟩ => ⟨S1024x64, .f32⟩
  | .hbm, ⟨61, _⟩ => ⟨S1024x64, .f32⟩
  | .hbm, ⟨62, _⟩ => ⟨S1024x64, .f32⟩
  | .hbm, ⟨63, _⟩ => ⟨S1024x1024, .f32⟩
  | .hbm, ⟨64, _⟩ => ⟨S1024x288, .f32⟩
  | .hbm, ⟨65, _⟩ => ⟨S1024x1312, .f32⟩
  | .hbm, ⟨66, _⟩ => ⟨S1312x1024, .f32⟩
  | .hbm, ⟨67, _⟩ => ⟨S1312x1024, .bf16⟩
  | .hbm, ⟨68, _⟩ => ⟨S1152, .f32⟩
  | .hbm, ⟨69, _⟩ => ⟨S64, .f32⟩
  | .hbm, ⟨70, _⟩ => ⟨S_, .f32⟩
  | .hbm, ⟨71, _⟩ => ⟨S64, .f32⟩
  | .hbm, ⟨72, _⟩ => ⟨S64, .f32⟩
  | .hbm, ⟨73, _⟩ => ⟨S_, .f32⟩
  | .hbm, ⟨74, _⟩ => ⟨S64, .f32⟩
  | .hbm, ⟨75, _⟩ => ⟨S128, .f32⟩
  | .hbm, ⟨76, _⟩ => ⟨S1536, .f32⟩
  | .hbm, ⟨77, _⟩ => ⟨S1x1536, .f32⟩
  | .hbm, ⟨78, _⟩ => ⟨S1x1024, .f32⟩
  | .hbm, ⟨79, _⟩ => ⟨S8x4096x1536, .f32⟩
  | .hbm, ⟨80, _⟩ => ⟨S8x256x4096, .f32⟩
  | .hbm, ⟨81, _⟩ => ⟨S8x2x4096x128, .bf16⟩
  | .hbm, ⟨82, _⟩ => ⟨S8x2x4096x128, .bf16⟩
  | .hbm, ⟨83, _⟩ => ⟨S8x2x4096x128, .bf16⟩
  | .hbm, ⟨84, _⟩ => ⟨S8x768x4096, .bf16⟩
  | .hbm, ⟨85, _⟩ => ⟨S8x2x64x4096, .bf16⟩
  | .hbm, ⟨86, _⟩ => ⟨S8x2x64x4096, .bf16⟩
  | .hbm, ⟨87, _⟩ => ⟨S8x32x4096, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x2304, .bf16⟩
  | .local _ .vmem, ⟨4, _⟩ => ⟨S1312x1024, .bf16⟩
  | .local _ .vmem, ⟨5, _⟩ => ⟨S768x1, .f32⟩
  | .local _ .vmem, ⟨6, _⟩ => ⟨S1x256x1536, .f32⟩
  | .local _ .vmem, ⟨7, _⟩ => ⟨S1x256x1536, .f32⟩
  | .local _ .vmem, ⟨8, _⟩ => ⟨S1x256x256, .f32⟩
  | .local _ .vmem, ⟨9, _⟩ => ⟨S1x256x256, .f32⟩
  | .local _ .vmem, ⟨10, _⟩ => ⟨S1x2x256x128, .bf16⟩
  | .local _ .vmem, ⟨11, _⟩ => ⟨S1x2x256x128, .bf16⟩
  | .local _ .vmem, ⟨12, _⟩ => ⟨S1x2x256x128, .bf16⟩
  | .local _ .vmem, ⟨13, _⟩ => ⟨S1x2x256x128, .bf16⟩
  | .local _ .vmem, ⟨14, _⟩ => ⟨S1x2x256x128, .bf16⟩
  | .local _ .vmem, ⟨15, _⟩ => ⟨S1x2x256x128, .bf16⟩
  | .local _ .vmem, ⟨16, _⟩ => ⟨S1x768x256, .bf16⟩
  | .local _ .vmem, ⟨17, _⟩ => ⟨S1x768x256, .bf16⟩
  | .local _ .vmem, ⟨18, _⟩ => ⟨S1x2x64x256, .bf16⟩
  | .local _ .vmem, ⟨19, _⟩ => ⟨S1x2x64x256, .bf16⟩
  | .local _ .vmem, ⟨20, _⟩ => ⟨S1x2x64x256, .bf16⟩
  | .local _ .vmem, ⟨21, _⟩ => ⟨S1x2x64x256, .bf16⟩
  | .local _ .vmem, ⟨22, _⟩ => ⟨S1x32x256, .f32⟩
  | .local _ .vmem, ⟨23, _⟩ => ⟨S1x32x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_cst_10 : Ref sig .tc := ⟨.hbm, 48, rfl⟩
abbrev main_v33 : Ref sig .tc := ⟨.hbm, 49, rfl⟩
abbrev main_v34 : Ref sig .tc := ⟨.hbm, 50, rfl⟩
abbrev main_cst_11 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_cst_13 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_14 : Ref sig .tc := ⟨.hbm, 70, rfl⟩
abbrev main_v51 : Ref sig .tc := ⟨.hbm, 71, rfl⟩
abbrev main_v52 : Ref sig .tc := ⟨.hbm, 72, rfl⟩
abbrev main_cst_15 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58_0 : Ref sig .tc := ⟨.hbm, 79, rfl⟩
abbrev main_v58_1 : Ref sig .tc := ⟨.hbm, 80, rfl⟩
abbrev main_v58_2 : Ref sig .tc := ⟨.hbm, 81, rfl⟩
abbrev main_v58_3 : Ref sig .tc := ⟨.hbm, 82, rfl⟩
abbrev main_v58_4 : Ref sig .tc := ⟨.hbm, 83, rfl⟩
abbrev main_v58_5 : Ref sig .tc := ⟨.hbm, 84, rfl⟩
abbrev main_v58_6 : Ref sig .tc := ⟨.hbm, 85, rfl⟩
abbrev main_v58_7 : Ref sig .tc := ⟨.hbm, 86, rfl⟩
abbrev main_v58_8 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1312x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x768x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x64x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x64x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x32x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference4Ideal.lean ====
abbrev S8x4096x1024 : Shape := ⟨3, ![8, 4096, 1024]⟩
abbrev S1024 : Shape := ⟨1, ![1024]⟩
abbrev S1024x2834 : Shape := ⟨2, ![1024, 2834]⟩
abbrev S1408 : Shape := ⟨1, ![1408]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2834 : Shape := ⟨3, ![8, 4096, 2834]⟩
abbrev S8x4096x1408 : Shape := ⟨3, ![8, 4096, 1408]⟩
abbrev S8x4096x1170 : Shape := ⟨3, ![8, 4096, 1170]⟩
abbrev S8x4096x256 : Shape := ⟨3, ![8, 4096, 256]⟩
abbrev S8x4096x1152 : Shape := ⟨3, ![8, 4096, 1152]⟩
abbrev S8x4096x64 : Shape := ⟨3, ![8, 4096, 64]⟩
abbrev S8x4096x128 : Shape := ⟨3, ![8, 4096, 128]⟩
abbrev S8x4096x1536 : Shape := ⟨3, ![8, 4096, 1536]⟩
abbrev S8x4096x384 : Shape := ⟨3, ![8, 4096, 384]⟩
abbrev S8x4096x18 : Shape := ⟨3, ![8, 4096, 18]⟩
abbrev S8x4096x2x64 : Shape := ⟨4, ![8, 4096, 2, 64]⟩
abbrev S8x2x4096x64 : Shape := ⟨4, ![8, 2, 4096, 64]⟩
abbrev S8x2x4096x128 : Shape := ⟨4, ![8, 2, 4096, 128]⟩
abbrev S8x2x64x4096 : Shape := ⟨4, ![8, 2, 64, 4096]⟩
abbrev S8x4096x7 : Shape := ⟨3, ![8, 4096, 7]⟩
abbrev S8x4096x9 : Shape := ⟨3, ![8, 4096, 9]⟩
abbrev S8x4096x32 : Shape := ⟨3, ![8, 4096, 32]⟩
abbrev S8x32x4096 : Shape := ⟨3, ![8, 32, 4096]⟩
abbrev S8x256x4096 : Shape := ⟨3, ![8, 256, 4096]⟩

abbrev nBuf : Space → Nat
  | .hbm => 60
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2834, .f32⟩
  | .hbm, ⟨3, _⟩ => ⟨S1408, .f32⟩
  | .hbm, ⟨4, _⟩ => ⟨S8x4096x1024, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x1024, .f32⟩
  | .hbm, ⟨16, _⟩ => ⟨S8x4096x1024, .f32⟩
  | .hbm, ⟨17, _⟩ => ⟨S1x1x1024, .f32⟩
  | .hbm, ⟨18, _⟩ => ⟨S8x4096x1024, .f32⟩
  | .hbm, ⟨19, _⟩ => ⟨S8x4096x1024, .f32⟩
  | .hbm, ⟨20, _⟩ => ⟨S8x4096x2834, .f32⟩
  | .hbm, ⟨21, _⟩ => ⟨S8x4096x1408, .f32⟩
  | .hbm, ⟨22, _⟩ => ⟨S8x4096x1170, .f32⟩
  | .hbm, ⟨23, _⟩ => ⟨S8x4096x256, .f32⟩
  | .hbm, ⟨24, _⟩ => ⟨S8x4096x1152, .f32⟩
  | .hbm, ⟨25, _⟩ => ⟨S8x4096x64, .f32⟩
  | .hbm, ⟨26, _⟩ => ⟨S8x4096x64, .f32⟩
  | .hbm, ⟨27, _⟩ => ⟨S8x4096x128, .f32⟩
  | .hbm, ⟨28, _⟩ => ⟨S_, .f32⟩
  | .hbm, ⟨29, _⟩ => ⟨S8x4096x64, .f32⟩
  | .hbm, ⟨30, _⟩ => ⟨S8x4096x1536, .f32⟩
  | .hbm, ⟨31, _⟩ => ⟨S8x4096x384, .f32⟩
  | .hbm, ⟨32, _⟩ => ⟨S8x4096x128, .f32⟩
  | .hbm, ⟨33, _⟩ => ⟨S8x4096x128, .f32⟩
  | .hbm, ⟨34, _⟩ => ⟨S8x4096x128, .f32⟩
  | .hbm, ⟨35, _⟩ => ⟨S8x4096x128, .f32⟩
  | .hbm, ⟨36, _⟩ => ⟨S8x4096x128, .f32⟩
  | .hbm, ⟨37, _⟩ => ⟨S8x4096x128, .f32⟩
  | .hbm, ⟨38, _⟩ => ⟨S8x4096x18, .f32⟩
  | .hbm, ⟨39, _⟩ => ⟨S8x4096x2x64, .f32⟩
  | .hbm, ⟨40, _⟩ => ⟨S8x2x4096x64, .f32⟩
  | .hbm, ⟨41, _⟩ => ⟨S8x4096x2x64, .f32⟩
  | .hbm, ⟨42, _⟩ => ⟨S8x2x4096x64, .f32⟩
  | .hbm, ⟨43, _⟩ => ⟨S8x4096x2x64, .f32⟩
  | .hbm, ⟨44, _⟩ => ⟨S8x2x4096x64, .f32⟩
  | .hbm, ⟨45, _⟩ => ⟨S8x4096x2x64, .f32⟩
  | .hbm, ⟨46, _⟩ => ⟨S8x2x4096x64, .f32⟩
  | .hbm, ⟨47, _⟩ => ⟨S8x2x4096x128, .f32⟩
  | .hbm, ⟨48, _⟩ => ⟨S8x2x4096x128, .bf16⟩
  | .hbm, ⟨49, _⟩ => ⟨S8x2x64x4096, .f32⟩
  | .hbm, ⟨50, _⟩ => ⟨S8x2x64x4096, .bf16⟩
  | .hbm, ⟨51, _⟩ => ⟨S8x2x64x4096, .f32⟩
  | .hbm, ⟨52, _⟩ => ⟨S8x2x64x4096, .bf16⟩
  | .hbm, ⟨53, _⟩ => ⟨S_, .f32⟩
  | .hbm, ⟨54, _⟩ => ⟨S8x4096x7, .f32⟩
  | .hbm, ⟨55, _⟩ => ⟨S8x4096x9, .f32⟩
  | .hbm, ⟨56, _⟩ => ⟨S8x4096x9, .f32⟩
  | .hbm, ⟨57, _⟩ => ⟨S8x4096x32, .f32⟩
  | .hbm, ⟨58, _⟩ => ⟨S8x32x4096, .f32⟩
  | .hbm, ⟨59, _⟩ => ⟨S8x256x4096, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_3 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩

abbrev nD : Nat := 1
abbrev τ : Topo := Topo.v7x

variable {F : FTy → Type} [FloatOps F]
-- ==== Kernel5.lean ====
abbrev S8x4096x1024 : Shape := ⟨3, ![8, 4096, 1024]⟩
abbrev S8x4096x384 : Shape := ⟨3, ![8, 4096, 384]⟩
abbrev S8x384x4096 : Shape := ⟨3, ![8, 384, 4096]⟩
abbrev S8x4096x256 : Shape := ⟨3, ![8, 4096, 256]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S1x512x384 : Shape := ⟨3, ![1, 512, 384]⟩
abbrev S1x384x512 : Shape := ⟨3, ![1, 384, 512]⟩
abbrev S1x512x256 : Shape := ⟨3, ![1, 512, 256]⟩
abbrev S512x384 : Shape := ⟨2, ![512, 384]⟩
abbrev S384x1024 : Shape := ⟨2, ![384, 1024]⟩
abbrev S512x1024 : Shape := ⟨2, ![512, 1024]⟩
abbrev S384x512 : Shape := ⟨2, ![384, 512]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S8x4096x384, .f32⟩
  | .hbm, ⟨2, _⟩ => ⟨S8x384x4096, .f32⟩
  | .hbm, ⟨3, _⟩ => ⟨S8x4096x256, .f32⟩
  | .hbm, ⟨4, _⟩ => ⟨S1024x1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x384, .f32⟩
  | .local _ .vmem, ⟨3, _⟩ => ⟨S1x512x384, .f32⟩
  | .local _ .vmem, ⟨4, _⟩ => ⟨S1x384x512, .f32⟩
  | .local _ .vmem, ⟨5, _⟩ => ⟨S1x384x512, .f32⟩
  | .local _ .vmem, ⟨6, _⟩ => ⟨S1x512x256, .f32⟩
  | .local _ .vmem, ⟨7, _⟩ => ⟨S1x512x256, .f32⟩
  | .local _ .vmem, ⟨8, _⟩ => ⟨S1024x1024, .bf16⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S8x4096x1024 : Shape := ⟨3, ![8, 4096, 1024]⟩
abbrev S8x4096x384 : Shape := ⟨3, ![8, 4096, 384]⟩
abbrev S8x384x4096 : Shape := ⟨3, ![8, 384, 4096]⟩
abbrev S8x4096x256 : Shape := ⟨3, ![8, 4096, 256]⟩
abbrev S1024x1024 : Shape := ⟨2, ![1024, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x384, .f32⟩
  | .hbm, ⟨2, _⟩ => ⟨S8x384x4096, .f32⟩
  | .hbm, ⟨3, _⟩ => ⟨S8x4096x256, .f32⟩
  | .hbm, ⟨4, _⟩ => ⟨S1024x1024, .f32⟩
  | .hbm, ⟨5, _⟩ => ⟨S1024, .f32⟩
  | .hbm, ⟨6, _⟩ => ⟨S8x4096x384, .f32⟩
  | .hbm, ⟨7, _⟩ => ⟨S8x4096x1024, .f32⟩
  | .hbm, ⟨8, _⟩ => ⟨S8x4096x1024, .f32⟩
  | .hbm, ⟨9, _⟩ => ⟨S8x4096x1024, .f32⟩
  | .hbm, ⟨10, _⟩ => ⟨S_, .f32⟩
  | .hbm, ⟨11, _⟩ => ⟨S8x4096, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1, .f32⟩
  | .hbm, ⟨20, _⟩ => ⟨S8x4096x1024, .f32⟩
  | .hbm, ⟨21, _⟩ => ⟨S8x4096x1024, .f32⟩
  | .hbm, ⟨22, _⟩ => ⟨S1x1x1024, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Kernel6.lean ====
abbrev S8x256x4096 : Shape := ⟨3, ![8, 256, 4096]⟩
abbrev S256 : Shape := ⟨1, ![256]⟩
abbrev S256x512 : Shape := ⟨2, ![256, 512]⟩
abbrev S256x1 : Shape := ⟨2, ![256, 1]⟩
abbrev S8x4096x256 : Shape := ⟨3, ![8, 4096, 256]⟩
abbrev S1x256x1024 : Shape := ⟨3, ![1, 256, 1024]⟩
abbrev S1x1024x256 : Shape := ⟨3, ![1, 1024, 256]⟩
abbrev S256x1024 : Shape := ⟨2, ![256, 1024]⟩
abbrev S1024x512 : Shape := ⟨2, ![1024, 512]⟩
abbrev S1024x256 : Shape := ⟨2, ![1024, 256]⟩

abbrev nBuf : Space → Nat
  | .hbm => 7
  | .vmem => 8
  | .smem => 0
  | _ => 0

abbrev bufTy : (tb : Table) → Fin (tcTables nBuf tb) → BufTy
  | .hbm, ⟨0, _⟩ => ⟨S8x256x4096, .f32⟩
  | .hbm, ⟨1, _⟩ => ⟨S8x256x4096, .f32⟩
  | .hbm, ⟨2, _⟩ => ⟨S256, .f32⟩
  | .hbm, ⟨3, _⟩ => ⟨S256x512, .f32⟩
  | .hbm, ⟨4, _⟩ => ⟨S256x1, .f32⟩
  | .hbm, ⟨5, _⟩ => ⟨S256x512, .bf16⟩
  | .hbm, ⟨6, _⟩ => ⟨S8x4096x256, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S256x1, .f32⟩
  | .local _ .vmem, ⟨5, _⟩ => ⟨S256x512, .bf16⟩
  | .local _ .vmem, ⟨6, _⟩ => ⟨S1x1024x256, .f32⟩
  | .local _ .vmem, ⟨7, _⟩ => ⟨S1x1024x256, .f32⟩
  | _, _ => ⟨S8x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S8x256x4096 : Shape := ⟨3, ![8, 256, 4096]⟩
abbrev S256 : Shape := ⟨1, ![256]⟩
abbrev S256x512 : Shape := ⟨2, ![256, 512]⟩
abbrev S8x4096x256 : Shape := ⟨3, ![8, 4096, 256]⟩
abbrev S1x1x256 : Shape := ⟨3, ![1, 1, 256]⟩
abbrev S_ : Shape := ⟨0, ![]⟩
abbrev S8x4096x512 : Shape := ⟨3, ![8, 4096, 512]⟩

abbrev nBuf : Space → Nat
  | .hbm => 39
  | .vmem => 0
  | .smem => 0
  | _ => 0

abbrev bufTy : (tb : Table) → Fin (tcTables nBuf tb) → BufTy
  | .hbm, ⟨0, _⟩ => ⟨S8x256x4096, .f32⟩
  | .hbm, ⟨1, _⟩ => ⟨S8x256x4096, .f32⟩
  | .hbm, ⟨2, _⟩ => ⟨S256, .f32⟩
  | .hbm, ⟨3, _⟩ => ⟨S256x512, .f32⟩
  | .hbm, ⟨4, _⟩ => ⟨S8x4096x256, .f32⟩
  | .hbm, ⟨5, _⟩ => ⟨S8x4096x256, .f32⟩
  | .hbm, ⟨6, _⟩ => ⟨S1x1x256, .f32⟩
  | .hbm, ⟨7, _⟩ => ⟨S8x4096x256, .f32⟩
  | .hbm, ⟨8, _⟩ => ⟨S8x4096x256, .f32⟩
  | .hbm, ⟨9, _⟩ => ⟨S8x4096x256, .f32⟩
  | .hbm, ⟨10, _⟩ => ⟨S8x4096x256, .f32⟩
  | .hbm, ⟨11, _⟩ => ⟨S8x4096x256, .f32⟩
  | .hbm, ⟨12, _⟩ => ⟨S_, .f32⟩
  | .hbm, ⟨13, _⟩ => ⟨S8x4096x256, .f32⟩
  | .hbm, ⟨14, _⟩ => ⟨S8x4096x256, .f32⟩
  | .hbm, ⟨15, _⟩ => ⟨S8x4096x256, .f32⟩
  | .hbm, ⟨16, _⟩ => ⟨S_, .f32⟩
  | .hbm, ⟨17, _⟩ => ⟨S8x4096x256, .f32⟩
  | .hbm, ⟨18, _⟩ => ⟨S8x4096x256, .f32⟩
  | .hbm, ⟨19, _⟩ => ⟨S8x4096x256, .f32⟩
  | .hbm, ⟨20, _⟩ => ⟨S_, .f32⟩
  | .hbm, ⟨21, _⟩ => ⟨S8x4096x256, .f32⟩
  | .hbm, ⟨22, _⟩ => ⟨S8x4096x256, .f32⟩
  | .hbm, ⟨23, _⟩ => ⟨S_, .f32⟩
  | .hbm, ⟨24, _⟩ => ⟨S8x4096x256, .f32⟩
  | .hbm, ⟨25, _⟩ => ⟨S8x4096x256, .f32⟩
  | .hbm, ⟨26, _⟩ => ⟨S8x4096x256, .f32⟩
  | .hbm, ⟨27, _⟩ => ⟨S8x4096x512, .f32⟩
  | .hbm, ⟨28, _⟩ => ⟨S8x4096x256, .f32⟩
  | .hbm, ⟨29, _⟩ => ⟨S8x4096x256, .f32⟩
  | .hbm, ⟨30, _⟩ => ⟨S8x4096x256, .f32⟩
  | .hbm, ⟨31, _⟩ => ⟨S8x4096x256, .f32⟩
  | .hbm, ⟨32, _⟩ => ⟨S_, .f32⟩
  | .hbm, ⟨33, _⟩ => ⟨S8x4096x256, .f32⟩
  | .hbm, ⟨34, _⟩ => ⟨S8x4096x256, .f32⟩
  | .hbm, ⟨35, _⟩ => ⟨S_, .f32⟩
  | .hbm, ⟨36, _⟩ => ⟨S8x4096x256, .f32⟩
  | .hbm, ⟨37, _⟩ => ⟨S8x4096x256, .f32⟩
  | .hbm, ⟨38, _⟩ => ⟨S8x4096x256, .f32⟩
  | _, _ => ⟨S8x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Proof.S5.Math.lean ====
/- The mathematics of the chunked diagonal state-space scan, over the complex numbers: a linear recurrence
   `s ↦ a s + f` advanced 64 steps at a time, the chunk starts found by a doubling sweep. Nothing here mentions a program. -/
module

public import Idealize.ShloMosaic.PureOps.Ideal
public import Mathlib.Analysis.SpecialFunctions.Exp
public import Mathlib.Analysis.SpecialFunctions.Trigonometric.Basic
public import Mathlib.Analysis.Complex.Trigonometric
public import Mathlib.Tactic.Ring
public import Mathlib.Tactic.LinearCombination

@[expose] public section

noncomputable section

namespace Cert.S5

open Finset

/-- The state after `n` steps of `s ↦ a s + f`, from zero. -/
def state (a : ℂ) (f : ℕ → ℂ) : ℕ → ℂ
  | 0 => 0
  | n + 1 => a * state a f n + f n

/-- `m` more steps: the old state decays by `aᵐ`, and each new input by its age. -/
theorem state_add (a : ℂ) (f : ℕ → ℂ) (n m : ℕ) :
    state a f (n + m) = a ^ m * state a f n + ∑ s ∈ range m, a ^ (m - 1 - s) * f (n + s) := by
  induction m with
  | zero => simp
  | succ m ih =>
    rw [← add_assoc, state, ih, sum_range_succ, mul_add, mul_sum]
    have h : ∑ s ∈ range m, a * (a ^ (m - 1 - s) * f (n + s)) = ∑ s ∈ range m, a ^ (m + 1 - 1 - s) * f (n + s) := by
      refine sum_congr rfl fun s hs => ?_
      have : m + 1 - 1 - s = (m - 1 - s) + 1 := by have := mem_range.mp hs; omega
      rw [this, pow_succ]; ring
    rw [h]; simp [pow_succ]; ring

/-- One level of the doubling sweep: add `q` times the entry `n` places back, where there is one. -/
def sweep (q : ℂ) (n : ℕ) (x : ℕ → ℂ) (k : ℕ) : ℂ := x k + q * (if n ≤ k then x (k - n) else 0)

/-- What a sweep has reached: each entry is the chunk recurrence's state, short of what lies `n` chunks back. -/
def Reached (Q : ℂ) (E : ℕ → ℂ) (n : ℕ) (x : ℕ → ℂ) : Prop :=
  ∀ k, x k = E (k + 1) - (if n ≤ k + 1 then Q ^ n * E (k + 1 - n) else 0)

/-- A level of the sweep doubles the reach. -/
theorem reached_sweep {Q : ℂ} {E : ℕ → ℂ} (h0 : E 0 = 0) {n : ℕ} (hn : 0 < n) {x : ℕ → ℂ} (h : Reached Q E n x) :
    Reached Q E (n + n) (sweep (Q ^ n) n x) := by
  intro k
  unfold sweep
  rw [h k]
  by_cases h1 : n ≤ k
  · rw [if_pos h1, if_pos (by omega), h (k - n)]
    have e1 : k + 1 - n = k - n + 1 := by omega
    by_cases h2 : n + n ≤ k + 1
    · rw [if_pos h2, if_pos (by omega), e1, show k - n + 1 - n = k + 1 - (n + n) by omega, pow_add]; ring
    · rw [if_neg h2, if_neg (by omega), e1]; ring
  · rw [if_neg h1, if_neg (show ¬ n + n ≤ k + 1 by omega)]
    by_cases h3 : n ≤ k + 1
    · rw [if_pos h3, show k + 1 - n = 0 by omega, h0]; ring
    · rw [if_neg h3]; ring

/-- Six levels (reach 1, 2, 4, 8, 16, 32) settle the first 64 entries: entry `k` is the state after `k + 1` chunks. -/
theorem sweeps_eq {Q : ℂ} {E inc : ℕ → ℂ} (h0 : E 0 = 0) (hE : ∀ k, E (k + 1) = Q * E k + inc k) (k : ℕ) (hk : k < 64) :
    sweep (Q ^ 32) 32 (sweep (Q ^ 16) 16 (sweep (Q ^ 8) 8 (sweep (Q ^ 4) 4 (sweep (Q ^ 2) 2 (sweep (Q ^ 1) 1 inc))))) k = E (k + 1) := by
  have b : Reached Q E 1 inc := fun k => by rw [if_pos (by omega), hE k]; simp
  have r := reached_sweep h0 (by decide) (reached_sweep h0 (by decide) (reached_sweep h0 (by decide)
    (reached_sweep h0 (by decide) (reached_sweep h0 (by decide) (reached_sweep h0 (by decide) b)))))
  refine (r k).trans ?_
  by_cases h : 64 ≤ k + 1
  · rw [if_pos h, show k + 1 - (1 + 1 + (1 + 1) + (1 + 1 + (1 + 1)) + (1 + 1 + (1 + 1) + (1 + 1 + (1 + 1))) +
      (1 + 1 + (1 + 1) + (1 + 1 + (1 + 1)) + (1 + 1 + (1 + 1) + (1 + 1 + (1 + 1)))) +
      (1 + 1 + (1 + 1) + (1 + 1 + (1 + 1)) + (1 + 1 + (1 + 1) + (1 + 1 + (1 + 1))) +
      (1 + 1 + (1 + 1) + (1 + 1 + (1 + 1)) + (1 + 1 + (1 + 1) + (1 + 1 + (1 + 1)))))) = 0 by omega, h0]; simp
  · rw [if_neg (by omega)]; simp

/-- The multiple-angle form of a power of `e^(x + iy)`: real part. -/
theorem pow_exp_re (x y : ℝ) (n : ℕ) : (Complex.exp (⟨x, y⟩ : ℂ) ^ n).re = Real.exp (x * n) * Real.cos (y * n) := by
  rw [← Complex.exp_nat_mul, Complex.exp_re]; simp [mul_comm]

/-- … and imaginary part. -/
theorem pow_exp_im (x y : ℝ) (n : ℕ) : (Complex.exp (⟨x, y⟩ : ℂ) ^ n).im = Real.exp (x * n) * Real.sin (y * n) := by
  rw [← Complex.exp_nat_mul, Complex.exp_im]; simp [mul_comm]

/-- The input a state component sees at a step: the channels, each weighed by the component's input coefficient. -/
def drive (B : Fin 16 → ℂ) (u : Fin 16 → ℕ → ℝ) (r : ℕ) : ℂ := ∑ c, B c * (u c r : ℂ)

/-- The chunk recurrence: 64 steps of the state from a chunk's start to the next. -/
theorem state_chunk (a : ℂ) (B : Fin 16 → ℂ) (u : Fin 16 → ℕ → ℝ) (k : ℕ) :
    state a (drive B u) (64 * (k + 1)) = a ^ 64 * state a (drive B u) (64 * k)
      + ∑ c : Fin 16, ∑ s : Fin 64, (u c (64 * k + s) : ℂ) * (a ^ (63 - (s : ℕ)) * B c) := by
  rw [show 64 * (k + 1) = 64 * k + 64 by ring, state_add, sum_comm, ← Fin.sum_univ_eq_sum_range (fun s => a ^ (64 - 1 - s) * drive B u (64 * k + s)) 64]
  congr 1
  refine sum_congr rfl fun s _ => ?_
  rw [drive, mul_sum]
  exact sum_congr rfl fun c _ => by ring

/-- THE CHUNKED READ-OUT. The convolution inside the chunk by the lag table, plus the chunk's start state read through the
    powers of the transition, is the plain read-out of the state after step `64 k + t`. -/
theorem chunk_eq (A C : Fin 64 → ℂ) (B : Fin 64 → Fin 16 → ℂ) (u : Fin 16 → ℕ → ℝ) (k t : ℕ) (ht : t < 64) :
    (∑ c : Fin 16, ∑ s : Fin 64, u c (64 * k + s) * (if (s : ℕ) ≤ t then
        (∑ p, (B p c).re * (C p * A p ^ (t - (s : ℕ))).re) - ∑ p, (B p c).im * (C p * A p ^ (t - (s : ℕ))).im else 0))
      + ((∑ p, (state (A p) (drive (B p) u) (64 * k)).re * (C p * A p ^ (t + 1)).re)
        + ∑ p, (state (A p) (drive (B p) u) (64 * k)).im * -(C p * A p ^ (t + 1)).im)
    = (∑ p, (state (A p) (drive (B p) u) (64 * k + t + 1)).re * (C p).re)
        - ∑ p, (state (A p) (drive (B p) u) (64 * k + t + 1)).im * (C p).im := by
  have hS : ∀ p, state (A p) (drive (B p) u) (64 * k + t + 1) = A p ^ (t + 1) * state (A p) (drive (B p) u) (64 * k)
      + ∑ s : Fin 64, if (s : ℕ) ≤ t then A p ^ (t - (s : ℕ)) * drive (B p) u (64 * k + s) else 0 := by
    intro p
    rw [add_assoc, state_add]
    congr 1
    rw [Fin.sum_univ_eq_sum_range (fun s => if s ≤ t then A p ^ (t - s) * drive (B p) u (64 * k + s) else 0) 64,
      ← sum_filter]
    have : filter (fun s => s ≤ t) (range 64) = range (t + 1) := by ext s; simp; omega
    rw [this]
    exact sum_congr rfl fun s _ => by rw [show t + 1 - 1 - s = t - s by omega]
  have hR : (∑ p, (state (A p) (drive (B p) u) (64 * k + t + 1)).re * (C p).re)
        - ∑ p, (state (A p) (drive (B p) u) (64 * k + t + 1)).im * (C p).im
      = ∑ p, (C p * state (A p) (drive (B p) u) (64 * k + t + 1)).re := by
    rw [← sum_sub_distrib]; exact sum_congr rfl fun p _ => by rw [Complex.mul_re]; ring
  have hL : (∑ p, (state (A p) (drive (B p) u) (64 * k)).re * (C p * A p ^ (t + 1)).re)
        + ∑ p, (state (A p) (drive (B p) u) (64 * k)).im * -(C p * A p ^ (t + 1)).im
      = ∑ p, (C p * (A p ^ (t + 1) * state (A p) (drive (B p) u) (64 * k))).re := by
    rw [← sum_add_distrib]
    exact sum_congr rfl fun p _ => by rw [← mul_assoc, Complex.mul_re (C p * A p ^ (t + 1))]; ring
  rw [hR, hL]
  simp_rw [hS, mul_add, Complex.add_re, sum_add_distrib]
  rw [add_comm]
  congr 1
  have hd : ∀ p, (C p * ∑ s : Fin 64, if (s : ℕ) ≤ t then A p ^ (t - (s : ℕ)) * drive (B p) u (64 * k + s) else 0).re
      = ∑ c : Fin 16, ∑ s : Fin 64, u c (64 * k + s) * (if (s : ℕ) ≤ t then
          (B p c).re * (C p * A p ^ (t - (s : ℕ))).re - (B p c).im * (C p * A p ^ (t - (s : ℕ))).im else 0) := by
    intro p
    rw [mul_sum, Complex.re_sum, sum_comm]
    refine sum_congr rfl fun s _ => ?_
    by_cases hs : (s : ℕ) ≤ t
    · simp only [if_pos hs, drive]
      rw [← mul_assoc, mul_sum, Complex.re_sum]
      refine sum_congr rfl fun c _ => ?_
      rw [← mul_assoc, Complex.re_mul_ofReal, Complex.mul_re]; ring
    · simp [if_neg hs]
  simp_rw [hd]
  symm
  rw [sum_comm]
  refine sum_congr rfl fun c _ => ?_
  rw [sum_comm]
  refine sum_congr rfl fun s _ => ?_
  by_cases hs : (s : ℕ) ≤ t
  · simp only [if_pos hs]; rw [← sum_sub_distrib, mul_sum]
  · simp [if_neg hs]

end Cert.S5

end
-- ==== Proof.S5.Tables.lean ====
/- The host tables of the chunked scan as functions of the layer's parameters, and the buffers that hold them when the
   kernel's grid starts. -/
module

public import proofs.«01_k».proof.Proof.Gen.KernelIdeal.Value
public import Idealize.ShloMosaic.Lib.StableHlo.ReadAt
public import proofs.«01_k».proof.Proof.S5.Math

@[expose] public section

set_option maxRecDepth 16384
set_option maxHeartbeats 4000000

noncomputable section

namespace Cert.S5

open Cert.KernelIdeal Cert.KernelIdeal.Gen Idealize.ShloMosaic Idealize.ShloMosaic.TcCoe Idealize.SL.Sem

/-- A float array of shape `s` over the extended reals. -/
abbrev T (s : Shape) : Type := FVec Ideal s .f32

/-- The seven parameter arrays of the state-space layer. -/
structure Par where
  /-- real part of the transition exponent -/
  lre : T S16x64
  /-- imaginary part of the transition exponent -/
  lim : T S16x64
  /-- logarithm of the step -/
  ldt : T S16
  /-- input matrix, real part -/
  bre : T S16x64x16
  /-- input matrix, imaginary part -/
  bim : T S16x64x16
  /-- output matrix, real part -/
  cre : T S16x16x64
  /-- output matrix, imaginary part -/
  cim : T S16x16x64

variable (P : Par)

/-- The step, one per group. -/
def dt : T S16x1 := broadcastInDim S16x1 ![0] bcast_S16_S16x1_0 (Host.exp P.ldt)

/-- One step's transition, real part. -/
def abRe : T S16x64 :=
  mulf (Host.exp (mulf P.lre (broadcastInDim S16x64 ![0, 1] bcast_S16x1_S16x64_0_1 (dt P))))
    (Host.cos (mulf P.lim (broadcastInDim S16x64 ![0, 1] bcast_S16x1_S16x64_0_1 (dt P))))

/-- One step's transition, imaginary part. -/
def abIm : T S16x64 :=
  mulf (Host.exp (mulf P.lre (broadcastInDim S16x64 ![0, 1] bcast_S16x1_S16x64_0_1 (dt P))))
    (Host.sin (mulf P.lim (broadcastInDim S16x64 ![0, 1] bcast_S16x1_S16x64_0_1 (dt P))))

/-- The squared modulus of the exponent. -/
def den : T S16x64 := addf (mulf P.lre P.lre) (mulf P.lim P.lim)

/-- The constant one over the state. -/
def ones : T S16x64 := broadcastInDim S16x64 ![] bcast_S_S16x64 (constant S_ .f32 0x3F800000#32)

/-- The input factor `(a − 1) / λ`, real part. -/
def fRe : T S16x64 := Host.divf (addf (mulf (subf (abRe P) ones) P.lre) (mulf (abIm P) P.lim)) (den P)

/-- The input factor, imaginary part. -/
def fIm : T S16x64 := Host.divf (subf (mulf (abIm P) P.lre) (mulf (subf (abRe P) ones) P.lim)) (den P)

/-- A state array repeated along the channels. -/
def chan (x : T S16x64) : T S16x64x16 :=
  broadcastInDim S16x64x16 ![0, 1, 2] bcast_S16x64x1_S16x64x16_0_1_2 (broadcastInDim S16x64x1 ![0, 1] bcast_S16x64_S16x64x1_0_1 x)

/-- The discrete input matrix, real part. -/
def bbRe : T S16x64x16 := subf (mulf (chan (fRe P)) P.bre) (mulf (chan (fIm P)) P.bim)

/-- The discrete input matrix, imaginary part. -/
def bbIm : T S16x64x16 := addf (mulf (chan (fRe P)) P.bim) (mulf (chan (fIm P)) P.bre)

/-- An exponent times the step times `τ = 0 … 64`. -/
def angle (x : T S16x64) : T S16x64x65 :=
  mulf (broadcastInDim S16x64x65 ![0, 1, 2] bcast_S16x64x1_S16x64x65_0_1_2
      (mulf (broadcastInDim S16x64x1 ![0, 1] bcast_S16x64_S16x64x1_0_1 x)
        (broadcastInDim S16x64x1 ![0, 1, 2] bcast_S16x1x1_S16x64x1_0_1_2 (broadcastInDim S16x1x1 ![0, 1] bcast_S16x1_S16x1x1_0_1 (dt P)))))
    (broadcastInDim S16x64x65 ![0, 1, 2] bcast_S1x1x65_S16x64x65_0_1_2
      (broadcastInDim S1x1x65 ![2] bcast_S65_S1x1x65_2 (sitofp .f32 (iotaInDim S65 32 0))))

/-- Powers `0 … 64` of the transition, real part. -/
def pwRe : T S16x64x65 := mulf (Host.exp (angle P P.lre)) (Host.cos (angle P P.lim))

/-- Powers of the transition, imaginary part. -/
def pwIm : T S16x64x65 := mulf (Host.exp (angle P P.lre)) (Host.sin (angle P P.lim))

/-- The output matrix repeated along `τ`. -/
def alongTau (x : T S16x16x64) : T S16x16x64x65 :=
  broadcastInDim S16x16x64x65 ![0, 1, 2, 3] bcast_S16x16x64x1_S16x16x64x65_0_1_2_3
    (broadcastInDim S16x16x64x1 ![0, 1, 2] bcast_S16x16x64_S16x16x64x1_0_1_2 x)

/-- The powers repeated along the output channels. -/
def alongOut (x : T S16x64x65) : T S16x16x64x65 :=
  broadcastInDim S16x16x64x65 ![0, 1, 2, 3] bcast_S16x1x64x65_S16x16x64x65_0_1_2_3
    (broadcastInDim S16x1x64x65 ![0, 2, 3] bcast_S16x64x65_S16x1x64x65_0_2_3 x)

/-- Output matrix times powers, real part. -/
def caRe : T S16x16x64x65 := subf (mulf (alongTau P.cre) (alongOut (pwRe P))) (mulf (alongTau P.cim) (alongOut (pwIm P)))

/-- Output matrix times powers, imaginary part. -/
def caIm : T S16x16x64x65 := addf (mulf (alongTau P.cre) (alongOut (pwIm P))) (mulf (alongTau P.cim) (alongOut (pwRe P)))

/-- The contraction over the state of an input matrix with the powers `0 … 63`, as (group, lag, out, in). -/
def overState (b : T S16x64x16) (ca : T S16x16x64x65) : T S16x64x16x16 :=
  transpose S16x64x16x16 [0, 3, 2, 1]
    (Host.dotGeneral dot_S16x64x16_S16x16x64x64_S16x16x16x64_1_2_2_13_0_0 (some .fp32) b
      (extractStridedSlice S16x16x64x64 ![0, 0, 0, 0] ca slices_S16x16x64x65_S16x16x64x64_0_0_0_0))
    transposes_S16x16x16x64_S16x64x16x16_0_3_2_1

/-- The layer's impulse response inside a chunk, by lag. -/
def kern : T S16x64x16x16 := subf (overState (bbRe P) (caRe P)) (overState (bbIm P) (caIm P))

/-- Column minus row. -/
def lag : IVec S64x64 32 :=
  subi (broadcastInDim S64x64 ![0, 1] bcast_S1x64_S64x64_0_1 (broadcastInDim S1x64 ![1] bcast_S64_S1x64_1 (iotaInDim S64 32 0)))
    (broadcastInDim S64x64 ![0, 1] bcast_S64x1_S64x64_0_1 (broadcastInDim S64x1 ![0] bcast_S64_S64x1_0 (iotaInDim S64 32 0)))

/-- The lag, at least zero. -/
def lagPos : IVec S64x64 32 := maxsi lag (broadcastInDim S64x64 ![] bcast_S_S64x64 (constantI S_ 32 0#32))

/-- The lag as a row of the response table. -/
def lagIdx : IVec S64x64x1 32 :=
  broadcastInDim S64x64x1 ![0, 1] bcast_S64x64_S64x64x1_0_1
    (select (cmpi .slt lagPos (broadcastInDim S64x64 ![] bcast_S_S64x64 (constantI S_ 32 0#32)))
      (addi lagPos (broadcastInDim S64x64 ![] bcast_S_S64x64 (constantI S_ 32 64#32))) lagPos)

/-- The response by (group, input position, output position, out, in), zero for a later input. -/
def toep : T S16x64x64x16x16 :=
  select (broadcastInDim S16x64x64x16x16 ![0, 1, 2, 3, 4] bcast_S1x64x64x1x1_S16x64x64x16x16_0_1_2_3_4
      (broadcastInDim S1x64x64x1x1 ![1, 2] bcast_S64x64_S1x64x64x1x1_1_2
        (cmpi .sge lag (broadcastInDim S64x64 ![] bcast_S_S64x64 (constantI S_ 32 0#32)))))
    (Host.gather gather_S16x64x16x16_S64x64x1_S16x64x64x16x16_034_1_n_n_1_2_1611616 (kern P) lagIdx)
    (broadcastInDim S16x64x64x16x16 ![] bcast_S_S16x64x64x16x16 (constant S_ .f32 0x00000000#32))

/-- The convolution table the kernel reads. -/
def tgTab : T S16x16x64x1024 :=
  fun i => shapeCast S16x16x64x1024 (transpose S16x16x64x16x64 [0, 4, 1, 3, 2] (toep P) transposes_S16x64x64x16x16_S16x16x64x16x64_0_4_1_3_2)
    shapeCasts_S16x16x64x16x64_S16x16x64x1024 i

/-- Position counted from the chunk's end. -/
def rev : IVec S64 32 := subi (broadcastInDim S64 ![] bcast_S_S64 (constantI S_ 32 63#32)) (iotaInDim S64 32 0)

/-- … as a row of the power table. -/
def revIdx : IVec S64x1 32 :=
  broadcastInDim S64x1 ![0] bcast_S64_S64x1_0
    (select (cmpi .slt rev (broadcastInDim S64 ![] bcast_S_S64 (constantI S_ 32 0#32)))
      (addi rev (broadcastInDim S64 ![] bcast_S_S64 (constantI S_ 32 65#32))) rev)

/-- The powers in reversed order, along the input channels. -/
def revPow (x : T S16x64x65) : T S16x64x64x16 :=
  broadcastInDim S16x64x64x16 ![0, 1, 2, 3] bcast_S16x64x64x1_S16x64x64x16_0_1_2_3
    (broadcastInDim S16x64x64x1 ![0, 1, 2] bcast_S16x64x64_S16x64x64x1_0_1_2
      (Host.gather gather_S16x64x65_S64x1_S16x64x64_01_2_n_n_2_1_16641 x revIdx))

/-- The input matrix along the chunk. -/
def alongPos (x : T S16x64x16) : T S16x64x64x16 :=
  broadcastInDim S16x64x64x16 ![0, 1, 2, 3] bcast_S16x64x1x16_S16x64x64x16_0_1_2_3
    (broadcastInDim S16x64x1x16 ![0, 1, 3] bcast_S16x64x16_S16x64x1x16_0_1_3 x)

/-- What an input contributes to the chunk's end state, real part. -/
def beRe : T S16x64x64x16 := subf (mulf (revPow (pwRe P)) (alongPos (bbRe P))) (mulf (revPow (pwIm P)) (alongPos (bbIm P)))

/-- … imaginary part. -/
def beIm : T S16x64x64x16 := addf (mulf (revPow (pwRe P)) (alongPos (bbIm P))) (mulf (revPow (pwIm P)) (alongPos (bbRe P)))

/-- The end-state table: real parts, then imaginary parts. -/
def bendTab : T S16x16x64x128 :=
  concatenate S16x16x64x128 3
    [⟨S16x16x64x64, transpose S16x16x64x64 [0, 3, 2, 1] (beRe P) transposes_S16x64x64x16_S16x16x64x64_0_3_2_1⟩,
     ⟨S16x16x64x64, transpose S16x16x64x64 [0, 3, 2, 1] (beIm P) transposes_S16x64x64x16_S16x16x64x64_0_3_2_1⟩]
    concatenates_S16x16x64x64_S16x16x64x64_S16x16x64x128_d3

/-- Powers `1 … 64`, as (group, state, out, position). -/
def shifted (x : T S16x16x64x65) : T S16x64x16x64 :=
  transpose S16x64x16x64 [0, 2, 1, 3] (extractStridedSlice S16x16x64x64 ![0, 0, 0, 1] x slices_S16x16x64x65_S16x16x64x64_0_0_0_1)
    transposes_S16x16x64x64_S16x64x16x64_0_2_1_3

/-- The read-out table of the chunk's start state. -/
def cpowTab : T S16x128x1024 :=
  fun i => shapeCast S16x128x1024
    (concatenate S16x128x16x64 1 [⟨S16x64x16x64, shifted (caRe P)⟩, ⟨S16x64x16x64, Host.negf (shifted (caIm P))⟩]
      concatenates_S16x64x16x64_S16x64x16x64_S16x128x16x64_d1)
    shapeCasts_S16x128x16x64_S16x128x1024 i

/-- `64 · 2 ^ level`. -/
def reach : T S8 :=
  mulf (broadcastInDim S8 ![] bcast_S_S8 (constant S_ .f32 0x42800000#32))
    (Host.powf (broadcastInDim S8 ![] bcast_S_S8 (constant S_ .f32 0x40000000#32)) (sitofp .f32 (iotaInDim S8 32 0)))

/-- An exponent times the step times the level's reach. -/
def levelAngle (x : T S16x64) : T S16x64x8 :=
  mulf (broadcastInDim S16x64x8 ![0, 1, 2] bcast_S16x64x1_S16x64x8_0_1_2
      (mulf (broadcastInDim S16x64x1 ![0, 1] bcast_S16x64_S16x64x1_0_1 x)
        (broadcastInDim S16x64x1 ![0, 1, 2] bcast_S16x1x1_S16x64x1_0_1_2 (broadcastInDim S16x1x1 ![0, 1] bcast_S16x1_S16x1x1_0_1 (dt P)))))
    (broadcastInDim S16x64x8 ![0, 1, 2] bcast_S1x1x8_S16x64x8_0_1_2 (broadcastInDim S1x1x8 ![2] bcast_S8_S1x1x8_2 reach))

/-- The level's transition, real part. -/
def qRe : T S16x8x64 :=
  transpose S16x8x64 [0, 2, 1] (mulf (Host.exp (levelAngle P P.lre)) (Host.cos (levelAngle P P.lim))) transposes_S16x64x8_S16x8x64_0_2_1

/-- The level's transition, imaginary part. -/
def qIm : T S16x8x64 :=
  transpose S16x8x64 [0, 2, 1] (mulf (Host.exp (levelAngle P P.lre)) (Host.sin (levelAngle P P.lim))) transposes_S16x64x8_S16x8x64_0_2_1

/-- Two state rows side by side. -/
def side (x y : T S16x8x64) : T S16x8x1x128 :=
  broadcastInDim S16x8x1x128 ![0, 1, 3] bcast_S16x8x128_S16x8x1x128_0_1_3
    (concatenate S16x8x128 2 [⟨S16x8x64, x⟩, ⟨S16x8x64, y⟩] concatenates_S16x8x64_S16x8x64_S16x8x128_d2)

/-- The sweep's coefficients by level. -/
def apowTab : T S16x8x2x128 :=
  concatenate S16x8x2x128 2 [⟨S16x8x1x128, side (qRe P) (qRe P)⟩, ⟨S16x8x1x128, side (Host.negf (qIm P)) (qIm P)⟩]
    concatenates_S16x8x1x128_S16x8x1x128_S16x8x2x128_d2

/-- The parameters a memory holds on a device. -/
def par (m : (ℓ : Loc nD τ sig) → Buf (Elt Ideal) ℓ) (c : Dev nD) : Par where
  lre := m ((c : Thread nD τ).loc main_arg1)
  lim := m ((c : Thread nD τ).loc main_arg2)
  ldt := m ((c : Thread nD τ).loc main_arg3)
  bre := m ((c : Thread nD τ).loc main_arg4)
  bim := m ((c : Thread nD τ).loc main_arg5)
  cre := m ((c : Thread nD τ).loc main_arg6)
  cim := m ((c : Thread nD τ).loc main_arg7)

variable (m : (ℓ : Loc nD τ sig) → Buf (Elt Ideal) ℓ) (c : Dev nD)

/-- The grid starts with the sweep's coefficients in the fifth window's array. -/
theorem V_apow : V m c main_v193 = apowTab (par m c) := by
  unfold V
  simp only [List.flatten_cons, List.flatten_nil, List.append_nil]
  after_reads_simp
  rfl

/-- … the convolution table in the second's, … -/
theorem V_tg : V m c main_v194 = truncf .bf16 (tgTab (par m c)) bitsLt_bf16_f32 := by
  unfold V
  simp only [List.flatten_cons, List.flatten_nil, List.append_nil]
  after_reads_simp
  simp -implicitDefEqProofs only [StableHlo.TRef.toBuf, StableHlo.TRef.ofBuf, cast_cast, cast_eq, id_eq]
  simp only [tgTab, toep, kern, overState, caRe, caIm, alongTau, alongOut, pwRe, pwIm, angle, bbRe, bbIm, chan, fRe, fIm, ones, den,
    abRe, abIm, dt, lagIdx, lagPos, lag, par]
  congr 3

/-- … the end-state table in the third's, … -/
theorem V_bend : V m c main_v195 = truncf .bf16 (bendTab (par m c)) bitsLt_bf16_f32 := by
  unfold V
  simp only [List.flatten_cons, List.flatten_nil, List.append_nil]
  after_reads_simp
  rfl

/-- … the read-out table in the fourth's, … -/
theorem V_cpow : V m c main_v196 = truncf .bf16 (cpowTab (par m c)) bitsLt_bf16_f32 := by
  unfold V
  simp only [List.flatten_cons, List.flatten_nil, List.append_nil]
  after_reads_simp
  rfl

/-- … and the input, its positions split into chunks, in the first's. -/
theorem V_u : V m c main_v197 = fun i => shapeCast S8x256x64x64 (m ((c : Thread nD τ).loc main_arg0)) shapeCasts_S8x256x4096_S8x256x64x64 i := by
  unfold V
  simp only [List.flatten_cons, List.flatten_nil, List.append_nil]
  after_reads_simp
  rfl

end Cert.S5

end
-- ==== Proof.S5.Values.lean ====
/- The tables of the chunked scan, entry by entry, when the parameters are real numbers: each entry is the real or
   imaginary part of a power of the transition, weighed by the discrete input matrix or the output matrix. -/
module

public import proofs.«01_k».proof.Proof.S5.Tables
public import Idealize.ShloMosaic.Lib.Claim
public import Idealize.ShloMosaic.Lib.Pointwise
public import Idealize.ShloMosaic.Lib.IdealHost

@[expose] public section

set_option maxRecDepth 16384

noncomputable section

namespace Cert.S5

open Cert.KernelIdeal Cert.KernelIdeal.Gen Idealize.ShloMosaic Idealize.ShloMosaic.TcCoe Idealize.SL.Sem

/-- Real parameters of the layer, no transition exponent zero. -/
structure RPar where
  /-- real part of the transition exponent -/
  lre : Fin 16 → Fin 64 → ℝ
  /-- imaginary part of the transition exponent -/
  lim : Fin 16 → Fin 64 → ℝ
  /-- logarithm of the step -/
  ldt : Fin 16 → ℝ
  /-- input matrix, real part -/
  bre : Fin 16 → Fin 64 → Fin 16 → ℝ
  /-- input matrix, imaginary part -/
  bim : Fin 16 → Fin 64 → Fin 16 → ℝ
  /-- output matrix, real part -/
  cre : Fin 16 → Fin 16 → Fin 64 → ℝ
  /-- output matrix, imaginary part -/
  cim : Fin 16 → Fin 16 → Fin 64 → ℝ
  /-- the exponents are not zero -/
  den_ne : ∀ g p, lre g p * lre g p + lim g p * lim g p ≠ 0

namespace RPar

variable (r : RPar)

/-- The parameters as arrays. -/
def toPar : Par where
  lre := fun j => ((r.lre (j 0) (j 1) : ℝ) : EReal)
  lim := fun j => ((r.lim (j 0) (j 1) : ℝ) : EReal)
  ldt := fun j => ((r.ldt (j 0) : ℝ) : EReal)
  bre := fun j => ((r.bre (j 0) (j 1) (j 2) : ℝ) : EReal)
  bim := fun j => ((r.bim (j 0) (j 1) (j 2) : ℝ) : EReal)
  cre := fun j => ((r.cre (j 0) (j 1) (j 2) : ℝ) : EReal)
  cim := fun j => ((r.cim (j 0) (j 1) (j 2) : ℝ) : EReal)

/-- One step's transition. -/
def A (g : Fin 16) (p : Fin 64) : ℂ := Complex.exp ⟨r.lre g p * Real.exp (r.ldt g), r.lim g p * Real.exp (r.ldt g)⟩

/-- The input factor. -/
def f (g : Fin 16) (p : Fin 64) : ℂ :=
  ⟨(((r.A g p).re - 1) * r.lre g p + (r.A g p).im * r.lim g p) * (1 / (r.lre g p * r.lre g p + r.lim g p * r.lim g p)),
   ((r.A g p).im * r.lre g p - ((r.A g p).re - 1) * r.lim g p) * (1 / (r.lre g p * r.lre g p + r.lim g p * r.lim g p))⟩

/-- The discrete input matrix. -/
def B (g : Fin 16) (p : Fin 64) (c : Fin 16) : ℂ := r.f g p * ⟨r.bre g p c, r.bim g p c⟩

/-- The output matrix. -/
def C (g : Fin 16) (o : Fin 16) (p : Fin 64) : ℂ := ⟨r.cre g o p, r.cim g o p⟩

end RPar

variable (r : RPar)

/-- A small natural number as a 32-bit word, read back. -/
theorem toInt_small (n : ℕ) (h : n < 1000) : (BitVec.ofNat 32 n).toInt = n := by
  rw [BitVec.toInt_eq_toNat_of_lt (by rw [BitVec.toNat_ofNat]; omega), BitVec.toNat_ofNat, Nat.mod_eq_of_lt (by omega)]

/-- … as a float. -/
theorem float_small (n : ℕ) (h : n < 1000) : FloatOps.sitofp (F := Ideal) .f32 (BitVec.ofNat 32 n) = ((n : ℝ) : EReal) :=
  (Ideal.scalar_sitofp_def (φ := .f32) (BitVec.ofNat 32 n)).trans (by rw [toInt_small n h]; norm_cast)

theorem lre_at (g : Fin 16) (p : Fin 64) : r.toPar.lre (ix2 g p) = ((r.lre g p : ℝ) : EReal) := rfl
theorem lim_at (g : Fin 16) (p : Fin 64) : r.toPar.lim (ix2 g p) = ((r.lim g p : ℝ) : EReal) := rfl
theorem bre_at (g : Fin 16) (p : Fin 64) (c : Fin 16) : r.toPar.bre (ix3 g p c) = ((r.bre g p c : ℝ) : EReal) := rfl
theorem bim_at (g : Fin 16) (p : Fin 64) (c : Fin 16) : r.toPar.bim (ix3 g p c) = ((r.bim g p c : ℝ) : EReal) := rfl
theorem cre_at (g o : Fin 16) (p : Fin 64) : r.toPar.cre (ix3 g o p) = ((r.cre g o p : ℝ) : EReal) := rfl
theorem cim_at (g o : Fin 16) (p : Fin 64) : r.toPar.cim (ix3 g o p) = ((r.cim g o p : ℝ) : EReal) := rfl

/-- The step is the exponential of its logarithm. -/
theorem dt_at (g : Fin 16) (z : Fin 1) : dt r.toPar (ix2 g z) = ((Real.exp (r.ldt g) : ℝ) : EReal) := by
  pointwise [dt, RPar.toPar]
  try rfl

/-- One step's transition. -/
theorem abRe_at (g : Fin 16) (p : Fin 64) : abRe r.toPar (ix2 g p) = (((r.A g p).re : ℝ) : EReal) := by
  pointwise [abRe, dt_at, lre_at, lim_at]
  simp only [← EReal.coe_mul, Ideal.exp_coe, Ideal.cos_coe, RPar.A, Complex.exp_re]

theorem abIm_at (g : Fin 16) (p : Fin 64) : abIm r.toPar (ix2 g p) = (((r.A g p).im : ℝ) : EReal) := by
  pointwise [abIm, dt_at, lre_at, lim_at]
  simp only [← EReal.coe_mul, Ideal.exp_coe, Ideal.sin_coe, RPar.A, Complex.exp_im]

theorem fRe_at (g : Fin 16) (p : Fin 64) : fRe r.toPar (ix2 g p) = (((r.f g p).re : ℝ) : EReal) := by
  pointwise [fRe, den, ones, abRe_at, abIm_at, lre_at, lim_at]
  rw [← EReal.coe_one]
  simp only [← EReal.coe_mul, ← EReal.coe_add, ← EReal.coe_sub, Ideal.div_coe (r.den_ne g p), RPar.f]

theorem fIm_at (g : Fin 16) (p : Fin 64) : fIm r.toPar (ix2 g p) = (((r.f g p).im : ℝ) : EReal) := by
  pointwise [fIm, den, ones, abRe_at, abIm_at, lre_at, lim_at]
  rw [← EReal.coe_one]
  simp only [← EReal.coe_mul, ← EReal.coe_add, ← EReal.coe_sub, Ideal.div_coe (r.den_ne g p), RPar.f]

theorem pwRe_at (g : Fin 16) (p : Fin 64) (t : Fin 65) : pwRe r.toPar (ix3 g p t) = (((r.A g p ^ (t : ℕ)).re : ℝ) : EReal) := by
  pointwise [pwRe, angle, dt_at, lre_at, lim_at]
  rw [float_small _ (by omega), RPar.A, pow_exp_re]
  simp only [← EReal.coe_mul, Ideal.exp_coe, Ideal.cos_coe]

theorem pwIm_at (g : Fin 16) (p : Fin 64) (t : Fin 65) : pwIm r.toPar (ix3 g p t) = (((r.A g p ^ (t : ℕ)).im : ℝ) : EReal) := by
  pointwise [pwIm, angle, dt_at, lre_at, lim_at]
  rw [float_small _ (by omega), RPar.A, pow_exp_im]
  simp only [← EReal.coe_mul, Ideal.exp_coe, Ideal.sin_coe]

theorem bbRe_at (g : Fin 16) (p : Fin 64) (c : Fin 16) : bbRe r.toPar (ix3 g p c) = (((r.B g p c).re : ℝ) : EReal) := by
  pointwise [bbRe, chan, fRe_at, fIm_at, bre_at, bim_at]
  simp only [← EReal.coe_mul, ← EReal.coe_add, ← EReal.coe_sub, RPar.B, Complex.mul_re]

theorem bbIm_at (g : Fin 16) (p : Fin 64) (c : Fin 16) : bbIm r.toPar (ix3 g p c) = (((r.B g p c).im : ℝ) : EReal) := by
  pointwise [bbIm, chan, fRe_at, fIm_at, bre_at, bim_at]
  simp only [← EReal.coe_mul, ← EReal.coe_add, ← EReal.coe_sub, RPar.B, Complex.mul_im]

theorem caRe_at (g o : Fin 16) (p : Fin 64) (t : Fin 65) :
    caRe r.toPar (ix4 g o p t) = (((r.C g o p * r.A g p ^ (t : ℕ)).re : ℝ) : EReal) := by
  pointwise [caRe, alongTau, alongOut, pwRe_at, pwIm_at, cre_at, cim_at]
  simp only [← EReal.coe_mul, ← EReal.coe_add, ← EReal.coe_sub, RPar.C, Complex.mul_re]

theorem caIm_at (g o : Fin 16) (p : Fin 64) (t : Fin 65) :
    caIm r.toPar (ix4 g o p t) = (((r.C g o p * r.A g p ^ (t : ℕ)).im : ℝ) : EReal) := by
  pointwise [caIm, alongTau, alongOut, pwRe_at, pwIm_at, cre_at, cim_at]
  simp only [← EReal.coe_mul, ← EReal.coe_add, ← EReal.coe_sub, RPar.C, Complex.mul_im]

/-- A sum of reals, read in the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The impulse response by lag. -/
theorem kern_at (g : Fin 16) (t : Fin 64) (o i : Fin 16) : kern r.toPar (ix4 g t o i) =
    (((∑ p, (r.B g p i).re * (r.C g o p * r.A g p ^ (t : ℕ)).re) - ∑ p, (r.B g p i).im * (r.C g o p * r.A g p ^ (t : ℕ)).im : ℝ) : EReal) := by
  pointwise [kern, overState, caRe_at, caIm_at, bbRe_at, bbIm_at]
  rw [EReal.coe_sub, coe_sum, coe_sum]
  simp only [EReal.coe_mul]

/-- On an axis read whole, a gather's operand index is the result's own coordinate. -/
theorem operandIdx_kept {s si t : Shape} (d : GatherDims s si t) {w : Nat} (j : t.Idx) (idx : IVec si w) (a : Fin s.rank)
    (h1 : a ∉ d.startIndexMap) (h2 : a ∉ d.operandBatchingDims) :
    ((d.operandIdx j idx a : Fin (s.size a)) : ℕ) = d.offCoord j a := by
  show d.start j idx a + d.batchCoord j a + d.offCoord j a = _
  rw [d.batchCoord_eq_zero _ _ h2, GatherDims.start, dif_neg h1]; omega

/-- On the gathered axis, it is the start index, clamped. -/
theorem operandIdx_gathered {s si t : Shape} (d : GatherDims s si t) {w : Nat} (j : t.Idx) (idx : IVec si w) (a : Fin s.rank)
    (h1 : a ∈ d.startIndexMap) (h2 : a ∉ d.operandBatchingDims) (h3 : a ∉ d.sKept) :
    ((d.operandIdx j idx a : Fin (s.size a)) : ℕ)
      = min (idx (d.siIdx j ⟨d.startIndexMap.idxOf a, List.idxOf_lt_length_iff.2 h1⟩)).toInt.toNat (s.size a - d.sliceSizes a) := by
  show d.start j idx a + d.batchCoord j a + d.offCoord j a = _
  rw [d.batchCoord_eq_zero _ _ h2, d.offCoord_eq_zero _ _ h3, GatherDims.start, dif_pos h1]; omega

/-- The gather of a row of the response table. -/
theorem gather_resp (x : T S16x64x16x16) (idx : IVec S64x64x1 32) (g : Fin 16) (s t : Fin 64) (o i : Fin 16) (n : Fin 64)
    (h : idx (ix3 s t (0 : Fin 1)) = BitVec.ofNat 32 n) :
    Host.gather gather_S16x64x16x16_S64x64x1_S16x64x64x16x16_034_1_n_n_1_2_1611616 x idx (ix5 g s t o i) = x (ix4 g n o i) := by
  unfold Host.gather
  refine congrArg x (funext fun a => Fin.ext ?_)
  have hv : (idx (ix3 s t (0 : Fin 1))).toInt.toNat = n := by rw [h, toInt_small _ (by omega)]; rfl
  match a with
  | ⟨0, _⟩ => exact (operandIdx_kept gather_S16x64x16x16_S64x64x1_S16x64x64x16x16_034_1_n_n_1_2_1611616 _ _ (0 : Fin 4) (by decide) (by decide)).trans rfl
  | ⟨1, _⟩ =>
    refine (operandIdx_gathered gather_S16x64x16x16_S64x64x1_S16x64x64x16x16_034_1_n_n_1_2_1611616 _ _ (1 : Fin 4) (by decide) (by decide) (by decide)).trans ?_
    have e : GatherDims.siIdx gather_S16x64x16x16_S64x64x1_S16x64x64x16x16_034_1_n_n_1_2_1611616 (ix5 g s t o i)
        ⟨List.idxOf (1 : Fin 4) [1], by decide⟩ = ix3 s t (0 : Fin 1) := by
      funext b
      match b with
      | ⟨0, _⟩ => rfl
      | ⟨1, _⟩ => rfl
      | ⟨2, _⟩ => rfl
    refine (congrArg (fun k => min (idx k).toInt.toNat 63) e).trans ?_
    show min (idx (ix3 s t (0 : Fin 1))).toInt.toNat 63 = (n : ℕ)
    omega
  | ⟨2, _⟩ => exact (operandIdx_kept gather_S16x64x16x16_S64x64x1_S16x64x64x16x16_034_1_n_n_1_2_1611616 _ _ (2 : Fin 4) (by decide) (by decide)).trans rfl
  | ⟨3, _⟩ => exact (operandIdx_kept gather_S16x64x16x16_S64x64x1_S16x64x64x16x16_034_1_n_n_1_2_1611616 _ _ (3 : Fin 4) (by decide) (by decide)).trans rfl

/-- The gather of a power. -/
theorem gather_pow (x : T S16x64x65) (idx : IVec S64x1 32) (g : Fin 16) (p s : Fin 64) (n : Fin 65)
    (h : idx (ix2 s (0 : Fin 1)) = BitVec.ofNat 32 n) :
    Host.gather gather_S16x64x65_S64x1_S16x64x64_01_2_n_n_2_1_16641 x idx (ix3 g p s) = x (ix3 g p n) := by
  unfold Host.gather
  refine congrArg x (funext fun a => Fin.ext ?_)
  have hv : (idx (ix2 s (0 : Fin 1))).toInt.toNat = n := by rw [h, toInt_small _ (by omega)]; rfl
  match a with
  | ⟨0, _⟩ => exact (operandIdx_kept gather_S16x64x65_S64x1_S16x64x64_01_2_n_n_2_1_16641 _ _ (0 : Fin 3) (by decide) (by decide)).trans rfl
  | ⟨1, _⟩ => exact (operandIdx_kept gather_S16x64x65_S64x1_S16x64x64_01_2_n_n_2_1_16641 _ _ (1 : Fin 3) (by decide) (by decide)).trans rfl
  | ⟨2, _⟩ =>
    refine (operandIdx_gathered gather_S16x64x65_S64x1_S16x64x64_01_2_n_n_2_1_16641 _ _ (2 : Fin 3) (by decide) (by decide) (by decide)).trans ?_
    have e : GatherDims.siIdx gather_S16x64x65_S64x1_S16x64x64_01_2_n_n_2_1_16641 (ix3 g p s)
        ⟨List.idxOf (2 : Fin 3) [2], by decide⟩ = ix2 s (0 : Fin 1) := by
      funext b
      match b with
      | ⟨0, _⟩ => rfl
      | ⟨1, _⟩ => rfl
    refine (congrArg (fun k => min (idx k).toInt.toNat 64) e).trans ?_
    show min (idx (ix2 s (0 : Fin 1))).toInt.toNat 64 = (n : ℕ)
    omega

theorem lagPos_at (s t : Fin 64) : lagPos (ix2 s t) = BitVec.ofNat 32 ((t : ℕ) - s) := by
  pointwise [lagPos, lag]
  revert s t
  decide +kernel

theorem lagIdx_at (s t : Fin 64) : lagIdx (ix3 s t (0 : Fin 1)) = BitVec.ofNat 32 ((t : ℕ) - s) := by
  pointwise [lagIdx, lagPos_at]
  revert s t
  decide +kernel

/-- The causal mask. -/
theorem causal (s t : Fin 64) :
    IntOp.cmpi CmpIPredicate.sge (IntOp.subi (BitVec.ofNat 32 (t : ℕ)) (BitVec.ofNat 32 (s : ℕ))) 0#32 = (if (s : ℕ) ≤ t then 1#1 else 0#1) := by
  revert s t
  decide +kernel

theorem revIdx_at (s : Fin 64) : revIdx (ix2 s (0 : Fin 1)) = BitVec.ofNat 32 (63 - (s : ℕ)) := by
  pointwise [revIdx, rev]
  revert s
  decide +kernel

/-- The convolution table: the response at the lag, zero for a later input. -/
theorem tgTab_at (g i : Fin 16) (s : Fin 64) (o : Fin 16) (t : Fin 64) : tgTab r.toPar (ix4 g i s ⟨o * 64 + t, by omega⟩) =
    (((if (s : ℕ) ≤ t then (∑ p, (r.B g p i).re * (r.C g o p * r.A g p ^ ((t : ℕ) - s)).re)
        - ∑ p, (r.B g p i).im * (r.C g o p * r.A g p ^ ((t : ℕ) - s)).im else 0 : ℝ)) : EReal) := by
  pointwise [tgTab, toep]
  rw [gather_resp _ _ g s t o i ⟨(t : ℕ) - s, by omega⟩ (lagIdx_at s t), kern_at]
  pointwise [lag]
  rw [causal]
  by_cases h : (s : ℕ) ≤ t
  · rw [if_pos h, if_pos h]; rfl
  · rw [if_neg h, if_neg h, EReal.coe_zero]; rfl

/-- The end-state table: an input's weight in the chunk's end state, real parts, then imaginary parts. -/
theorem bendTab_at (g i : Fin 16) (s : Fin 64) (q : Fin 128) : bendTab r.toPar (ix4 g i s q) =
    ((if h : (q : ℕ) < 64 then (r.A g ⟨q, h⟩ ^ (63 - (s : ℕ)) * r.B g ⟨q, h⟩ i).re
      else (r.A g ⟨q - 64, by omega⟩ ^ (63 - (s : ℕ)) * r.B g ⟨q - 64, by omega⟩ i).im : ℝ) : EReal) := by
  pointwise [bendTab, beRe, beIm, revPow, alongPos, bbRe_at, bbIm_at]
  split
  · rw [gather_pow _ _ g _ s ⟨63 - (s : ℕ), by omega⟩ (revIdx_at s), gather_pow _ _ g _ s ⟨63 - (s : ℕ), by omega⟩ (revIdx_at s),
      pwRe_at, pwIm_at]
    simp only [Ideal.mulf_def, Ideal.subf_def, ← EReal.coe_mul, ← EReal.coe_sub, Complex.mul_re]
  · rw [gather_pow _ _ g _ s ⟨63 - (s : ℕ), by omega⟩ (revIdx_at s), gather_pow _ _ g _ s ⟨63 - (s : ℕ), by omega⟩ (revIdx_at s),
      pwRe_at, pwIm_at]
    simp only [Ideal.mulf_def, Ideal.addf_def, ← EReal.coe_mul, ← EReal.coe_add, Complex.mul_im]

/-- The read-out table: the output matrix times a power, real parts, then imaginary parts negated. -/
theorem cpowTab_at (g : Fin 16) (q : Fin 128) (o : Fin 16) (t : Fin 64) : cpowTab r.toPar (ix3 g q ⟨o * 64 + t, by omega⟩) =
    ((if h : (q : ℕ) < 64 then (r.C g o ⟨q, h⟩ * r.A g ⟨q, h⟩ ^ ((t : ℕ) + 1)).re
      else -(r.C g o ⟨q - 64, by omega⟩ * r.A g ⟨q - 64, by omega⟩ ^ ((t : ℕ) + 1)).im : ℝ) : EReal) := by
  pointwise [cpowTab, shifted, caRe_at, caIm_at]
  split
  · rw [add_comm 1]
  · rw [add_comm 1, EReal.coe_neg]; try rfl

/-- The constant 64. -/
theorem ofBits_64 : Ideal.ofBits .f32 0x42800000#32 = ((64 : ℝ) : EReal) := by
  simp [Ideal.ofBits, Ideal.ieee, -EReal.coe_mul]; norm_num

/-- The constant 2. -/
theorem ofBits_2 : Ideal.ofBits .f32 0x40000000#32 = ((2 : ℝ) : EReal) := by
  simp [Ideal.ofBits, Ideal.ieee, -EReal.coe_mul]; norm_num

/-- `64 · 2 ^ level`, as a number. -/
theorem reach_at (l : Fin 8) : reach (ix1 l) = (((64 * 2 ^ (l : ℕ) : ℕ) : ℝ) : EReal) := by
  pointwise [reach]
  rw [float_small _ (by omega), ofBits_64, ofBits_2, Ideal.pow_coe_coe, ← EReal.coe_mul]
  congr 1
  rw [show Real.rpow 2 ((l : ℕ) : ℝ) = (2 : ℝ) ^ ((l : ℕ) : ℝ) from rfl, Real.rpow_natCast]
  push_cast; rfl

theorem qRe_at (g : Fin 16) (l : Fin 8) (p : Fin 64) : qRe r.toPar (ix3 g l p) = ((((r.A g p ^ 64) ^ 2 ^ (l : ℕ)).re : ℝ) : EReal) := by
  pointwise [qRe, levelAngle, dt_at, lre_at, lim_at, reach_at]
  rw [← pow_mul, RPar.A, pow_exp_re]
  simp only [← EReal.coe_mul, Ideal.exp_coe, Ideal.cos_coe]

theorem qIm_at (g : Fin 16) (l : Fin 8) (p : Fin 64) : qIm r.toPar (ix3 g l p) = ((((r.A g p ^ 64) ^ 2 ^ (l : ℕ)).im : ℝ) : EReal) := by
  pointwise [qIm, levelAngle, dt_at, lre_at, lim_at, reach_at]
  rw [← pow_mul, RPar.A, pow_exp_im]
  simp only [← EReal.coe_mul, Ideal.exp_coe, Ideal.sin_coe]

/-- The sweep's coefficients, first row: the level's transition, real part, twice. -/
theorem apowTab_at0 (g : Fin 16) (l : Fin 8) (q : Fin 128) : apowTab r.toPar (ix4 g l (0 : Fin 2) q) =
    ((((r.A g ⟨q % 64, by omega⟩ ^ 64) ^ 2 ^ (l : ℕ)).re : ℝ) : EReal) := by
  pointwise [apowTab, side, qRe_at, qIm_at]
  split
  · simp only [Nat.mod_eq_of_lt ‹_›]
  · have : (q : ℕ) % 64 = q - 64 := by omega
    simp only [this]

/-- … second row: its imaginary part, negated and not. -/
theorem apowTab_at1 (g : Fin 16) (l : Fin 8) (q : Fin 128) : apowTab r.toPar (ix4 g l (1 : Fin 2) q) =
    ((if h : (q : ℕ) < 64 then -((r.A g ⟨q, h⟩ ^ 64) ^ 2 ^ (l : ℕ)).im
      else ((r.A g ⟨q - 64, by omega⟩ ^ 64) ^ 2 ^ (l : ℕ)).im : ℝ) : EReal) := by
  pointwise [apowTab, side, qRe_at, qIm_at]
  split
  · rw [EReal.coe_neg]; try rfl
  · rfl

variable (u : Fin 8 → Fin 256 → ℕ → ℝ)

/-- The channels of a group of one batch, along time. -/
def grp (b : Fin 8) (g : Fin 16) (ci : Fin 16) (t : ℕ) : ℝ := u b ⟨g * 16 + ci, by omega⟩ t

/-- The state of the recurrence: one complex number per batch, group and state index. -/
def st (b : Fin 8) (g : Fin 16) (p : Fin 64) (n : ℕ) : ℂ := state (r.A g p) (drive (r.B g p) (grp u b g)) n

/-- The layer's output: batch, group, channel, time. -/
def yv (b : Fin 8) (g o : Fin 16) (t : ℕ) : ℝ :=
  (∑ p, (st r u b g p (t + 1)).re * (r.C g o p).re) - ∑ p, (st r u b g p (t + 1)).im * (r.C g o p).im

end Cert.S5

end
-- ==== Proof.S5.Body.lean ====
/- The grid point's computation as a few named operations — one channel's products, one sweep level, the last product —
   and their entries when every operand is real. -/
module

public import proofs.«01_k».proof.Proof.S5.Values
public import Idealize.ShloMosaic.Lib.Pipeline.ValueKit.Tiles

@[expose] public section

set_option maxRecDepth 16384
set_option maxHeartbeats 4000000

noncomputable section

namespace Cert.S5

open Cert.KernelIdeal Cert.KernelIdeal.Gen Idealize.ShloMosaic Idealize.ShloMosaic.TcCoe Idealize.SL.Sem

/-- A bfloat16 array of shape `s` over the extended reals. -/
abbrev Tb (s : Shape) : Type := FVec Ideal s .bf16

/-- A channel's chunks as rows. -/
def rows (u : T S8x1x64x64) : Tb S512x64 :=
  truncf .bf16 (shapeCast S512x64 (shapeCast S8x64x64 u shapeCasts_S8x1x64x64_S8x64x64) shapeCasts_S8x64x64_S512x64) bitsLt_bf16_f32

/-- One input channel's contribution to the convolution. -/
def convTerm (u : T S8x1x64x64) (w : Tb S1x1x64x1024) : T S512x1024 :=
  matmul dot_S512x64_S64x1024_S512x1024_1_0_0_1_n_n none (rows u) (shapeCast S64x1024 w shapeCasts_S1x1x64x1024_S64x1024)
    (constant S512x1024 .f32 0x00000000#32)

/-- One input channel's contribution to the chunks' state increments. -/
def incTerm (u : T S8x1x64x64) (w : Tb S1x1x64x128) : T S512x128 :=
  matmul dot_S512x64_S64x128_S512x128_1_0_0_1_n_n none (rows u) (shapeCast S64x128 w shapeCasts_S1x1x64x128_S64x128)
    (constant S512x128 .f32 0x00000000#32)

/-- Sixteen arrays added from the left. -/
def chain {s : Shape} (f : Fin 16 → T s) : T s :=
  addf (addf (addf (addf (addf (addf (addf (addf (addf (addf (addf (addf (addf (addf (addf (f 0) (f 1)) (f 2)) (f 3)) (f 4)) (f 5)) (f 6)) (f 7))
    (f 8)) (f 9)) (f 10)) (f 11)) (f 12)) (f 13)) (f 14)) (f 15)

/-- The row's chunk number. -/
def chunkNo : IVec S512x1 32 := andi (iota .tc S512x1 32 [0] iota_S512x1_d0_w32) (broadcast S512x1 63#32)

/-- The rows moved down by `n` chunks, zero where no chunk is that far back. -/
def back (n : BitVec 32) (x : T S512x128) : T S512x128 :=
  select (broadcastTo S512x128 (shapeCast S512x1 (cmpi .sge chunkNo (broadcast S512x1 n)) shapeCasts_S512x1_S512x1) broadcasts_S512x1_S512x128)
    (dynamicRotate 0 n none x rotates_S512x128_d0) (broadcast S512x128 (Scalar.ofBits .f32 0x00000000#32))

/-- A row of coefficients repeated along the rows. -/
def coef (a : T S1x1x1x128) : T S512x128 :=
  broadcastTo S512x128 (shapeCast S1x128 a shapeCasts_S1x1x1x128_S1x128) broadcasts_S1x128_S512x128

/-- One sweep level: a complex multiple of the rows `n` chunks back is added, lanes `0 … 63` real and `64 … 127` imaginary. -/
def level (n : BitVec 32) (x : T S512x128) (re im : T S1x1x1x128) : T S512x128 :=
  addf (addf x (mulf (coef re) (back n x))) (mulf (coef im) (dynamicRotate 1 64#32 none (back n x) rotates_S512x128_d1))

/-- The six levels. -/
def levels (x : T S512x128) (re im : Fin 6 → T S1x1x1x128) : T S512x128 :=
  level 32#32 (level 16#32 (level 8#32 (level 4#32 (level 2#32 (level 1#32 x (re 0) (im 0)) (re 1) (im 1)) (re 2) (im 2)) (re 3) (im 3))
    (re 4) (im 4)) (re 5) (im 5)

/-- The response of the chunks' starting states. -/
def respTerm (x : T S512x128) (w : Tb S1x128x1024) : T S512x1024 :=
  matmul dot_S512x128_S128x1024_S512x1024_1_0_0_1_n_n none (truncf .bf16 (back 1#32 x) bitsLt_bf16_f32)
    (shapeCast S128x1024 w shapeCasts_S1x128x1024_S128x1024) (constant S512x1024 .f32 0x00000000#32)

/-- All rows of the result. -/
def yRows (u : Fin 16 → T S8x1x64x64) (w : Fin 16 → Tb S1x1x64x1024) (v : Fin 16 → Tb S1x1x64x128) (re im : Fin 6 → T S1x1x1x128)
    (cp : Tb S1x128x1024) : T S512x1024 :=
  addf (chain fun i => convTerm (u i) (w i)) (respTerm (levels (chain fun i => incTerm (u i) (v i)) re im) cp)

theorem loadsU (ci : Fin 16) : ∀ a, (![0, ci.val, 0, 0] : Fin 4 → ℕ) a + S8x1x64x64.size a ≤ S8x16x64x64.size a := by
  revert ci; decide +kernel
theorem loadsW (ci : Fin 16) : ∀ a, (![0, ci.val, 0, 0] : Fin 4 → ℕ) a + S1x1x64x1024.size a ≤ S1x16x64x1024.size a := by
  revert ci; decide +kernel
theorem loadsV (ci : Fin 16) : ∀ a, (![0, ci.val, 0, 0] : Fin 4 → ℕ) a + S1x1x64x128.size a ≤ S1x16x64x128.size a := by
  revert ci; decide +kernel
theorem loadsA (l : Fin 6) (h : Fin 2) : ∀ a, (![0, l.val, h.val, 0] : Fin 4 → ℕ) a + S1x1x1x128.size a ≤ S1x8x2x128.size a := by
  revert l h; decide +kernel
theorem loadsC : ∀ a, (![0, 0, 0] : Fin 3 → ℕ) a + S1x128x1024.size a ≤ S1x128x1024.size a := by decide +kernel

/-- A channel of the input block. -/
def loadU (x : T S8x16x64x64) (ci : Fin 16) : T S8x1x64x64 :=
  View.ld (Val := Elt Ideal) (e' := .f32) x (Rect.unit (s := S8x16x64x64) ![0, ci.val, 0, 0] S8x1x64x64.size (loadsU ci))
/-- A channel of the convolution table's block. -/
def loadW (x : Tb S1x16x64x1024) (ci : Fin 16) : Tb S1x1x64x1024 :=
  View.ld (Val := Elt Ideal) (e' := .bf16) x (Rect.unit (s := S1x16x64x1024) ![0, ci.val, 0, 0] S1x1x64x1024.size (loadsW ci))
/-- A channel of the increment table's block. -/
def loadV (x : Tb S1x16x64x128) (ci : Fin 16) : Tb S1x1x64x128 :=
  View.ld (Val := Elt Ideal) (e' := .bf16) x (Rect.unit (s := S1x16x64x128) ![0, ci.val, 0, 0] S1x1x64x128.size (loadsV ci))
/-- A level's coefficients. -/
def loadA (x : T S1x8x2x128) (h : Fin 2) (l : Fin 6) : T S1x1x1x128 :=
  View.ld (Val := Elt Ideal) (e' := .f32) x (Rect.unit (s := S1x8x2x128) ![0, l.val, h.val, 0] S1x1x1x128.size (loadsA l h))
/-- The response table's block. -/
def loadC (x : Tb S1x128x1024) : Tb S1x128x1024 :=
  View.ld (Val := Elt Ideal) (e' := .bf16) x (Rect.unit (s := S1x128x1024) ![0, 0, 0] S1x128x1024.size loadsC)

set_option backward.isDefEq.respectTransparency false in
/-- What a grid point computes before it cuts the rows into channels. -/
theorem payload_eq (x0 : T S8x16x64x64) (x1 : Tb S1x16x64x1024) (x2 : Tb S1x16x64x128) (x3 : Tb S1x128x1024) (x4 : T S1x8x2x128) :
    k0_pay66 (F := Ideal) x0 x1 x2 x3 x4 = yRows (loadU x0) (loadW x1) (loadV x2) (loadA x4 0) (loadA x4 1) (loadC x3) := by
  rfl

theorem loadU_at (x : T S8x16x64x64) (ci : Fin 16) (b : Fin 8) (z : Fin 1) (k s : Fin 64) :
    loadU x ci (ix4 b z k s) = x (ix4 b ci k s) := by
  have hz : z = 0 := Subsingleton.elim _ _
  subst hz
  refine View.ld_unit_apply_of (Val := Elt Ideal) (e := .f32) x _ _ _ _ _ fun a => ?_
  fin_cases a
  · exact (Nat.zero_add _).symm
  · rfl
  · exact (Nat.zero_add _).symm
  · exact (Nat.zero_add _).symm

theorem loadW_at (x : Tb S1x16x64x1024) (ci : Fin 16) (z y : Fin 1) (s : Fin 64) (n : Fin 1024) :
    loadW x ci (ix4 z y s n) = x (ix4 z ci s n) := by
  have hz : y = 0 := Subsingleton.elim _ _
  subst hz
  refine View.ld_unit_apply_of (Val := Elt Ideal) (e := .bf16) x _ _ _ _ _ fun a => ?_
  fin_cases a
  · exact (Nat.zero_add _).symm
  · rfl
  · exact (Nat.zero_add _).symm
  · exact (Nat.zero_add _).symm

theorem loadV_at (x : Tb S1x16x64x128) (ci : Fin 16) (z y : Fin 1) (s : Fin 64) (n : Fin 128) :
    loadV x ci (ix4 z y s n) = x (ix4 z ci s n) := by
  have hz : y = 0 := Subsingleton.elim _ _
  subst hz
  refine View.ld_unit_apply_of (Val := Elt Ideal) (e := .bf16) x _ _ _ _ _ fun a => ?_
  fin_cases a
  · exact (Nat.zero_add _).symm
  · rfl
  · exact (Nat.zero_add _).symm
  · exact (Nat.zero_add _).symm

theorem loadA_at (x : T S1x8x2x128) (h : Fin 2) (l : Fin 6) (z y w : Fin 1) (n : Fin 128) :
    loadA x h l (ix4 z y w n) = x (ix4 z ⟨l.val, by omega⟩ h n) := by
  have hz : y = 0 := Subsingleton.elim _ _
  subst hz
  have hw : w = 0 := Subsingleton.elim _ _
  subst hw
  refine View.ld_unit_apply_of (Val := Elt Ideal) (e := .f32) x _ _ _ _ _ fun a => ?_
  fin_cases a
  · exact (Nat.zero_add _).symm
  · rfl
  · rfl
  · exact (Nat.zero_add _).symm

theorem loadC_at (x : Tb S1x128x1024) (z : Fin 1) (q : Fin 128) (n : Fin 1024) : loadC x (ix3 z q n) = x (ix3 z q n) := by
  refine View.ld_unit_apply_of (Val := Elt Ideal) (e := .bf16) x _ _ _ _ _ fun a => ?_
  fin_cases a <;> exact (Nat.zero_add _).symm

/-- The row of a batch's chunk. -/
abbrev rowOf (b : Fin 8) (k : Fin 64) : Fin 512 := ⟨b * 64 + k, by omega⟩

theorem rowDiv (b : Fin 8) (k : Fin 64) (h : (b * 64 + k : ℕ) / 64 < 8) : (⟨(b * 64 + k : ℕ) / 64, h⟩ : Fin 8) = b :=
  Fin.ext (by show (b * 64 + k : ℕ) / 64 = b; omega)
theorem rowMod (b : Fin 8) (k : Fin 64) (h : (b * 64 + k : ℕ) % 64 < 64) : (⟨(b * 64 + k : ℕ) % 64, h⟩ : Fin 64) = k :=
  Fin.ext (by show (b * 64 + k : ℕ) % 64 = k; omega)

theorem convTerm_at (u : T S8x1x64x64) (w : Tb S1x1x64x1024) (b : Fin 8) (k : Fin 64) (n : Fin 1024) :
    convTerm u w (ix2 (rowOf b k) n) = ∑ s : Fin 64, (u (ix4 b 0 k s) : EReal) * w (ix4 0 0 s n) := by
  pointwise [convTerm, rows]
  simp only [rowDiv, rowMod]

theorem incTerm_at (u : T S8x1x64x64) (w : Tb S1x1x64x128) (b : Fin 8) (k : Fin 64) (n : Fin 128) :
    incTerm u w (ix2 (rowOf b k) n) = ∑ s : Fin 64, (u (ix4 b 0 k s) : EReal) * w (ix4 0 0 s n) := by
  pointwise [incTerm, rows]
  simp only [rowDiv, rowMod]

theorem chain_at {s : Shape} (f : Fin 16 → T s) (j : s.Idx) : chain f j = ∑ i, (f i j : EReal) := by
  simp only [chain, Fin.sum_univ_castSucc, Fin.sum_univ_zero, Ideal.addf_def, addf, zero_add]
  rfl

/-- The rows hold, lane by lane, the real and imaginary parts of a chunk-indexed complex array. -/
def Holds (x : T S512x128) (X : Fin 8 → Fin 64 → ℕ → ℂ) : Prop :=
  ∀ (b : Fin 8) (k : Fin 64) (q : Fin 128), x (ix2 (rowOf b k) q)
    = ((if h : (q : ℕ) < 64 then (X b ⟨q, h⟩ k).re else (X b ⟨q - 64, by omega⟩ k).im : ℝ) : EReal)

theorem chunkNo_at (b : Fin 8) (k : Fin 64) (z : Fin 1) : chunkNo (ix2 (rowOf b k) z) = BitVec.ofNat 32 k := by
  pointwise [chunkNo]
  revert b k; decide +kernel

theorem sge_small (k n : Fin 64) : IntOp.cmpi .sge (BitVec.ofNat 32 (k : ℕ)) (BitVec.ofNat 32 (n : ℕ)) = if n ≤ k then 1#1 else 0#1 := by
  revert k n; decide +kernel

theorem back_holds (n : ℕ) (hn : n < 64) (x : T S512x128) (X : Fin 8 → Fin 64 → ℕ → ℂ) (hx : Holds x X) :
    Holds (back (BitVec.ofNat 32 n) x) (fun b p k => if n ≤ k then X b p (k - n) else 0) := by
  intro b k q
  pointwise [back, chunkNo_at]
  rw [sge_small k ⟨n, hn⟩]
  by_cases h : n ≤ (k : ℕ)
  · have e : (⟨((b : ℕ) * 64 + (k : ℕ) + 512 - (BitVec.ofNat 32 n).toNat % 512) % 512, Nat.mod_lt _ (by omega)⟩ : Fin 512)
        = rowOf b ⟨(k : ℕ) - n, by omega⟩ := by
      apply Fin.ext
      show ((b : ℕ) * 64 + (k : ℕ) + 512 - (n % 2 ^ 32) % 512) % 512 = b * 64 + ((k : ℕ) - n)
      omega
    rw [if_pos (show (⟨n, hn⟩ : Fin 64) ≤ k from h), e, hx b _ q]
    simp only [h, if_true]
    rfl
  · rw [if_neg (show ¬ (⟨n, hn⟩ : Fin 64) ≤ k from h)]
    simp only [h, if_false, Complex.zero_re, Complex.zero_im, dite_eq_ite, ite_self, EReal.coe_zero]
    rfl

/-- Sweep coefficients: the real part in both halves; the imaginary part, negated in the first half. -/
structure Coefs (re im : T S1x1x1x128) (Q : Fin 64 → ℂ) : Prop where
  re_at : ∀ q : Fin 128, re (ix4 0 0 0 q) = (((Q ⟨q % 64, Nat.mod_lt _ (by omega)⟩).re : ℝ) : EReal)
  im_at : ∀ q : Fin 128, im (ix4 0 0 0 q) = ((if h : (q : ℕ) < 64 then -(Q ⟨q, h⟩).im else (Q ⟨q - 64, by omega⟩).im : ℝ) : EReal)

theorem level_holds (n : ℕ) (hn : n < 64) (x : T S512x128) (X : Fin 8 → Fin 64 → ℕ → ℂ) (hx : Holds x X) (re im : T S1x1x1x128)
    (Q : Fin 64 → ℂ) (hc : Coefs re im Q) :
    Holds (level (BitVec.ofNat 32 n) x re im) (fun b p => sweep (Q p) n (X b p)) := by
  intro b k q
  have hb := back_holds n hn x X hx
  unfold Holds at hx hb
  pointwise [level, coef, hx, hb, hc.re_at, hc.im_at]
  by_cases h : (q : ℕ) < 64
  · have e1 : ((q : ℕ) + 128 - 64) % 128 = q + 64 := by omega
    have e2 : (q : ℕ) % 64 = q := Nat.mod_eq_of_lt h
    simp only [e1, e2, h, dif_pos, dif_neg (show ¬ (q : ℕ) + 64 < 64 by omega), Nat.add_sub_cancel, ← EReal.coe_mul, ← EReal.coe_add, sweep,
      Complex.add_re, Complex.mul_re]
    congr 1
    ring
  · have e1 : ((q : ℕ) + 128 - 64) % 128 = q - 64 := by omega
    have e2 : (q : ℕ) % 64 = q - 64 := by omega
    simp only [e1, e2, h, dif_neg, not_false_iff, dif_pos (show (q : ℕ) - 64 < 64 by omega), ← EReal.coe_mul, ← EReal.coe_add, sweep,
      Complex.add_im, Complex.mul_im]
    congr 1
    ring

/-- The six levels with the powers of one multiplier: the state at the end of each chunk. -/
theorem levels_holds (x : T S512x128) (inc E : Fin 8 → Fin 64 → ℕ → ℂ) (Q : Fin 64 → ℂ) (hx : Holds x inc) (re im : Fin 6 → T S1x1x1x128)
    (hc : ∀ l : Fin 6, Coefs (re l) (im l) fun p => Q p ^ 2 ^ (l : ℕ))
    (h0 : ∀ b p, E b p 0 = 0) (hE : ∀ b p k, E b p (k + 1) = Q p * E b p k + inc b p k) :
    Holds (levels x re im) fun b p k => E b p (k + 1) := by
  have h := level_holds 32 (by omega) _ _ (level_holds 16 (by omega) _ _ (level_holds 8 (by omega) _ _ (level_holds 4 (by omega) _ _
    (level_holds 2 (by omega) _ _ (level_holds 1 (by omega) _ _ hx _ _ _ (hc 0)) _ _ _ (hc 1)) _ _ _ (hc 2)) _ _ _ (hc 3)) _ _ _ (hc 4)) _ _ _ (hc 5)
  intro b k q
  refine (h b k q).trans ?_
  have s : ∀ p, _ := fun p => sweeps_eq (Q := Q p) (h0 b p) (hE b p) k k.isLt
  congr 1
  by_cases hq : (q : ℕ) < 64
  · rw [dif_pos hq, dif_pos hq]
    exact congrArg Complex.re (s _)
  · rw [dif_neg hq, dif_neg hq]
    exact congrArg Complex.im (s _)

theorem resp_at (x : T S512x128) (X : Fin 8 → Fin 64 → ℕ → ℂ) (hx : Holds x X) (w : Tb S1x128x1024) (b : Fin 8) (k : Fin 64) (n : Fin 1024) :
    respTerm x w (ix2 (rowOf b k) n) = ∑ q : Fin 128, (((if h : (q : ℕ) < 64 then (if 1 ≤ (k : ℕ) then X b ⟨q, h⟩ (k - 1) else 0).re
      else (if 1 ≤ (k : ℕ) then X b ⟨q - 64, by omega⟩ (k - 1) else 0).im : ℝ)) : EReal) * (w (ix3 0 q n) : EReal) := by
  have hb := back_holds 1 (by omega) x X hx
  unfold Holds at hb
  pointwise [respTerm, hb]

variable (r : RPar) (u : Fin 8 → Fin 256 → ℕ → ℝ) (g : Fin 16)

/-- A grid point's operand blocks: group `g` of the input and of the five tables. -/
structure Blocks (x0 : T S8x16x64x64) (x1 : Tb S1x16x64x1024) (x2 : Tb S1x16x64x128) (x3 : Tb S1x128x1024) (x4 : T S1x8x2x128) : Prop where
  u_at : ∀ b ci k s, x0 (ix4 b ci k s) = ((grp u b g ci (64 * (k : ℕ) + s) : ℝ) : EReal)
  w_at : ∀ ci s n, (x1 (ix4 0 ci s n) : EReal) = tgTab r.toPar (ix4 g ci s n)
  v_at : ∀ ci s n, (x2 (ix4 0 ci s n) : EReal) = bendTab r.toPar (ix4 g ci s n)
  c_at : ∀ q n, (x3 (ix3 0 q n) : EReal) = cpowTab r.toPar (ix3 g q n)
  a_at : ∀ l h q, x4 (ix4 0 l h q) = apowTab r.toPar (ix4 g l h q)

variable {x0 : T S8x16x64x64} {x1 : Tb S1x16x64x1024} {x2 : Tb S1x16x64x128} {x3 : Tb S1x128x1024} {x4 : T S1x8x2x128}

/-- A chunk's own contribution to the state at its end. -/
def incOf (b : Fin 8) (p : Fin 64) (k : ℕ) : ℂ :=
  ∑ c : Fin 16, ∑ s : Fin 64, (grp u b g c (64 * k + s) : ℂ) * (r.A g p ^ (63 - (s : ℕ)) * r.B g p c)

theorem conv_at (h : Blocks r u g x0 x1 x2 x3 x4) (b : Fin 8) (k : Fin 64) (o : Fin 16) (t : Fin 64) :
    chain (fun i => convTerm (loadU x0 i) (loadW x1 i)) (ix2 (rowOf b k) ⟨o * 64 + t, by omega⟩)
      = ((∑ c : Fin 16, ∑ s : Fin 64, grp u b g c (64 * k + s) * (if (s : ℕ) ≤ t then
          (∑ p, (r.B g p c).re * (r.C g o p * r.A g p ^ ((t : ℕ) - (s : ℕ))).re)
            - ∑ p, (r.B g p c).im * (r.C g o p * r.A g p ^ ((t : ℕ) - (s : ℕ))).im else 0) : ℝ) : EReal) := by
  rw [chain_at]
  simp only [convTerm_at, loadU_at, loadW_at, h.u_at, h.w_at, tgTab_at, ← EReal.coe_mul, ← coe_sum]

theorem inc_holds (h : Blocks r u g x0 x1 x2 x3 x4) : Holds (chain fun i => incTerm (loadU x0 i) (loadV x2 i)) (incOf r u g) := by
  intro b k q
  rw [chain_at]
  simp only [incTerm_at, loadU_at, loadV_at, h.u_at, h.v_at, bendTab_at, ← EReal.coe_mul, ← coe_sum]
  by_cases hq : (q : ℕ) < 64
  · simp only [hq, dif_pos, incOf, Complex.re_sum, Complex.re_ofReal_mul]
  · simp only [hq, dif_neg, not_false_iff, incOf, Complex.im_sum, Complex.im_ofReal_mul]

theorem coefs (h : Blocks r u g x0 x1 x2 x3 x4) (l : Fin 6) :
    Coefs (loadA x4 0 l) (loadA x4 1 l) fun p => (r.A g p ^ 64) ^ 2 ^ (l : ℕ) where
  re_at q := by rw [loadA_at, h.a_at, apowTab_at0]
  im_at q := by rw [loadA_at, h.a_at, apowTab_at1]

/-- The sweep leaves the state at the end of every chunk. -/
theorem scan_holds (h : Blocks r u g x0 x1 x2 x3 x4) :
    Holds (levels (chain fun i => incTerm (loadU x0 i) (loadV x2 i)) (loadA x4 0) (loadA x4 1)) fun b p k => st r u b g p (64 * (k + 1)) :=
  levels_holds _ (incOf r u g) (fun b p k => st r u b g p (64 * k)) (fun p => r.A g p ^ 64) (inc_holds r u g h) _ _ (coefs r u g h)
    (fun b p => by simp [st, state]) fun b p k => state_chunk _ _ _ _

theorem start_resp (h : Blocks r u g x0 x1 x2 x3 x4) (b : Fin 8) (k : Fin 64) (o : Fin 16) (t : Fin 64) :
    respTerm (levels (chain fun i => incTerm (loadU x0 i) (loadV x2 i)) (loadA x4 0) (loadA x4 1)) (loadC x3) (ix2 (rowOf b k) ⟨o * 64 + t, by omega⟩)
      = (((∑ p, (st r u b g p (64 * k)).re * (r.C g o p * r.A g p ^ ((t : ℕ) + 1)).re)
        + ∑ p, (st r u b g p (64 * k)).im * -(r.C g o p * r.A g p ^ ((t : ℕ) + 1)).im : ℝ) : EReal) := by
  rw [resp_at _ _ (scan_holds r u g h)]
  have e : ∀ p, (if 1 ≤ (k : ℕ) then st r u b g p (64 * (k - 1 + 1)) else 0) = st r u b g p (64 * k) := fun p => by
    by_cases hk : 1 ≤ (k : ℕ)
    · rw [if_pos hk, Nat.sub_add_cancel hk]
    · rw [if_neg hk, show (k : ℕ) = 0 by omega]; simp [st, state]
  simp only [loadC_at, h.c_at, cpowTab_at, e, ← EReal.coe_mul, ← coe_sum]
  congr 1
  refine (Fin.sum_univ_add (a := 64) (b := 64) _).trans ?_
  congr 1

/-- A grid point's rows are the layer's output for its group. -/
theorem rows_at (h : Blocks r u g x0 x1 x2 x3 x4) (b : Fin 8) (k : Fin 64) (o : Fin 16) (t : Fin 64) :
    yRows (loadU x0) (loadW x1) (loadV x2) (loadA x4 0) (loadA x4 1) (loadC x3) (ix2 (rowOf b k) ⟨o * 64 + t, by omega⟩)
      = ((yv r u b g o (64 * k + t) : ℝ) : EReal) := by
  pointwise [yRows]
  rw [conv_at r u g h, start_resp r u g h, ← EReal.coe_add]
  exact congrArg _ (chunk_eq (r.A g) (r.C g o) (r.B g) (grp u b g) k t t.isLt)

theorem cols (co : Fin 16) : S512x1024.Slices ![0, co.val * 64] S512x64 := by
  revert co; decide +kernel

/-- One output channel cut out of the rows. -/
def pieceOf (co : Fin 16) (y : T S512x1024) : T S8x1x64x64 :=
  shapeCast S8x1x64x64 (shapeCast S8x64x64 (extractStridedSlice S512x64 ![0, co.val * 64] y (cols co)) shapeCasts_S512x64_S8x64x64)
    shapeCasts_S8x64x64_S8x1x64x64

theorem pieceOf_at (co : Fin 16) (y : T S512x1024) (b : Fin 8) (z : Fin 1) (k t : Fin 64) :
    pieceOf co y (ix4 b z k t) = y (ix2 (rowOf b k) ⟨co * 64 + t, by omega⟩) := by
  pointwise [pieceOf]

theorem piece_at (h : Blocks r u g x0 x1 x2 x3 x4) (co : Fin 16) (j : S8x1x64x64.Idx) (y : S8x16x64x64.Idx)
    (t0 : (y 0 : ℕ) = j 0) (t1 : (y 1 : ℕ) = co) (t2 : (y 2 : ℕ) = j 2) (t3 : (y 3 : ℕ) = j 3) :
    pieceOf co (k0_pay66 (F := Ideal) x0 x1 x2 x3 x4) j = ((yv r u (y 0) g (y 1) (64 * (y 2).val + (y 3).val) : ℝ) : EReal) := by
  idx_vars j
  rw [pieceOf_at, payload_eq, rows_at r u g h]
  have e0 : y 0 = j0 := Fin.ext t0
  have e1 : y 1 = co := Fin.ext t1
  have e2 : (y 2).val = j2 := t2
  have e3 : (y 3).val = j3 := t3
  exact congrArg _ (by congr 1 <;> first | exact e0.symm | exact e1.symm | rw [e2, e3])

/-- The channels a grid point stores: each is 64 columns of the rows. -/
theorem out_at (h : Blocks r u g x0 x1 x2 x3 x4) (y : S8x16x64x64.Idx) :
    out0_5 (F := Ideal) x0 x1 x2 x3 x4 y = ((yv r u (y 0) g (y 1) (64 * (y 2).val + (y 3).val) : ℝ) : EReal) := by
  unfold out0_5
  canon_tiles y tt
  · exact piece_at r u g h 15 _ _ (by omega) (by show _ = 15; omega) (by omega) (by omega)
  · exact piece_at r u g h 14 _ _ (by omega) (by show _ = 14; omega) (by omega) (by omega)
  · exact piece_at r u g h 13 _ _ (by omega) (by show _ = 13; omega) (by omega) (by omega)
  · exact piece_at r u g h 12 _ _ (by omega) (by show _ = 12; omega) (by omega) (by omega)
  · exact piece_at r u g h 11 _ _ (by omega) (by show _ = 11; omega) (by omega) (by omega)
  · exact piece_at r u g h 10 _ _ (by omega) (by show _ = 10; omega) (by omega) (by omega)
  · exact piece_at r u g h 9 _ _ (by omega) (by show _ = 9; omega) (by omega) (by omega)
  · exact piece_at r u g h 8 _ _ (by omega) (by show _ = 8; omega) (by omega) (by omega)
  · exact piece_at r u g h 7 _ _ (by omega) (by show _ = 7; omega) (by omega) (by omega)
  · exact piece_at r u g h 6 _ _ (by omega) (by show _ = 6; omega) (by omega) (by omega)
  · exact piece_at r u g h 5 _ _ (by omega) (by show _ = 5; omega) (by omega) (by omega)
  · exact piece_at r u g h 4 _ _ (by omega) (by show _ = 4; omega) (by omega) (by omega)
  · exact piece_at r u g h 3 _ _ (by omega) (by show _ = 3; omega) (by omega) (by omega)
  · exact piece_at r u g h 2 _ _ (by omega) (by show _ = 2; omega) (by omega) (by omega)
  · exact piece_at r u g h 1 _ _ (by omega) (by show _ = 1; omega) (by omega) (by omega)
  · exact piece_at r u g h 0 _ _ (by omega) (by show _ = 0; omega) (by omega) (by omega)

end Cert.S5
-- ==== Proof.S5.Idx.lean ====
/- The blocks the windows of the scan's grid stand at. -/
module

public import proofs.«01_k».proof.Proof.Gen.KernelIdeal.Value

@[expose] public section

set_option maxRecDepth 16384
set_option maxHeartbeats 1000000

noncomputable section

namespace Cert.S5

open Cert.KernelIdeal Cert.KernelIdeal.Gen Idealize.ShloMosaic Idealize.ShloMosaic.TcCoe Idealize.SL.Sem

/-- Which block each window reads or writes at a grid point: the point's own group. -/
theorem idx : ∀ t : Fin cfg0.N, win0_0.index t = ![0, t.val, 0, 0] ∧ win0_1.index t = ![t.val, 0, 0, 0] ∧ win0_2.index t = ![t.val, 0, 0, 0]
    ∧ win0_3.index t = ![t.val, 0, 0] ∧ win0_4.index t = ![t.val, 0, 0, 0] ∧ win0_5.index t = ![0, t.val, 0, 0] :=
  (by decide +kernel : ∀ t : Fin grid0.N, _)

end Cert.S5
-- ==== Proof.S5.Final.lean ====
/- The kernel's final array: every grid point's block is the layer's output for its group. -/
module

public import proofs.«01_k».proof.Proof.S5.Body
public import proofs.«01_k».proof.Proof.S5.Idx
public import Idealize.ShloMosaic.Lib.Pipeline.ValueKit

@[expose] public section

set_option maxRecDepth 16384
set_option maxHeartbeats 1000000

noncomputable section

namespace Cert.S5

open Cert.KernelIdeal Cert.KernelIdeal.Gen Idealize.ShloMosaic Idealize.ShloMosaic.TcCoe Idealize.SL.Sem

variable (m : (ℓ : Loc nD τ sig) → Buf (Elt Ideal) ℓ) (c : Dev nD) (r : RPar) (u : Fin 8 → Fin 256 → ℕ → ℝ)

/-- A grid point's group. -/
abbrev gp (t : Fin cfg0.N) : Fin 16 := ⟨t.val, lt_of_lt_of_eq t.isLt N_0⟩

/-- The input's reshape, entry by entry. -/
theorem split_at (b : Fin 8) (i : Fin 256) (k s : Fin 64) :
    (shapeCast S8x256x64x64 (fun j => ((u (j 0) (j 1) (j 2).val : ℝ) : EReal) : T S8x256x4096) shapeCasts_S8x256x4096_S8x256x64x64 : T S8x256x64x64) (ix4 b i k s)
      = ((u b i (k.val * 64 + s.val) : ℝ) : EReal) := by
  pointwise []

/-- The blocks the body reads at a grid point are its group's input and tables. -/
theorem blocks (t : Fin cfg0.N) (hp : par m c = r.toPar)
    (hu : m ((c : Thread nD τ).loc main_arg0) = fun j => ((u (j 0) (j 1) (j 2).val : ℝ) : EReal)) :
    Blocks r u (gp t) (iblk m c 0 t) (iblk m c 1 t) (iblk m c 2 t) (iblk m c 3 t) (iblk m c 4 t) where
  u_at b ci k s := by
    have e : (win0_0.blk t).view.emb (ix4 b ci k s) = ix4 b (⟨t.val * 16 + ci, by have := lt_of_lt_of_eq t.isLt N_0; omega⟩ : Fin 256) k s := by
      blk_ext [idx t]
    blk_simp [iblk, idx t]
    rw [e, V_u, hu]
    refine (split_at u b _ k s).trans ?_
    simp only [grp, Nat.mul_comm k.val 64]
  w_at ci s n := by
    have e : (win0_1.blk t).view.emb (ix4 0 ci s n) = ix4 (gp t) ci s n := by
      blk_ext [idx t]
    blk_simp [iblk, idx t]
    rw [e, V_tg, hp]
    rfl
  v_at ci s n := by
    have e : (win0_2.blk t).view.emb (ix4 0 ci s n) = ix4 (gp t) ci s n := by
      blk_ext [idx t]
    blk_simp [iblk, idx t]
    rw [e, V_bend, hp]
    rfl
  c_at q n := by
    have e : (win0_3.blk t).view.emb (ix3 0 q n) = ix3 (gp t) q n := by
      blk_ext [idx t]
    blk_simp [iblk, idx t]
    rw [e, V_cpow, hp]
    rfl
  a_at l h q := by
    have e : (win0_4.blk t).view.emb (ix4 0 l h q) = ix4 (gp t) l h q := by
      blk_ext [idx t]
    blk_simp [iblk, idx t]
    rw [e, V_apow, hp]

/-- The layer's output as the kernel lays it out: channels by group, positions by chunk. -/
def result : T S8x256x64x64 := fun j =>
  ((yv r u (j 0) ⟨(j 1).val / 16, by have : (j 1).val < 256 := (j 1).isLt; omega⟩ ⟨(j 1).val % 16, by omega⟩ (64 * (j 2).val + (j 3).val) : ℝ) : EReal)

theorem result_at (b : Fin 8) (g o : Fin 16) (k t : Fin 64) :
    result r u (ix4 b (⟨g.val * 16 + o.val, by omega⟩ : Fin 256) k t) = ((yv r u b g o (64 * k.val + t.val) : ℝ) : EReal) := by
  have e1 : (g.val * 16 + o.val) / 16 = g.val := by omega
  have e2 : (g.val * 16 + o.val) % 16 = o.val := by omega
  show ((yv r u b ⟨(g.val * 16 + o.val) / 16, _⟩ ⟨(g.val * 16 + o.val) % 16, _⟩ (64 * k.val + t.val) : ℝ) : EReal) = _
  simp only [e1, e2]

/-- Where a grid point's output block lies. -/
theorem out_emb (t : Fin cfg0.N) (y : S8x16x64x64.Idx) :
    (win0_5.blk t).view.emb y = ix4 (y 0) (⟨(gp t).val * 16 + (y 1).val, by have : (y 1).val < 16 := (y 1).isLt; have := (gp t).isLt; omega⟩ : Fin 256) (y 2) (y 3) := by
  blk_ext [idx t]

/-- The kernel ends with the layer's output. -/
theorem final (hp : par m c = r.toPar) (hu : m ((c : Thread nD τ).loc main_arg0) = fun j => ((u (j 0) (j 1) (j 2).val : ℝ) : EReal)) :
    (dats m 0 c).arrAt 5 cfg0.N = result r u := by
  refine (dats m 0 c).arrAt_eq_of_covers 5 _ (by decide +kernel) fun t hf y => ?_
  have e := out_at r u (gp t) (blocks m c r u t hp hu) y
  rw [Gen.after0_5]
  blk_simp [idx t]
  refine e.trans ?_
  rw [out_emb t y]
  exact (result_at r u (y 0) (gp t) (y 1) (y 2) (y 3)).symm

end Cert.S5
-- ==== Proof.S5.Pre.lean ====
/- What the precondition says: every argument is an array of real numbers, and no transition exponent is zero. -/
module

public import proofs.«01_k».proof.Proof.S5.Values
public import proofs.«01_k».proof.Defs
public import Idealize.ShloMosaic.Lib.ReduceAll

@[expose] public section

set_option maxRecDepth 16384
set_option maxHeartbeats 1000000

noncomputable section

namespace Cert.S5

open Cert.KernelIdeal Cert.KernelIdeal.Gen Idealize.ShloMosaic Idealize.ShloMosaic.TcCoe Idealize.SL.Sem

/-- An extended real whose absolute value is less than infinity is a real number. -/
theorem real_of_abs_lt (x : EReal) (h : Ideal.cmp .olt (max x (-x)) (Ideal.ofBits .f32 0x7F800000#32) = 1#1) : x = ((x.toReal : ℝ) : EReal) := by
  have e : Ideal.ofBits .f32 0x7F800000#32 = ⊤ := by simp [Ideal.ofBits, Ideal.ieee]
  rw [e] at h
  unfold Ideal.cmp at h
  have hx : max x (-x) < ⊤ := by
    by_contra hc
    simp [hc] at h
  obtain ⟨h1, h2⟩ := max_lt_iff.mp hx
  refine (EReal.coe_toReal h1.ne ?_).symm
  rintro rfl
  simp at h2

/-- A value greater than zero. -/
theorem pos_of_cmp (x : EReal) (h : Ideal.cmp .ogt x (Ideal.ofBits .f32 0x00000000#32) = 1#1) : 0 < x := by
  have e : Ideal.ofBits .f32 0x00000000#32 = 0 := by simp [Ideal.ofBits, Ideal.ieee]
  rw [e] at h
  unfold Ideal.cmp at h
  by_contra hc
  simp [hc] at h

/-- The precondition gives real parameters and a real input. -/
theorem pre_real [Cert.Pre_finite.Facts] (m : (ℓ : Loc nD τ sig) → Buf (Elt Ideal) ℓ) (h : Cert.Pre_KernelIdeal_finite m) (c : Dev nD) :
    ∃ (r : RPar) (u : Fin 8 → Fin 256 → ℕ → ℝ), par m c = r.toPar
      ∧ m ((c : Thread nD τ).loc main_arg0) = fun j => ((u (j 0) (j 1) (j 2).val : ℝ) : EReal) := by
  have h := congrFun (h c) (fun i => i.elim0)
  dsimp only [Cert.Pre_finite.fn, Cert.Pre_finite.fn_part1, Cert.Pre_finite.fn_part2] at h
  obtain ⟨h, hz⟩ := IntOp.andi_eq_one.mp h
  obtain ⟨h, h7⟩ := IntOp.andi_eq_one.mp h
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  have r0 := fun i => real_of_abs_lt _ (Host.reduce_andi_all _ _ _ _ _ h0 i)
  have r1 := fun i => real_of_abs_lt _ (Host.reduce_andi_all _ _ _ _ _ h1 i)
  have r2 := fun i => real_of_abs_lt _ (Host.reduce_andi_all _ _ _ _ _ h2 i)
  have r3 := fun i => real_of_abs_lt _ (Host.reduce_andi_all _ _ _ _ _ h3 i)
  have r4 := fun i => real_of_abs_lt _ (Host.reduce_andi_all _ _ _ _ _ h4 i)
  have r5 := fun i => real_of_abs_lt _ (Host.reduce_andi_all _ _ _ _ _ h5 i)
  have r6 := fun i => real_of_abs_lt _ (Host.reduce_andi_all _ _ _ _ _ h6 i)
  have r7 := fun i => real_of_abs_lt _ (Host.reduce_andi_all _ _ _ _ _ h7 i)
  have rz := fun i => pos_of_cmp _ (Host.reduce_andi_all _ _ _ _ _ hz i)
  clear h0 h1 h2 h3 h4 h5 h6 h7 hz
  refine ⟨{ lre := fun g p => EReal.toReal ((par m c).lre (ix2 g p))
            lim := fun g p => EReal.toReal ((par m c).lim (ix2 g p))
            ldt := fun g => EReal.toReal ((par m c).ldt (ix1 g))
            bre := fun g p h => EReal.toReal ((par m c).bre (ix3 g p h))
            bim := fun g p h => EReal.toReal ((par m c).bim (ix3 g p h))
            cre := fun g h p => EReal.toReal ((par m c).cre (ix3 g h p))
            cim := fun g h p => EReal.toReal ((par m c).cim (ix3 g h p))
            den_ne := fun g p h => ?_ },
    fun b i t => if ht : t < 4096 then EReal.toReal ((m ((c : Thread nD τ).loc main_arg0) : T S8x256x4096) (ix3 b i ⟨t, ht⟩)) else 0, ?_, ?_⟩
  · have hz : 0 < (par m c).lre (ix2 g p) * (par m c).lre (ix2 g p) + (par m c).lim (ix2 g p) * (par m c).lim (ix2 g p) := rz (ix2 g p)
    have h1 : (par m c).lre (ix2 g p) = ((EReal.toReal ((par m c).lre (ix2 g p)) : ℝ) : EReal) := r1 (ix2 g p)
    have h2 : (par m c).lim (ix2 g p) = ((EReal.toReal ((par m c).lim (ix2 g p)) : ℝ) : EReal) := r2 (ix2 g p)
    rw [h1, h2, ← EReal.coe_mul, ← EReal.coe_mul, ← EReal.coe_add, h] at hz
    exact lt_irrefl _ hz
  · unfold RPar.toPar par
    congr 1 <;> funext j <;> idx_vars j
    · exact r1 _
    · exact r2 _
    · exact r3 _
    · exact r4 _
    · exact r5 _
    · exact r6 _
    · exact r7 _
  · funext j
    idx_vars j
    refine (r0 _).trans ?_
    show _ = (((if ht : j2.val < 4096 then EReal.toReal ((m ((c : Thread nD τ).loc main_arg0) : T S8x256x4096) (ix3 j0 j1 ⟨j2.val, ht⟩)) else 0 : ℝ)) : EReal)
    rw [dif_pos j2.isLt]

end Cert.S5
-- ==== Proof.S5.Ref.lean ====
/- The reference's scan, step by step: with real parameters and a real input its carried state after `n` steps is the
   complex recurrence of `Math`, and its result at a time is the output matrix applied to the state after that time. -/
module

public import proofs.«01_k».proof.Proof.Gen.ReferenceIdeal.Run
public import proofs.«01_k».proof.Proof.S5.Values

@[expose] public section

set_option maxRecDepth 16384
set_option maxHeartbeats 1000000

noncomputable section

namespace Cert.S5.Ref

open Cert.ReferenceIdeal Cert.ReferenceIdeal.Gen Cert.ReferenceIdeal.Value Idealize.ShloMosaic Idealize.ShloMosaic.TcCoe Idealize.SL.Sem
open Idealize.ShloMosaic.StableHlo

/-- The four starts of the slice of one time step. -/
def starts (k : IVec S_ 32) : Fin 4 → ℤ := fun a =>
  (((![k, constantI S_ 32 0#32, constantI S_ 32 0#32, constantI S_ 32 0#32] : Fin 4 → IVec S_ 32)) a (Shape.Idx.first h_S_)).toInt

/-- A transition array repeated along the batch. -/
def rep (x : T S16x64) : T S8x16x64 :=
  broadcastInDim S8x16x64 ![0, 1, 2] bcast_S1x16x64_S8x16x64_0_1_2 (broadcastInDim S1x16x64 ![1, 2] bcast_S16x64_S1x16x64_1_2 x)

/-- The drive of one time step. -/
def row (x : T S4096x8x16x64) (k : IVec S_ 32) : T S8x16x64 :=
  shapeCast S8x16x64 (Host.dynamicSlice S1x8x16x64 x (starts k) sliceFits_S4096x8x16x64_S1x8x16x64) shapeCasts_S1x8x16x64_S8x16x64

/-- The next state, real part. -/
def nextRe (ar ai : T S16x64) (sr si : T S8x16x64) (x : T S4096x8x16x64) (k : IVec S_ 32) : T S8x16x64 :=
  addf (subf (mulf (rep ar) sr) (mulf (rep ai) si)) (row x k)

/-- The next state, imaginary part. -/
def nextIm (ar ai : T S16x64) (sr si : T S8x16x64) (x : T S4096x8x16x64) (k : IVec S_ 32) : T S8x16x64 :=
  addf (addf (mulf (rep ar) si) (mulf (rep ai) sr)) (row x k)

/-- A state stored as one row of the history. -/
def store (h : T S4096x8x16x64) (s : T S8x16x64) (k : IVec S_ 32) : T S4096x8x16x64 :=
  Host.dynamicUpdateSlice h (broadcastInDim S1x8x16x64 ![1, 2, 3] bcast_S8x16x64_S1x8x16x64_1_2_3 s) (starts k)
    updateFits_S4096x8x16x64_S1x8x16x64

/-- The word of a time step reads as that number. -/
theorem word_toInt (n : ℕ) (h : n < 4096) : (BitVec.ofNat 32 n).toInt = n := by
  rw [BitVec.toInt_eq_toNat_cond, BitVec.toNat_ofNat, Nat.mod_eq_of_lt (by omega), if_pos (by omega)]

/-- The slice's start is the time step on the first axis and zero on the others. -/
theorem start_at (n : ℕ) (h : n < 4096) (ht : S1x8x16x64.rank = S4096x8x16x64.rank) (a : Fin 4) :
    Host.clampedStart S4096x8x16x64 S1x8x16x64 ht (starts fun _ => BitVec.ofNat 32 n) a = if a = 0 then n else 0 := by
  apply Host.clampedStart_of_le
  · fin_cases a
    · exact word_toInt n h
    · rfl
    · rfl
    · rfl
  · fin_cases a
    · show n + 1 ≤ 4096; omega
    · show 0 + 8 ≤ 8; omega
    · show 0 + 16 ≤ 16; omega
    · show 0 + 64 ≤ 64; omega

/-- The slice at a time step is that row. -/
theorem slice_at (x : T S4096x8x16x64) (n : ℕ) (h : n < 4096) (z : Fin 1) (b : Fin 8) (g : Fin 16) (p : Fin 64) :
    Host.dynamicSlice S1x8x16x64 x (starts fun _ => BitVec.ofNat 32 n) sliceFits_S4096x8x16x64_S1x8x16x64 (ix4 z b g p)
      = x (ix4 ⟨n, h⟩ b g p) := by
  rw [Host.dynamicSlice_apply]
  congr 1
  funext a
  apply Fin.ext
  have hs := start_at n h sliceFits_S4096x8x16x64_S1x8x16x64.1 a
  fin_cases a
  · have hz : z = 0 := Subsingleton.elim _ _
    subst hz
    exact congrArg (· + 0) hs
  · exact (congrArg (· + b.val) hs).trans (Nat.zero_add _)
  · exact (congrArg (· + g.val) hs).trans (Nat.zero_add _)
  · exact (congrArg (· + p.val) hs).trans (Nat.zero_add _)

/-- The history after a store: the new state in its row, the other rows as they were. -/
theorem store_at (x : T S4096x8x16x64) (s : T S8x16x64) (n : ℕ) (h : n < 4096) (t : Fin 4096) (b : Fin 8) (g : Fin 16) (p : Fin 64) :
    store x s (fun _ => BitVec.ofNat 32 n) (ix4 t b g p) = if t.val = n then s (ix3 b g p) else x (ix4 t b g p) := by
  have hs := start_at n h updateFits_S4096x8x16x64_S1x8x16x64.1
  unfold store
  rw [Host.dynamicUpdateSlice_apply]
  by_cases ht : t.val = n
  · rw [if_pos ht, dif_pos]
    · rw [Pointwise.broadcastInDim_apply]
      congr 1
      funext a
      apply Fin.ext
      fin_cases a
      · have := hs 1; exact (congrArg (b.val - ·) this).trans (Nat.sub_zero _)
      · have := hs 2; exact (congrArg (g.val - ·) this).trans (Nat.sub_zero _)
      · have := hs 3; exact (congrArg (p.val - ·) this).trans (Nat.sub_zero _)
    · intro a
      rw [hs a]
      fin_cases a
      · exact ⟨ht.ge, by show t.val < n + 1; omega⟩
      · exact ⟨Nat.zero_le _, by show b.val < 0 + 8; omega⟩
      · exact ⟨Nat.zero_le _, by show g.val < 0 + 16; omega⟩
      · exact ⟨Nat.zero_le _, by show p.val < 0 + 64; omega⟩
  · rw [if_neg ht, dif_neg]
    intro hin
    have h0 := hin 0
    rw [hs 0] at h0
    have h1 : n ≤ t.val := h0.1
    have h2 : t.val < n + 1 := h0.2
    omega

/-- The drive of a time step at an entry. -/
theorem row_at (x : T S4096x8x16x64) (n : ℕ) (h : n < 4096) (b : Fin 8) (g : Fin 16) (p : Fin 64) :
    row x (fun _ => BitVec.ofNat 32 n) (ix3 b g p) = x (ix4 ⟨n, h⟩ b g p) := by
  pointwise [row, slice_at x n h]

/-- The reference's parameters on a device. -/
def rpar (m : (ℓ : Loc nD τ sig) → Buf (Elt Ideal) ℓ) (c : Dev nD) : Par where
  lre := m ((c : Thread nD τ).loc main_arg1)
  lim := m ((c : Thread nD τ).loc main_arg2)
  ldt := m ((c : Thread nD τ).loc main_arg3)
  bre := m ((c : Thread nD τ).loc main_arg4)
  bim := m ((c : Thread nD τ).loc main_arg5)
  cre := m ((c : Thread nD τ).loc main_arg6)
  cim := m ((c : Thread nD τ).loc main_arg7)

/-- The input along time, group and channel. -/
def seq (u : T S8x256x4096) : T S8x4096x16x16 :=
  shapeCast S8x4096x16x16 (transpose S8x4096x256 [0, 2, 1] u transposes_S8x256x4096_S8x4096x256_0_2_1) shapeCasts_S8x4096x256_S8x4096x16x16

/-- An input matrix applied to the whole input, time first. -/
def driven (u : T S8x256x4096) (w : T S16x64x16) : T S4096x8x16x64 :=
  transpose S4096x8x16x64 [1, 0, 2, 3] (transpose S8x4096x16x64 [1, 2, 0, 3]
    (Host.dotGeneral dot_S8x4096x16x16_S16x64x16_S16x8x4096x64_3_2_01_1_2_0 none (seq u) w) transposes_S16x8x4096x64_S8x4096x16x64_1_2_0_3)
    transposes_S8x4096x16x64_S4096x8x16x64_1_0_2_3

variable (m : (ℓ : Loc nD τ sig) → Buf (Elt Ideal) ℓ) (c : Dev nD)

theorem entry_abRe : (entryContents preI m c (Proc.devRef .tc main_v53_2) : T S16x64) = abRe (rpar m c) := by
  simp only [entryContents, afterL_cons, afterL_nil]
  after_reads_simp
  rfl

theorem entry_abIm : (entryContents preI m c (Proc.devRef .tc main_v53_3) : T S16x64) = abIm (rpar m c) := by
  simp only [entryContents, afterL_cons, afterL_nil]
  after_reads_simp
  rfl

/-- The zero state. -/
def zeroState : T S8x16x64 := broadcastInDim S8x16x64 ![] bcast_S_S8x16x64 (constant S_ .f32 0x00000000#32)

theorem entry_re : (entryContents preI m c (Proc.devRef .tc main_v53_5) : T S8x16x64) = zeroState := by
  simp only [entryContents, afterL_cons, afterL_nil]
  after_reads_simp
  rfl

theorem entry_im : (entryContents preI m c (Proc.devRef .tc main_v53_6) : T S8x16x64) = zeroState := by
  simp only [entryContents, afterL_cons, afterL_nil]
  after_reads_simp
  rfl

theorem entry_drRe : (entryContents preI m c (Proc.devRef .tc main_v53_0) : T S4096x8x16x64)
    = driven (m ((c : Thread nD τ).loc main_arg0)) (bbRe (rpar m c)) := by
  simp only [entryContents, afterL_cons, afterL_nil]
  after_reads_simp
  rfl

theorem entry_drIm : (entryContents preI m c (Proc.devRef .tc main_v53_1) : T S4096x8x16x64)
    = driven (m ((c : Thread nD τ).loc main_arg0)) (bbIm (rpar m c)) := by
  simp only [entryContents, afterL_cons, afterL_nil]
  after_reads_simp
  rfl

variable (r : RPar) (u : Fin 8 → Fin 256 → ℕ → ℝ)

/-- The input as an array. -/
def arr : T S8x256x4096 := fun j => ((u (j 0) (j 1) (j 2).val : ℝ) : EReal)

theorem arr_at (b : Fin 8) (i : Fin 256) (t : Fin 4096) : arr u (ix3 b i t) = ((u b i t : ℝ) : EReal) := rfl

theorem driven_re (t : Fin 4096) (b : Fin 8) (g : Fin 16) (p : Fin 64) :
    driven (arr u) (bbRe r.toPar) (ix4 t b g p) = (((drive (r.B g p) (grp u b g) t).re : ℝ) : EReal) := by
  pointwise [driven, seq, bbRe_at, arr_at]
  simp only [← EReal.coe_mul, ← coe_sum, drive, Complex.re_sum]
  simp only [Complex.mul_re, Complex.ofReal_re, Complex.ofReal_im, mul_zero, sub_zero]
  exact congrArg _ (Finset.sum_congr rfl fun i _ => mul_comm _ _)

theorem driven_im (t : Fin 4096) (b : Fin 8) (g : Fin 16) (p : Fin 64) :
    driven (arr u) (bbIm r.toPar) (ix4 t b g p) = (((drive (r.B g p) (grp u b g) t).im : ℝ) : EReal) := by
  pointwise [driven, seq, bbIm_at, arr_at]
  simp only [← EReal.coe_mul, ← coe_sum, drive, Complex.im_sum]
  simp only [Complex.mul_im, Complex.ofReal_re, Complex.ofReal_im, mul_zero, zero_add]
  exact congrArg _ (Finset.sum_congr rfl fun i _ => mul_comm _ _)

/-- What the carried buffers hold after `n` steps. -/
structure After (V : Valuation τ sig (Elt Ideal)) (n : ℕ) : Prop where
  /-- the step counter -/
  ctr : V (Proc.devRef .tc main_v53_4) = fun _ => BitVec.ofNat 32 n
  /-- the transition, which no step changes -/
  ar : ∀ g p, (V (Proc.devRef .tc main_v53_2) : T S16x64) (ix2 g p) = (((r.A g p).re : ℝ) : EReal)
  /-- its imaginary part -/
  ai : ∀ g p, (V (Proc.devRef .tc main_v53_3) : T S16x64) (ix2 g p) = (((r.A g p).im : ℝ) : EReal)
  /-- the drive, which no step changes -/
  dr : ∀ (t : Fin 4096) b g p, (V (Proc.devRef .tc main_v53_0) : T S4096x8x16x64) (ix4 t b g p)
    = (((drive (r.B g p) (grp u b g) t).re : ℝ) : EReal)
  /-- its imaginary part -/
  di : ∀ (t : Fin 4096) b g p, (V (Proc.devRef .tc main_v53_1) : T S4096x8x16x64) (ix4 t b g p)
    = (((drive (r.B g p) (grp u b g) t).im : ℝ) : EReal)
  /-- the state -/
  sr : ∀ b g p, (V (Proc.devRef .tc main_v53_5) : T S8x16x64) (ix3 b g p) = (((st r u b g p n).re : ℝ) : EReal)
  /-- its imaginary part -/
  si : ∀ b g p, (V (Proc.devRef .tc main_v53_6) : T S8x16x64) (ix3 b g p) = (((st r u b g p n).im : ℝ) : EReal)
  /-- the history so far -/
  hr : ∀ (t : Fin 4096), t.val < n → ∀ b g p, (V (Proc.devRef .tc main_v53_7) : T S4096x8x16x64) (ix4 t b g p)
    = (((st r u b g p (t + 1)).re : ℝ) : EReal)
  /-- its imaginary part -/
  hi : ∀ (t : Fin 4096), t.val < n → ∀ b g p, (V (Proc.devRef .tc main_v53_8) : T S4096x8x16x64) (ix4 t b g p)
    = (((st r u b g p (t + 1)).im : ℝ) : EReal)

theorem nextRe_at (a a' : T S16x64) (s s' : T S8x16x64) (x : T S4096x8x16x64) (n : ℕ) (hn : n < 4096) (b : Fin 8) (g : Fin 16) (p : Fin 64)
    (ha : a (ix2 g p) = (((r.A g p).re : ℝ) : EReal)) (ha' : a' (ix2 g p) = (((r.A g p).im : ℝ) : EReal))
    (hs : s (ix3 b g p) = (((st r u b g p n).re : ℝ) : EReal)) (hs' : s' (ix3 b g p) = (((st r u b g p n).im : ℝ) : EReal))
    (hx : x (ix4 ⟨n, hn⟩ b g p) = (((drive (r.B g p) (grp u b g) n).re : ℝ) : EReal)) :
    nextRe a a' s s' x (fun _ => BitVec.ofNat 32 n) (ix3 b g p) = (((st r u b g p (n + 1)).re : ℝ) : EReal) := by
  pointwise [nextRe, rep, row_at x n hn, ha, ha', hs, hs', hx]
  simp only [← EReal.coe_mul, ← EReal.coe_add, ← EReal.coe_sub, st, state, Complex.add_re, Complex.mul_re]

theorem nextIm_at (a a' : T S16x64) (s s' : T S8x16x64) (x : T S4096x8x16x64) (n : ℕ) (hn : n < 4096) (b : Fin 8) (g : Fin 16) (p : Fin 64)
    (ha : a (ix2 g p) = (((r.A g p).re : ℝ) : EReal)) (ha' : a' (ix2 g p) = (((r.A g p).im : ℝ) : EReal))
    (hs : s (ix3 b g p) = (((st r u b g p n).re : ℝ) : EReal)) (hs' : s' (ix3 b g p) = (((st r u b g p n).im : ℝ) : EReal))
    (hx : x (ix4 ⟨n, hn⟩ b g p) = (((drive (r.B g p) (grp u b g) n).im : ℝ) : EReal)) :
    nextIm a a' s s' x (fun _ => BitVec.ofNat 32 n) (ix3 b g p) = (((st r u b g p (n + 1)).im : ℝ) : EReal) := by
  pointwise [nextIm, rep, row_at x n hn, ha, ha', hs, hs', hx]
  simp only [← EReal.coe_mul, ← EReal.coe_add, ← EReal.coe_sub, st, state, Complex.add_im, Complex.mul_im]

/-- One step of the reference keeps the account. -/
theorem after_step (V : Valuation τ sig (Elt Ideal)) (n : ℕ) (hn : n < 4096) (h : After r u V n) : After r u (STEP V) (n + 1) := by
  have e73 : (res_main_while0b_v73 V : T S8x16x64) = nextRe (V (Proc.devRef .tc main_v53_2)) (V (Proc.devRef .tc main_v53_3))
      (V (Proc.devRef .tc main_v53_5)) (V (Proc.devRef .tc main_v53_6)) (V (Proc.devRef .tc main_v53_0)) (V (Proc.devRef .tc main_v53_4)) := rfl
  have e81 : (res_main_while0b_v81 V : T S8x16x64) = nextIm (V (Proc.devRef .tc main_v53_2)) (V (Proc.devRef .tc main_v53_3))
      (V (Proc.devRef .tc main_v53_5)) (V (Proc.devRef .tc main_v53_6)) (V (Proc.devRef .tc main_v53_1)) (V (Proc.devRef .tc main_v53_4)) := rfl
  have f73 : ∀ b g p, (res_main_while0b_v73 V : T S8x16x64) (ix3 b g p) = (((st r u b g p (n + 1)).re : ℝ) : EReal) := fun b g p => by
    rw [e73, h.ctr]
    exact nextRe_at r u _ _ _ _ _ n hn b g p (h.ar g p) (h.ai g p) (h.sr b g p) (h.si b g p) (h.dr ⟨n, hn⟩ b g p)
  have f81 : ∀ b g p, (res_main_while0b_v81 V : T S8x16x64) (ix3 b g p) = (((st r u b g p (n + 1)).im : ℝ) : EReal) := fun b g p => by
    rw [e81, h.ctr]
    exact nextIm_at r u _ _ _ _ _ n hn b g p (h.ar g p) (h.ai g p) (h.sr b g p) (h.si b g p) (h.di ⟨n, hn⟩ b g p)
  have e7 : (step_main_v53_7 V : T S4096x8x16x64) = store (V (Proc.devRef .tc main_v53_7)) (res_main_while0b_v73 V) (V (Proc.devRef .tc main_v53_4)) := rfl
  have e8 : (step_main_v53_8 V : T S4096x8x16x64) = store (V (Proc.devRef .tc main_v53_8)) (res_main_while0b_v81 V) (V (Proc.devRef .tc main_v53_4)) := rfl
  refine ⟨?_, ?_, ?_, ?_, ?_, ?_, ?_, ?_, ?_⟩
  · rw [STEP_main_v53_4, step_main_v53_4, h.ctr]
    funext j
    show BitVec.ofNat 32 n + 1#32 = BitVec.ofNat 32 (n + 1)
    rw [BitVec.ofNat_add]
  · rw [STEP_main_v53_2]; exact h.ar
  · rw [STEP_main_v53_3]; exact h.ai
  · rw [STEP_main_v53_0]; exact h.dr
  · rw [STEP_main_v53_1]; exact h.di
  · rw [STEP_main_v53_5]; exact f73
  · rw [STEP_main_v53_6]; exact f81
  · intro t ht b g p
    rw [STEP_main_v53_7, e7, h.ctr]
    refine (store_at _ _ n hn t b g p).trans ?_
    by_cases e : t.val = n
    · rw [if_pos e, e]; exact f73 b g p
    · rw [if_neg e]; exact h.hr t (by omega) b g p
  · intro t ht b g p
    rw [STEP_main_v53_8, e8, h.ctr]
    refine (store_at _ _ n hn t b g p).trans ?_
    by_cases e : t.val = n
    · rw [if_pos e, e]; exact f81 b g p
    · rw [if_neg e]; exact h.hi t (by omega) b g p

/-- Before the first step the account holds: the state is zero and the history empty. -/
theorem after_entry (hp : rpar m c = r.toPar) (hu : m ((c : Thread nD τ).loc main_arg0) = arr u) :
    After r u (entryContents preI m c) 0 := by
  refine ⟨?_, ?_, ?_, ?_, ?_, ?_, ?_, ?_, ?_⟩
  · exact ctr_entry m c
  · intro g p; rw [entry_abRe, hp]; exact abRe_at r g p
  · intro g p; rw [entry_abIm, hp]; exact abIm_at r g p
  · intro t b g p; rw [entry_drRe, hp, hu]; exact driven_re r u t b g p
  · intro t b g p; rw [entry_drIm, hp, hu]; exact driven_im r u t b g p
  · intro b g p; rw [entry_re]; pointwise [zeroState, st, state]; simp
  · intro b g p; rw [entry_im]; pointwise [zeroState, st, state]; simp
  · intro t ht; exact absurd ht (Nat.not_lt_zero _)
  · intro t ht; exact absurd ht (Nat.not_lt_zero _)

/-- After any number of steps up to the sequence's length the account holds. -/
theorem after_steps (hp : rpar m c = r.toPar) (hu : m ((c : Thread nD τ).loc main_arg0) = arr u) :
    ∀ n, n ≤ 4096 → After r u (STEP^[n] (entryContents preI m c)) n
  | 0, _ => after_entry m c r u hp hu
  | n + 1, h => by
    rw [Function.iterate_succ_apply']
    exact after_step r u _ n (by omega) (after_steps hp hu n (by omega))

/-- The output matrices applied to a history. -/
def outOf (hr hi : T S4096x8x16x64) (cre cim : T S16x16x64) : T S8x256x64x64 :=
  shapeCast S8x256x64x64 (transpose S8x256x4096 [0, 2, 1] (shapeCast S8x4096x256 (subf
    (transpose S8x4096x16x16 [1, 2, 0, 3] (Host.dotGeneral dot_S8x4096x16x64_S16x16x64_S16x8x4096x16_3_2_01_1_2_0 none
      (transpose S8x4096x16x64 [1, 0, 2, 3] hr transposes_S4096x8x16x64_S8x4096x16x64_1_0_2_3) cre) transposes_S16x8x4096x16_S8x4096x16x16_1_2_0_3)
    (transpose S8x4096x16x16 [1, 2, 0, 3] (Host.dotGeneral dot_S8x4096x16x64_S16x16x64_S16x8x4096x16_3_2_01_1_2_0 none
      (transpose S8x4096x16x64 [1, 0, 2, 3] hi transposes_S4096x8x16x64_S8x4096x16x64_1_0_2_3) cim) transposes_S16x8x4096x16_S8x4096x16x16_1_2_0_3))
    shapeCasts_S8x4096x16x16_S8x4096x256) transposes_S8x4096x256_S8x256x4096_0_2_1) shapeCasts_S8x256x4096_S8x256x64x64

theorem outOf_at (hr hi : T S4096x8x16x64)
    (hhr : ∀ t b g p, hr (ix4 t b g p) = (((st r u b g p (t + 1)).re : ℝ) : EReal))
    (hhi : ∀ t b g p, hi (ix4 t b g p) = (((st r u b g p (t + 1)).im : ℝ) : EReal))
    (b : Fin 8) (g o : Fin 16) (k t : Fin 64) :
    outOf hr hi r.toPar.cre r.toPar.cim (ix4 b ⟨g * 16 + o, by omega⟩ k t) = ((yv r u b g o (k * 64 + t) : ℝ) : EReal) := by
  pointwise [outOf, hhr, hhi, cre_at, cim_at]
  simp only [← EReal.coe_mul, ← coe_sum, ← EReal.coe_sub, yv, RPar.C]

/-- The reference's result at an entry. -/
theorem result_at (hp : rpar m c = r.toPar) (hu : m ((c : Thread nD τ).loc main_arg0) = arr u)
    (b : Fin 8) (g o : Fin 16) (k t : Fin 64) :
    (out_main_v63 (STEP^[4096] (entryContents preI m c)) : T S8x256x64x64) (ix4 b ⟨g * 16 + o, by omega⟩ k t)
      = ((yv r u b g o (k * 64 + t) : ℝ) : EReal) := by
  have h := after_steps m c r u hp hu 4096 le_rfl
  have e : (out_main_v63 (STEP^[4096] (entryContents preI m c)) : T S8x256x64x64)
      = outOf (STEP^[4096] (entryContents preI m c) (Proc.devRef .tc main_v53_7)) (STEP^[4096] (entryContents preI m c) (Proc.devRef .tc main_v53_8))
        (STEP^[4096] (entryContents preI m c) (Proc.devRef .tc main_arg6)) (STEP^[4096] (entryContents preI m c) (Proc.devRef .tc main_arg7)) := by
    generalize STEP^[4096] (entryContents preI m c) = W
    rfl
  rw [e, iter_main_arg6, iter_main_arg7]
  have h6 : m ((c : Thread nD τ).loc main_arg6) = r.toPar.cre := congrArg Par.cre hp
  have h7 : m ((c : Thread nD τ).loc main_arg7) = r.toPar.cim := congrArg Par.cim hp
  rw [h6, h7]
  exact outOf_at r u _ _ (fun t b g p => h.hr t t.isLt b g p) (fun t b g p => h.hi t t.isLt b g p) b g o k t

end Cert.S5.Ref
-- ==== Proof.S5.Claim.lean ====
/- The state-space scan: the reference's frame, and the equality of the kernel's result with the reference's. -/
module

public import proofs.«01_k».proof.Proof.S5.Final
public import proofs.«01_k».proof.Proof.S5.Pre
public import proofs.«01_k».proof.Proof.S5.Ref
public import proofs.«01_k».proof.Proof.Gen.Pre_finite
public import proofs.«01_k».proof.Defs
public import Idealize.ShloMosaic.Lib.Quiescent

@[expose] public section

set_option maxRecDepth 16384
set_option maxHeartbeats 1000000

noncomputable section

namespace Cert.S5

open Idealize.ShloMosaic Idealize.ShloMosaic.TcCoe Idealize.SL.Sem

/-- The reference runs, keeps its arguments, and leaves no counter above zero: it names no semaphore. -/
theorem reference_frame : Cert.quiescent_ReferenceIdeal := fun m g _ =>
  (θ_run _ _ _).mono (fun r h => ⟨fun c => (h c).2, sem_eq_zero_of_no_sems (by decide) r.2⟩) (Cert.ReferenceIdeal.Value.run m g)

/-- The same for the inputs that the precondition admits. -/
theorem reference_frame_finite : Cert.quiescent_ReferenceIdeal_pre_finite := fun m g _ =>
  reference_frame m g trivial

/-- From the same real parameters and input, the kernel's array and the reference's are equal. -/
theorem algebraic : Cert.algebraic_KernelIdeal_ReferenceIdeal_pre_finite := by
  intro m g m' g' hpre hargs
  refine ⟨fun c => (Cert.KernelIdeal.Gen.dats m 0 c).arrAt 5 Cert.KernelIdeal.cfg0.N, Cert.KernelIdeal.Value.run_blocks m g, ?_⟩
  refine (θ_run _ _ _).mono (fun s h c => ⟨(h c).1.trans ?_, (h c).2⟩) (Cert.ReferenceIdeal.Value.run m' g')
  obtain ⟨r, u, hp, hu⟩ := pre_real m hpre c
  obtain ⟨e0, e1, e2, e3, e4, e5, e6, e7⟩ := hargs c
  have hp' : Ref.rpar m' c = r.toPar := by
    rw [← hp]
    unfold Ref.rpar par
    congr 1
  have hu' : m' ((c : Thread Cert.ReferenceIdeal.nD Cert.ReferenceIdeal.τ).loc Cert.ReferenceIdeal.main_arg0) = Ref.arr u := e0.trans hu
  refine Eq.trans ?_ (final m c r u hp hu).symm
  funext j
  idx_vars j
  have hj : j1 = (⟨(⟨j1.val / 16, by omega⟩ : Fin 16).val * 16 + (⟨j1.val % 16, by omega⟩ : Fin 16).val, by simp only; omega⟩ : Fin 256) := by
    apply Fin.ext
    simp only
    omega
  rw [hj]
  refine (Ref.result_at m' c r u hp' hu' j0 ⟨j1.val / 16, by omega⟩ ⟨j1.val % 16, by omega⟩ j2 j3).trans ?_
  rw [Nat.mul_comm]
  exact (result_at r u j0 ⟨j1.val / 16, by omega⟩ ⟨j1.val % 16, by omega⟩ j2 j3).symm

end Cert.S5
-- ==== Proof.Ffn.Math.lean ====
/- The feed-forward block with a causal convolution, row by row: the functions that both programs compute. -/
module

public import Idealize.ShloMosaic.Lib.Claim
public import Idealize.ShloMosaic.Lib.IdealHost

@[expose] public section

noncomputable section

namespace Cert.Ffn

open Idealize.ShloMosaic

/-- A number given by its single-precision pattern. -/
abbrev num (w : BitVec 32) : EReal := Ideal.ofBits .f32 w

/-- A row divided by its root mean square and scaled by `g`. -/
def norm (g x : Fin 1024 → EReal) (d : Fin 1024) : EReal :=
  x d * Ideal.rsqrt (Ideal.div (∑ e, x e * x e) (num 0x44800000#32) + num 0x358637BD#32) * g d

/-- The tanh form of the gated linear unit's gate. -/
def gelu (x : EReal) : EReal :=
  num 0x3F000000#32 * x * (num 0x3F800000#32 + Ideal.tanh (num 0x3F4C422A#32 * (x + num 0x3D372713#32 * (x * x * x))))

/-- One column of the up-projection. -/
def up (xn w : Fin 1024 → EReal) : EReal := ∑ d, xn d * w d

/-- Three taps and a bias. -/
def taps (w0 w1 w2 b a0 a1 a2 : EReal) : EReal := w0 * a0 + w1 * a1 + w2 * a2 + b

/-- The layer's arrays: the input's rows, the two norms' scales, the up-projection, the convolution's taps and bias, the down-projection. -/
structure Args where
  x : Fin 32768 → Fin 1024 → EReal
  g1 : Fin 1024 → EReal
  w : Fin 1024 → Fin 5632 → EReal
  cw : Fin 3 → Fin 5632 → EReal
  cb : Fin 5632 → EReal
  wd : Fin 2816 → Fin 1024 → EReal
  g2 : Fin 1024 → EReal

namespace Args

variable (A : Args)

/-- The up-projection of the normalised row. -/
def hu (n : Fin 32768) (ch : Fin 5632) : EReal := up (norm A.g1 (A.x n)) fun d => A.w d ch

/-- The same `k` positions back in the row's own sequence of 4096, zero before its start. -/
def back (k : ℕ) (n : Fin 32768) (ch : Fin 5632) : EReal :=
  if k ≤ n.val % 4096 then A.hu ⟨n.val - k, by omega⟩ ch else 0

/-- The causal convolution. -/
def conv (n : Fin 32768) (ch : Fin 5632) : EReal :=
  taps (A.cw 0 ch) (A.cw 1 ch) (A.cw 2 ch) (A.cb ch) (A.back 2 n ch) (A.back 1 n ch) (A.hu n ch)

/-- The gated channels. -/
def act (n : Fin 32768) (f : Fin 2816) : EReal :=
  gelu (A.conv n ⟨f.val, by omega⟩) * A.conv n ⟨2816 + f.val, by omega⟩

/-- The down-projection. -/
def ffn (n : Fin 32768) (d : Fin 1024) : EReal := ∑ f, A.act n f * A.wd f d

/-- The layer's output. -/
def out (n : Fin 32768) (d : Fin 1024) : EReal := A.x n d + norm A.g2 (A.ffn n) d

/-- The normalised rows a tile of 512 rows reads: the 8 rows before it, zero for the first tile of a sequence, then its own. -/
def tile (i : Fin 64) (q : Fin 520) : Fin 1024 → EReal :=
  if q.val < 8 ∧ i.val % 8 = 0 then fun _ => 0 else norm A.g1 (A.x ⟨i.val * 512 + q.val - 8, by omega⟩)

theorem up_zero (w : Fin 1024 → EReal) : up (fun _ => 0) w = 0 := by
  simp only [up, zero_mul, Finset.sum_const_zero]

theorem up_tile8 (i : Fin 64) (r : Fin 512) (ch : Fin 5632) :
    up (A.tile i ⟨r.val + 8, by omega⟩) (fun d => A.w d ch) = A.hu ⟨i.val * 512 + r.val, by omega⟩ ch := by
  have e : i.val * 512 + (r.val + 8) - 8 = i.val * 512 + r.val := by omega
  simp only [tile, hu, e]
  rw [if_neg (by omega)]

theorem up_tile (k : ℕ) (hk : k ≤ 8) (i : Fin 64) (r : Fin 512) (ch : Fin 5632) :
    up (A.tile i ⟨r.val + (8 - k), by omega⟩) (fun d => A.w d ch) = A.back k ⟨i.val * 512 + r.val, by omega⟩ ch := by
  have e : i.val * 512 + (r.val + (8 - k)) - 8 = i.val * 512 + r.val - k := by omega
  simp only [tile, back, hu, e]
  by_cases h : k ≤ (i.val * 512 + r.val) % 4096
  · rw [if_pos h, if_neg (by omega)]
  · rw [if_neg h, if_pos (by omega), up_zero]

/-- The sum over the gated channels, half by half. -/
theorem ffn_halves (n : Fin 32768) (d : Fin 1024) :
    (∑ f : Fin 1408, A.act n ⟨f.val, by omega⟩ * A.wd ⟨f.val, by omega⟩ d)
      + (∑ f : Fin 1408, A.act n ⟨1408 + f.val, by omega⟩ * A.wd ⟨1408 + f.val, by omega⟩ d) = A.ffn n d :=
  (Fin.sum_univ_add (a := 1408) (b := 1408) fun f => A.act n f * A.wd f d).symm

end Args

end Cert.Ffn
-- ==== Proof.Ffn.Body.lean ====
/- The grid point's payloads of the feed-forward kernel, entry by entry. -/
module

public import proofs.«01_k».proof.Proof.Gen.Kernel2Ideal.Value
public import proofs.«01_k».proof.Proof.Ffn.Math
public import Idealize.ShloMosaic.Lib.Claim
public import Idealize.ShloMosaic.Lib.Pointwise
public import Idealize.ShloMosaic.Lib.IdealHost
public import Idealize.ShloMosaic.Lib.Pipeline.ValueKit

@[expose] public section

set_option maxRecDepth 16384
set_option maxHeartbeats 2000000

noncomputable section

namespace Cert.Ffn

open Cert.Kernel2Ideal Cert.Kernel2Ideal.Gen Idealize.ShloMosaic Idealize.ShloMosaic.TcCoe Idealize.SL.Sem

/-- A single-precision array of shape `s` over the extended reals. -/
abbrev T (s : Shape) : Type := FVec Ideal s .f32
/-- A bfloat16 array of shape `s` over the extended reals. -/
abbrev Tb (s : Shape) : Type := FVec Ideal s .bf16

theorem pay6_at (h : T S512x1024) (g : T S1x1024) (r : Fin 512) (d : Fin 1024) :
    (k0_pay6 (F := Ideal) h (k0_pay4 g) (k0_pay5 h) (ix2 r d) : EReal) = norm (fun e => g (ix2 0 e)) (fun e => h (ix2 r e)) d := by
  pointwise [k0_pay6, k0_pay4, k0_pay5, norm]

/-- Whether tile `a` is the first of its sequence, in the kernel's words. -/
def firstWord (a : BitVec 32) : BitVec 1 :=
  let n : BitVec 32 := Scalar.select (Scalar.cmpi .eq 8#32 0#32) 1#32 8#32
  let r : BitVec 32 := Scalar.remsi a n
  Scalar.cmpi .eq (Scalar.select (Scalar.andi (Scalar.xori (Scalar.cmpi .slt r 0#32) (Scalar.cmpi .slt n 0#32)) (Scalar.cmpi .ne r 0#32)) (Scalar.addi r n) r) 0#32

theorem first_at : ∀ i : Fin 64, firstWord (BitVec.ofNat 32 i) = if i.val % 8 = 0 then 1#1 else 0#1 := by
  decide +kernel

theorem pay3_at (i : Fin 64) (h : T S8x1024) (g : T S1x1024) (r : Fin 8) (d : Fin 1024) :
    (k0_pay3 (F := Ideal) (BitVec.ofNat 32 i) h g (ix2 r d) : EReal)
      = if i.val % 8 = 0 then 0 else norm (fun e => g (ix2 0 e)) (fun e => h (ix2 r e)) d := by
  pointwise [k0_pay3, norm]
  refine (congrArg (fun b => Scalar.select b _ _) (first_at i)).trans ?_
  by_cases h8 : i.val % 8 = 0
  · rw [if_pos h8, if_pos h8]
    rfl
  · rw [if_neg h8, if_neg h8]
    rfl

theorem pay2_at (h acc : T S512x1024) (g : T S1x1024) (r : Fin 512) (d : Fin 1024) :
    (k0_pay2 (F := Ideal) h acc g (ix2 r d) : EReal) = h (ix2 r d) + norm (fun e => g (ix2 0 e)) (fun e => acc (ix2 r e)) d := by
  pointwise [k0_pay2, norm]

theorem pay8_at (x : Tb S520x1024) (w : Tb S1024x1408) (cw : T S3x1408) (cb : T S1x1408) (r : Fin 512) (n : Fin 1408) :
    (k0_pay8 (F := Ideal) x w cw cb (ix2 r n) : EReal) = taps (cw (ix2 0 n)) (cw (ix2 1 n)) (cw (ix2 2 n)) (cb (ix2 0 n))
      (up (fun d => x (ix2 ⟨r + 6, by omega⟩ d)) fun d => w (ix2 d n)) (up (fun d => x (ix2 ⟨r + 7, by omega⟩ d)) fun d => w (ix2 d n))
      (up (fun d => x (ix2 ⟨r + 8, by omega⟩ d)) fun d => w (ix2 d n)) := by
  pointwise [k0_pay8, taps, up]
  have e6 : (8 + (r : ℕ) + 520 - 2) % 520 = r + 6 := by omega
  have e7 : (8 + (r : ℕ) + 520 - 1) % 520 = r + 7 := by omega
  have e8 : 8 + (r : ℕ) = r + 8 := by omega
  simp only [e6, e7]
  simp only [e8]

theorem pay1_at (x : Tb S520x1024) (gate : T S512x1408) (w : Tb S1024x1408) (cw : T S3x1408) (cb : T S1x1408) (acc : T S512x1024) (wd : Tb S1408x1024)
    (r : Fin 512) (d : Fin 1024) :
    (k0_pay1 (F := Ideal) gate (k0_pay9 x w) cw (k0_pay10 x w cw) (k0_pay11 cw) cb acc wd (ix2 r d) : EReal)
      = acc (ix2 r d) + ∑ n : Fin 1408, gelu (gate (ix2 r n)) * taps (cw (ix2 0 n)) (cw (ix2 1 n)) (cw (ix2 2 n)) (cb (ix2 0 n))
      (up (fun d => x (ix2 ⟨r + 6, by omega⟩ d)) fun d => w (ix2 d n)) (up (fun d => x (ix2 ⟨r + 7, by omega⟩ d)) fun d => w (ix2 d n))
      (up (fun d => x (ix2 ⟨r + 8, by omega⟩ d)) fun d => w (ix2 d n)) * wd (ix2 n d) := by
  pointwise [k0_pay1, k0_pay9, k0_pay10, k0_pay11, taps, up, gelu]
  have e6 : (8 + (r : ℕ) + 520 - 2) % 520 = r + 6 := by omega
  have e7 : (8 + (r : ℕ) + 520 - 1) % 520 = r + 7 := by omega
  have e8 : 8 + (r : ℕ) = r + 8 := by omega
  simp only [e6, e7]
  simp only [e8]

end Cert.Ffn
-- ==== Proof.Ffn.Idx.lean ====
/- The blocks the windows of the feed-forward grid stand at. -/
module

public import proofs.«01_k».proof.Proof.Gen.Kernel2Ideal.Value

@[expose] public section

set_option maxRecDepth 16384
set_option maxHeartbeats 1000000

noncomputable section

namespace Cert.Ffn

open Cert.Kernel2Ideal Cert.Kernel2Ideal.Gen Idealize.ShloMosaic Idealize.ShloMosaic.TcCoe Idealize.SL.Sem

/-- Which block each window reads or writes at a grid point: point `t` is tile `t / 2` of the rows and half `t % 2` of the channels. -/
theorem idx : ∀ t : Fin cfg0.N, win0_0.index t = ![t.val / 2, 0] ∧ win0_1.index t = ![t.val / 2 * 64 - 1, 0] ∧ win0_2.index t = ![0, 0]
    ∧ win0_3.index t = ![0, t.val % 2] ∧ win0_4.index t = ![0, 2 + t.val % 2] ∧ win0_5.index t = ![0, t.val % 2]
    ∧ win0_6.index t = ![0, 2 + t.val % 2] ∧ win0_7.index t = ![0, t.val % 2] ∧ win0_8.index t = ![0, 2 + t.val % 2]
    ∧ win0_9.index t = ![t.val % 2, 0] ∧ win0_10.index t = ![0, 0] ∧ win0_11.index t = ![t.val / 2, 0] ∧ (grid0.coords t 0).val = t.val / 2 :=
  (by decide +kernel : ∀ t : Fin grid0.N, _)

end Cert.Ffn
-- ==== Proof.Ffn.Blocks.lean ====
/- What the grid's points read: the windows' blocks as parts of the arguments. -/
module

public import proofs.«01_k».proof.Proof.Ffn.Body
public import proofs.«01_k».proof.Proof.Ffn.Idx
public import Idealize.ShloMosaic.Lib.Pipeline.ValueKit.Tiles
public import Idealize.ShloMosaic.Lib.Pipeline.ReadBack
public import Idealize.ShloMosaic.Lib.StableHlo.ReadAt

@[expose] public section

set_option maxRecDepth 100000
set_option maxHeartbeats 2000000

noncomputable section

namespace Cert.Ffn

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- The kernel's arguments. -/
def args : Args where
  x n d := (m ((c : Thread nD τ).loc main_arg0) : T S32768x1024) (ix2 n d)
  g1 d := (m ((c : Thread nD τ).loc main_arg1) : T S1024) (ix1 d)
  w d ch := (m ((c : Thread nD τ).loc main_arg2) : T S1024x5632) (ix2 d ch)
  cw k ch := (m ((c : Thread nD τ).loc main_arg3) : T S3x5632) (ix2 k ch)
  cb ch := (m ((c : Thread nD τ).loc main_arg4) : T S5632) (ix1 ch)
  wd f d := (m ((c : Thread nD τ).loc main_arg5) : T S2816x1024) (ix2 f d)
  g2 d := (m ((c : Thread nD τ).loc main_arg6) : T S1024) (ix1 d)

theorem V_x : V m c main_arg0 = m ((c : Thread nD τ).loc main_arg0) := by
  unfold V
  after_reads_simp

theorem V_cw : V m c main_arg3 = m ((c : Thread nD τ).loc main_arg3) := by
  unfold V
  after_reads_simp

theorem V_w : V m c main_v0 = (truncf .bf16 (m ((c : Thread nD τ).loc main_arg2) : T S1024x5632) bitsLt_bf16_f32 : Tb S1024x5632) := by
  unfold V
  after_reads_simp

theorem V_cb : V m c main_v1 = fun i => shapeCast S1x5632 (m ((c : Thread nD τ).loc main_arg4)) shapeCasts_S5632_S1x5632 i := by
  unfold V
  after_reads_simp
  rfl

theorem V_g1 : V m c main_v2 = fun i => shapeCast S1x1024 (m ((c : Thread nD τ).loc main_arg1)) shapeCasts_S1024_S1x1024 i := by
  unfold V
  after_reads_simp
  rfl

theorem V_wd : V m c main_v3 = (truncf .bf16 (m ((c : Thread nD τ).loc main_arg5) : T S2816x1024) bitsLt_bf16_f32 : Tb S2816x1024) := by
  unfold V
  after_reads_simp

theorem V_g2 : V m c main_v4 = fun i => shapeCast S1x1024 (m ((c : Thread nD τ).loc main_arg6)) shapeCasts_S1024_S1x1024 i := by
  unfold V
  after_reads_simp
  rfl

/-- The tile of rows of a grid point. -/
abbrev tl (t : Fin cfg0.N) : Fin 64 := ⟨t.val / 2, by have := lt_of_lt_of_eq t.isLt N_0; omega⟩

variable (t : Fin cfg0.N)

theorem blk_x (r : Fin 512) (d : Fin 1024) : (iblk m c 0 t : T S512x1024) (ix2 r d) = (args m c).x ⟨(tl t).val * 512 + r.val, by omega⟩ d := by
  have e : (win0_0.blk t).view.emb (ix2 r d) = ix2 (⟨(tl t).val * 512 + r.val, by omega⟩ : Fin 32768) d := by
    blk_ext [idx t]
  blk_simp [iblk, idx t]
  rw [e, V_x]
  rfl

theorem blk_h (r : Fin 8) (d : Fin 1024) :
    (iblk m c 1 t : T S8x1024) (ix2 r d) = (args m c).x ⟨((tl t).val * 64 - 1) * 8 + r.val, by omega⟩ d := by
  have e : (win0_1.blk t).view.emb (ix2 r d) = ix2 (⟨((tl t).val * 64 - 1) * 8 + r.val, by omega⟩ : Fin 32768) d := by
    blk_ext [idx t]
  blk_simp [iblk, idx t]
  rw [e, V_x]
  rfl

theorem blk_g1 (d : Fin 1024) : (iblk m c 2 t : T S1x1024) (ix2 0 d) = (args m c).g1 d := by
  have e : (win0_2.blk t).view.emb (ix2 0 d) = ix2 0 d := by
    blk_ext [idx t]
  blk_simp [iblk, idx t]
  rw [e, V_g1]
  pointwise [args]

theorem blk_g2 (d : Fin 1024) : (iblk m c 10 t : T S1x1024) (ix2 0 d) = (args m c).g2 d := by
  have e : (win0_10.blk t).view.emb (ix2 0 d) = ix2 0 d := by
    blk_ext [idx t]
  blk_simp [iblk, idx t]
  rw [e, V_g2]
  pointwise [args]

theorem blk_wg (d : Fin 1024) (n : Fin 1408) :
    (iblk m c 3 t : Tb S1024x1408) (ix2 d n) = (args m c).w d ⟨t.val % 2 * 1408 + n.val, by omega⟩ := by
  have e : (win0_3.blk t).view.emb (ix2 d n) = ix2 d (⟨t.val % 2 * 1408 + n.val, by omega⟩ : Fin 5632) := by
    blk_ext [idx t]
  blk_simp [iblk, idx t]
  rw [e, V_w]
  rfl

theorem blk_wu (d : Fin 1024) (n : Fin 1408) :
    (iblk m c 4 t : Tb S1024x1408) (ix2 d n) = (args m c).w d ⟨(2 + t.val % 2) * 1408 + n.val, by omega⟩ := by
  have e : (win0_4.blk t).view.emb (ix2 d n) = ix2 d (⟨(2 + t.val % 2) * 1408 + n.val, by omega⟩ : Fin 5632) := by
    blk_ext [idx t]
  blk_simp [iblk, idx t]
  rw [e, V_w]
  rfl

theorem blk_cwg (k : Fin 3) (n : Fin 1408) :
    (iblk m c 5 t : T S3x1408) (ix2 k n) = (args m c).cw k ⟨t.val % 2 * 1408 + n.val, by omega⟩ := by
  have e : (win0_5.blk t).view.emb (ix2 k n) = ix2 k (⟨t.val % 2 * 1408 + n.val, by omega⟩ : Fin 5632) := by
    blk_ext [idx t]
  blk_simp [iblk, idx t]
  rw [e, V_cw]
  rfl

theorem blk_cwu (k : Fin 3) (n : Fin 1408) :
    (iblk m c 6 t : T S3x1408) (ix2 k n) = (args m c).cw k ⟨(2 + t.val % 2) * 1408 + n.val, by omega⟩ := by
  have e : (win0_6.blk t).view.emb (ix2 k n) = ix2 k (⟨(2 + t.val % 2) * 1408 + n.val, by omega⟩ : Fin 5632) := by
    blk_ext [idx t]
  blk_simp [iblk, idx t]
  rw [e, V_cw]
  rfl

theorem blk_cbg (n : Fin 1408) : (iblk m c 7 t : T S1x1408) (ix2 0 n) = (args m c).cb ⟨t.val % 2 * 1408 + n.val, by omega⟩ := by
  have e : (win0_7.blk t).view.emb (ix2 0 n) = ix2 0 (⟨t.val % 2 * 1408 + n.val, by omega⟩ : Fin 5632) := by
    blk_ext [idx t]
  blk_simp [iblk, idx t]
  rw [e, V_cb]
  pointwise [args]

theorem blk_cbu (n : Fin 1408) : (iblk m c 8 t : T S1x1408) (ix2 0 n) = (args m c).cb ⟨(2 + t.val % 2) * 1408 + n.val, by omega⟩ := by
  have e : (win0_8.blk t).view.emb (ix2 0 n) = ix2 0 (⟨(2 + t.val % 2) * 1408 + n.val, by omega⟩ : Fin 5632) := by
    blk_ext [idx t]
  blk_simp [iblk, idx t]
  rw [e, V_cb]
  pointwise [args]

theorem blk_wd (n : Fin 1408) (d : Fin 1024) :
    (iblk m c 9 t : Tb S1408x1024) (ix2 n d) = (args m c).wd ⟨t.val % 2 * 1408 + n.val, by omega⟩ d := by
  have e : (win0_9.blk t).view.emb (ix2 n d) = ix2 (⟨t.val % 2 * 1408 + n.val, by omega⟩ : Fin 2816) d := by
    blk_ext [idx t]
  blk_simp [iblk, idx t]
  rw [e, V_wd]
  rfl

end Cert.Ffn
-- ==== Proof.Ffn.Rows.lean ====
/- What the grid's points leave behind. -/
module

public import proofs.«01_k».proof.Proof.Ffn.Blocks
public import Idealize.ShloMosaic.Lib.Pipeline.ValueKit.Tiles
public import Idealize.ShloMosaic.Lib.Pipeline.ReadBack
public import Idealize.ShloMosaic.Lib.StableHlo.ReadAt

@[expose] public section

set_option maxRecDepth 16384
set_option maxHeartbeats 2000000

noncomputable section

namespace Cert.Ffn

open Cert.Kernel2Ideal Cert.Kernel2Ideal.Gen Idealize.ShloMosaic Idealize.ShloMosaic.TcCoe Idealize.SL.Sem

variable (m : (ℓ : Loc nD τ sig) → Buf (Elt Ideal) ℓ) (c : Dev nD) (t : Fin cfg0.N)

/-- The two row ranges that a tile's first point stores. -/
abbrev rowsL : List (View.Piece (Elt Ideal) S520x1024 .bf16) :=
  [⟨Rect.unit ![8, 0] ![512, 1024] inb_S520x1024_S512x1024_8_0, k0_pay6 (iblk m c 0 t) (k0_pay4 (iblk m c 2 t)) (k0_pay5 (iblk m c 0 t))⟩,
    ⟨Rect.unit ![0, 0] ![8, 1024] inb_S520x1024_S8x1024_0_0, k0_pay3 (BitVec.ofNat 32 (grid0.coords t 0)) (iblk m c 1 t) (iblk m c 2 t)⟩]

theorem own_at (q : Fin 520) (d : Fin 1024) (r : Fin 512) (h : 8 + r.val = q.val) :
    (k0_pay6 (F := Ideal) (iblk m c 0 t) (k0_pay4 (iblk m c 2 t)) (k0_pay5 (iblk m c 0 t)) (ix2 r d) : EReal) = (args m c).tile (tl t) q d := by
  refine (pay6_at (iblk m c 0 t) (iblk m c 2 t) r d).trans ?_
  have e : (⟨(tl t).val * 512 + r.val, by omega⟩ : Fin 32768) = ⟨(tl t).val * 512 + q.val - 8, by omega⟩ := Fin.ext (by simp only; omega)
  have eg : (fun e => (iblk m c 2 t : T S1x1024) (ix2 0 e)) = (args m c).g1 := funext fun e => blk_g1 m c t e
  have ex : (fun e => (iblk m c 0 t : T S512x1024) (ix2 r e)) = (args m c).x ⟨(tl t).val * 512 + q.val - 8, by omega⟩ :=
    funext fun e' => (blk_x m c t r e').trans (by rw [e])
  rw [Args.tile, if_neg (by omega)]
  exact congrFun (congrArg₂ norm eg ex) d

theorem before_at (q : Fin 520) (d : Fin 1024) (r : Fin 8) (h : r.val = q.val) :
    (k0_pay3 (F := Ideal) (BitVec.ofNat 32 (grid0.coords t 0)) (iblk m c 1 t) (iblk m c 2 t) (ix2 r d) : EReal) = (args m c).tile (tl t) q d := by
  have ec : grid0.coords t 0 = tl t := Fin.ext (idx t).2.2.2.2.2.2.2.2.2.2.2.2
  rw [ec]
  clear ec
  refine (pay3_at (tl t) (iblk m c 1 t) (iblk m c 2 t) r d).trans ?_
  have hr := r.isLt
  have hi : (tl t).val < 64 := (tl t).isLt
  rw [Args.tile]
  by_cases h8 : (tl t).val % 8 = 0
  · rw [if_pos h8, if_pos ⟨by omega, h8⟩]
  · rw [if_neg h8, if_neg (by omega)]
    have e : (⟨((tl t).val * 64 - 1) * 8 + r.val, by omega⟩ : Fin 32768) = ⟨(tl t).val * 512 + q.val - 8, by omega⟩ := by
      apply Fin.ext
      show ((tl t).val * 64 - 1) * 8 + r.val = (tl t).val * 512 + q.val - 8
      generalize (tl t).val = i at *
      omega
    have eg : (fun e => (iblk m c 2 t : T S1x1024) (ix2 0 e)) = (args m c).g1 := funext fun e => blk_g1 m c t e
    have ex : (fun e => (iblk m c 1 t : T S8x1024) (ix2 r e)) = (args m c).x ⟨(tl t).val * 512 + q.val - 8, by omega⟩ :=
      funext fun e' => (blk_h m c t r e').trans (by rw [e])
    exact congrFun (congrArg₂ norm eg ex) d

/-- They are the tile's normalised rows. -/
theorem rowsL_at (q : Fin 520) (d : Fin 1024) : View.canon (rowsL m c t) (ix2 q d) = (args m c).tile (tl t) q d := by
  refine View.canon_eq_of_allAt _ _ _ ?_ ?_
  · by_cases hq : q.val < 8
    · refine ⟨_, List.mem_cons_of_mem _ List.mem_cons_self, ?_⟩
      rw [Rect.mem_set_unit]
      intro a
      fin_cases a
      · exact ⟨Nat.zero_le _, by show q.val < 0 + 8; omega⟩
      · exact ⟨Nat.zero_le _, by show d.val < 0 + 1024; omega⟩
    · refine ⟨_, List.mem_cons_self, ?_⟩
      rw [Rect.mem_set_unit]
      intro a
      fin_cases a
      · exact ⟨by show 8 ≤ q.val; omega, by show q.val < 8 + 512; omega⟩
      · exact ⟨Nat.zero_le _, by show d.val < 0 + 1024; omega⟩
  intro p hp x hx
  simp only [rowsL, List.mem_cons, List.mem_nil_iff, or_false] at hp
  rcases hp with rfl | rfl
  · have h0 : 8 + (x 0).val = q.val := by
      have := congrArg Fin.val (congrFun hx 0)
      simpa using this
    have h1 : (x 1) = d := by
      have := congrArg Fin.val (congrFun hx 1)
      apply Fin.ext
      simpa using this
    have hx' : x = ix2 (x 0) d := by funext a; fin_cases a; rfl; exact h1
    exact (congrArg _ hx').trans (own_at m c t q d (x 0) h0)
  · have h0 : (x 0).val = q.val := by
      have := congrArg Fin.val (congrFun hx 0)
      simpa using this
    have h1 : (x 1) = d := by
      have := congrArg Fin.val (congrFun hx 1)
      apply Fin.ext
      simpa using this
    have hx' : x = ix2 (x 0) d := by funext a; fin_cases a; rfl; exact h1
    exact (congrArg _ hx').trans (before_at m c t q d (x 0) h0)

/-- The first half of a tile leaves the tile's normalised rows. -/
theorem rows_at (h0 : t.val % 2 = 0) (q : Fin 520) (d : Fin 1024) :
    (outsAt0 m c t.val t.isLt).2.1 (ix2 q d) = (args m c).tile (tl t) q d := by
  have h1 : ¬t.val % 2 = 1 := by omega
  rw [outsAt0_A m c t h0 h1]
  dsimp only
  frame_out
  exact rowsL_at m c t q d

end Cert.Ffn
-- ==== Proof.Ffn.Points.lean ====
/- What the grid's points leave behind. -/
module

public import proofs.«01_k».proof.Proof.Ffn.Rows
public import Idealize.ShloMosaic.Lib.Pipeline.ValueKit.Tiles
public import Idealize.ShloMosaic.Lib.Pipeline.ReadBack
public import Idealize.ShloMosaic.Lib.StableHlo.ReadAt

@[expose] public section

set_option maxRecDepth 16384
set_option maxHeartbeats 2000000

noncomputable section

namespace Cert.Ffn

open Cert.Kernel2Ideal Cert.Kernel2Ideal.Gen Idealize.ShloMosaic Idealize.ShloMosaic.TcCoe Idealize.SL.Sem

/-- What a point adds to its accumulator, from the tile's normalised rows and the blocks of the weights. -/
theorem pay1_share (A : Args) (i : Fin 64) (h : Fin 2) (X : Tb S520x1024) (wg wu : Tb S1024x1408) (cwg cwu : T S3x1408) (cbg cbu : T S1x1408)
    (acc : T S512x1024) (wd : Tb S1408x1024)
    (hX : ∀ q d, (X (ix2 q d) : EReal) = A.tile i q d)
    (hwg : ∀ d (n : Fin 1408), (wg (ix2 d n) : EReal) = A.w d ⟨h.val * 1408 + n.val, by omega⟩)
    (hwu : ∀ d (n : Fin 1408), (wu (ix2 d n) : EReal) = A.w d ⟨(2 + h.val) * 1408 + n.val, by omega⟩)
    (hcwg : ∀ k (n : Fin 1408), (cwg (ix2 k n) : EReal) = A.cw k ⟨h.val * 1408 + n.val, by omega⟩)
    (hcwu : ∀ k (n : Fin 1408), (cwu (ix2 k n) : EReal) = A.cw k ⟨(2 + h.val) * 1408 + n.val, by omega⟩)
    (hcbg : ∀ n : Fin 1408, (cbg (ix2 0 n) : EReal) = A.cb ⟨h.val * 1408 + n.val, by omega⟩)
    (hcbu : ∀ n : Fin 1408, (cbu (ix2 0 n) : EReal) = A.cb ⟨(2 + h.val) * 1408 + n.val, by omega⟩)
    (hwd : ∀ (n : Fin 1408) d, (wd (ix2 n d) : EReal) = A.wd ⟨h.val * 1408 + n.val, by omega⟩ d) (r : Fin 512) (d : Fin 1024) :
    (k0_pay1 (F := Ideal) (k0_pay8 X wg cwg cbg) (k0_pay9 X wu) cwu (k0_pay10 X wu cwu) (k0_pay11 cwu) cbu acc wd (ix2 r d) : EReal)
      = acc (ix2 r d) + ∑ f : Fin 1408, A.act ⟨i.val * 512 + r.val, by omega⟩ ⟨h.val * 1408 + f.val, by omega⟩
          * A.wd ⟨h.val * 1408 + f.val, by omega⟩ d := by
  refine (pay1_at X (k0_pay8 X wg cwg cbg) wu cwu cbu acc wd r d).trans ?_
  refine congrArg _ (Finset.sum_congr rfl fun f _ => ?_)
  rw [hwd]
  refine congrArg (· * _) ?_
  have hrow : ∀ q, (fun d => (X (ix2 q d) : EReal)) = A.tile i q := fun q => funext fun d => hX q d
  have hg : (fun d => (wg (ix2 d f) : EReal)) = fun d => A.w d ⟨h.val * 1408 + f.val, by omega⟩ := funext fun d => hwg d f
  have hu : (fun d => (wu (ix2 d f) : EReal)) = fun d => A.w d ⟨(2 + h.val) * 1408 + f.val, by omega⟩ := funext fun d => hwu d f
  have e : (⟨2816 + (⟨h.val * 1408 + f.val, by omega⟩ : Fin 2816).val, by simp only; omega⟩ : Fin 5632) = ⟨(2 + h.val) * 1408 + f.val, by omega⟩ :=
    Fin.ext (by simp only; omega)
  rw [Args.act, e]
  refine congrArg₂ (fun a b => gelu a * b) ?_ ?_
  · refine (pay8_at X wg cwg cbg r f).trans ?_
    rw [hrow, hrow, hrow, hg, hcwg, hcwg, hcwg, hcbg]
    unfold Args.conv
    rw [← A.up_tile8 i r, ← A.up_tile 2 (by omega) i r, ← A.up_tile 1 (by omega) i r]
  · rw [hrow, hrow, hrow, hu, hcwu, hcwu, hcwu, hcbu]
    unfold Args.conv
    rw [← A.up_tile8 i r, ← A.up_tile 2 (by omega) i r, ← A.up_tile 1 (by omega) i r]

variable (m : (ℓ : Loc nD τ sig) → Buf (Elt Ideal) ℓ) (c : Dev nD) (t : Fin cfg0.N)

/-- One point's share of the down-projection: its 1408 gated channels. -/
def share (r : Fin 512) (d : Fin 1024) : EReal :=
  ∑ f : Fin 1408, (args m c).act ⟨(tl t).val * 512 + r.val, by omega⟩ ⟨t.val % 2 * 1408 + f.val, by omega⟩
    * (args m c).wd ⟨t.val % 2 * 1408 + f.val, by omega⟩ d

theorem step_at (X : Tb S520x1024) (acc : T S512x1024) (hX : ∀ q d, (X (ix2 q d) : EReal) = (args m c).tile (tl t) q d) (r : Fin 512) (d : Fin 1024) :
    (k0_pay1 (F := Ideal) (k0_pay8 X (iblk m c 3 t) (iblk m c 5 t) (iblk m c 7 t)) (k0_pay9 X (iblk m c 4 t)) (iblk m c 6 t)
        (k0_pay10 X (iblk m c 4 t) (iblk m c 6 t)) (k0_pay11 (iblk m c 6 t)) (iblk m c 8 t) acc (iblk m c 9 t) (ix2 r d) : EReal)
      = acc (ix2 r d) + share m c t r d :=
  pay1_share (args m c) (tl t) ⟨t.val % 2, by omega⟩ X (iblk m c 3 t) (iblk m c 4 t) (iblk m c 5 t) (iblk m c 6 t) (iblk m c 7 t) (iblk m c 8 t)
    acc (iblk m c 9 t) hX (blk_wg m c t) (blk_wu m c t) (blk_cwg m c t) (blk_cwu m c t) (blk_cbg m c t) (blk_cbu m c t) (blk_wd m c t) r d

theorem pay7_at (r : Fin 512) (d : Fin 1024) : (k0_pay7 (F := Ideal) (ix2 r d) : EReal) = 0 := by
  pointwise [k0_pay7]

/-- The first half of a tile leaves its own share in the accumulator. -/
theorem acc_at (h0 : t.val % 2 = 0) (r : Fin 512) (d : Fin 1024) :
    (outsAt0 m c t.val t.isLt).2.2 (ix2 r d) = share m c t r d := by
  have h1 : ¬t.val % 2 = 1 := by omega
  rw [outsAt0_A m c t h0 h1]
  dsimp only
  frame_out
  refine (step_at m c t _ _ (fun q d => ?_) r d).trans ?_
  · refine (congrFun (View.readCov_eq_canon' _ _ _) _).trans ?_
    refine (congrArg _ ?_).trans (rowsL_at m c t q d)
    funext a
    fin_cases a <;> (apply Fin.ext; simp)
  · rw [pay7_at, zero_add]

/-- The two points of a tile share its rows and take the two halves of the channels. -/
theorem shares (t' : Fin cfg0.N) (h0 : t'.val % 2 = 0) (h : t.val = t'.val + 1) (r : Fin 512) (d : Fin 1024) :
    share m c t' r d + share m c t r d = (args m c).ffn ⟨(tl t).val * 512 + r.val, by omega⟩ d := by
  have e : tl t' = tl t := Fin.ext (by show t'.val / 2 = t.val / 2; omega)
  have en : (⟨(tl t').val * 512 + r.val, by omega⟩ : Fin 32768) = ⟨(tl t).val * 512 + r.val, by omega⟩ := Fin.ext (by show t'.val / 2 * 512 + r.val = t.val / 2 * 512 + r.val; omega)
  rw [← Args.ffn_halves, share, share, en]
  congr 1
  · refine Finset.sum_congr rfl fun f _ => ?_
    have ef : (⟨t'.val % 2 * 1408 + f.val, by omega⟩ : Fin 2816) = ⟨f.val, by omega⟩ := Fin.ext (by show t'.val % 2 * 1408 + f.val = f.val; omega)
    rw [ef]
  · refine Finset.sum_congr rfl fun f _ => ?_
    have ef : (⟨t.val % 2 * 1408 + f.val, by omega⟩ : Fin 2816) = ⟨1408 + f.val, by omega⟩ := Fin.ext (by show t.val % 2 * 1408 + f.val = 1408 + f.val; omega)
    rw [ef]

/-- The second half of a tile leaves the layer's output. -/
theorem out_at (h1 : t.val % 2 = 1) (r : Fin 512) (d : Fin 1024) :
    (outsAt0 m c t.val t.isLt).1 (ix2 r d) = (args m c).out ⟨(tl t).val * 512 + r.val, by omega⟩ d := by
  have h0 : ¬t.val % 2 = 0 := by omega
  have hlt : t.val - 1 < cfg0.N := by have := t.isLt; omega
  have ht : (⟨t.val - 1, hlt⟩ : Fin cfg0.N).val % 2 = 0 := by show (t.val - 1) % 2 = 0; omega
  have hs : t.val = (⟨t.val - 1, hlt⟩ : Fin cfg0.N).val + 1 := by show t.val = t.val - 1 + 1; omega
  have e : tl ⟨t.val - 1, hlt⟩ = tl t := Fin.ext (by show (t.val - 1) / 2 = t.val / 2; omega)
  have hX : ∀ q d, ((outsAt0 m c (t.val - 1) hlt).2.1 (ix2 q d) : EReal) = (args m c).tile (tl t) q d := fun q d =>
    (rows_at m c ⟨t.val - 1, hlt⟩ ht q d).trans (by rw [e])
  have hA : ∀ r d, ((outsAt0 m c (t.val - 1) hlt).2.2 (ix2 r d) : EReal) = share m c ⟨t.val - 1, hlt⟩ r d := acc_at m c ⟨t.val - 1, hlt⟩ ht
  rw [outsAt0_B m c t h0 h1]
  dsimp only
  frame_out
  simp only [read_unread_whole]
  refine (pay2_at (iblk m c 0 t) _ (iblk m c 10 t) r d).trans ?_
  rw [Args.out]
  refine congrArg₂ (· + ·) (blk_x m c t r d) ?_
  refine congrFun (congrArg₂ norm (funext fun e => blk_g2 m c t e) (funext fun e => ?_)) d
  refine (step_at m c t _ _ hX r e).trans ?_
  rw [hA]
  exact shares m c t ⟨t.val - 1, hlt⟩ ht hs r e

/-- Where a grid point's output block lies. -/
theorem out_emb (y : S512x1024.Idx) :
    (win0_11.blk t).view.emb y = ix2 (⟨(tl t).val * 512 + (y 0).val, by have : (y 0).val < 512 := (y 0).isLt; omega⟩ : Fin 32768) (y 1) := by
  blk_ext [idx t]

/-- The kernel ends with the layer's output. -/
theorem final : (dats m 0 c).arrAt 11 cfg0.N = ((fun j => (args m c).out (j 0) (j 1)) : T S32768x1024) := by
  refine (dats m 0 c).arrAt_eq_of_covers 11 _ (by decide +kernel) fun t hf y => ?_
  have h1 : t.val % 2 = 1 := (flush0_11 t).mp hf
  have e := out_at m c t h1 (y 0) (y 1)
  have hy : y = ix2 (y 0) (y 1) := by funext a; fin_cases a <;> rfl
  rw [after0_11]
  blk_simp [idx t]
  rw [out_emb t y]
  exact (congrArg _ hy).trans e

end Cert.Ffn
-- ==== Proof.Ffn.Ref.lean ====
/- The feed-forward block of the plain reference, stage by stage, read at an index. -/
module

public import proofs.«01_k».proof.Proof.Gen.Reference2Ideal.Run
public import proofs.«01_k».proof.Proof.Ffn.Math
public import Idealize.ShloMosaic.Lib.Claim
public import Idealize.ShloMosaic.Lib.Pointwise
public import Idealize.ShloMosaic.Lib.IdealHost

@[expose] public section

set_option maxRecDepth 16384
set_option maxHeartbeats 2000000

noncomputable section

namespace Cert.Ffn.Ref

open Cert.Reference2Ideal Cert.Reference2Ideal.Gen Cert.Reference2Ideal.Value Idealize.ShloMosaic Idealize.ShloMosaic.TcCoe Idealize.SL.Sem

/-- A float array of shape `s` over the extended reals. -/
abbrev T (s : Shape) : Type := FVec Ideal s .f32

/-- The root-mean-square norm of every row, scaled. -/
def rnorm (x : T S8x4096x1024) (g : T S1024) : T S8x4096x1024 :=
  mulf (mulf x (broadcastInDim S8x4096x1024 ![0, 1, 2] bcast_S8x4096x1_S8x4096x1024_0_1_2
    (Host.rsqrt (addf (Host.divf (broadcastInDim S8x4096x1 ![0, 1] bcast_S8x4096_S8x4096x1_0_1
      (Host.reduceAdd (mulf x x) (constant S_ .f32 0x00000000#32) reducesTo_S8x4096x1024_S8x4096_d2 h_S_))
        (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- A row over the channels, at every batch and position. -/
def rows (w : T S5632) : T S8x4096x5632 :=
  broadcastInDim S8x4096x5632 ![0, 1, 2] bcast_S1x1x5632_S8x4096x5632_0_1_2 (broadcastInDim S1x1x5632 ![2] bcast_S5632_S1x1x5632_2 w)

/-- The up-projection with two zero positions before the first. -/
def padded (hu : T S8x4096x5632) : T S8x4098x5632 :=
  pad S8x4098x5632 ![0, 2, 0] ![0, 0, 0] ![0, 0, 0] hu (sitofp .f32 (constantI S_ 32 0#32)) pads_S8x4096x5632_S8x4098x5632_000_200_000 h_S_

/-- The three taps and the bias. -/
def cnv (hu : T S8x4096x5632) (cw : T S3x5632) (cb : T S5632) : T S8x4096x5632 :=
  addf (addf (addf (addf (broadcastInDim S8x4096x5632 ![] bcast_S_S8x4096x5632 (constant S_ .f32 0x00000000#32))
    (mulf (rows (shapeCast _ (extractStridedSlice S1x5632 ![0, 0] cw slices_S3x5632_S1x5632_0_0) shapeCasts_S1x5632_S5632))
      (extractStridedSlice S8x4096x5632 ![0, 0, 0] (padded hu) slices_S8x4098x5632_S8x4096x5632_0_0_0)))
    (mulf (rows (shapeCast _ (extractStridedSlice S1x5632 ![1, 0] cw slices_S3x5632_S1x5632_1_0) shapeCasts_S1x5632_S5632))
      (extractStridedSlice S8x4096x5632 ![0, 1, 0] (padded hu) slices_S8x4098x5632_S8x4096x5632_0_1_0)))
    (mulf (rows (shapeCast _ (extractStridedSlice S1x5632 ![2, 0] cw slices_S3x5632_S1x5632_2_0) shapeCasts_S1x5632_S5632))
      (extractStridedSlice S8x4096x5632 ![0, 2, 0] (padded hu) slices_S8x4098x5632_S8x4096x5632_0_2_0)))
    (rows cb)

/-- A constant over the gated channels. -/
def cst (w : BitVec 32) : T S8x4096x2816 := broadcastInDim S8x4096x2816 ![] bcast_S_S8x4096x2816 (constant S_ .f32 w)

/-- The gelu of one half times the other. -/
def gated (cv : T S8x4096x5632) : T S8x4096x2816 :=
  mulf (mulf (extractStridedSlice S8x4096x2816 ![0, 0, 0] cv slices_S8x4096x5632_S8x4096x2816_0_0_0)
    (mulf (cst 0x3F000000#32) (addf (cst 0x3F800000#32) (Host.tanh (mulf (cst 0x3F4C422A#32)
      (addf (extractStridedSlice S8x4096x2816 ![0, 0, 0] cv slices_S8x4096x5632_S8x4096x2816_0_0_0)
        (mulf (cst 0x3D372713#32) (mulf (mulf (extractStridedSlice S8x4096x2816 ![0, 0, 0] cv slices_S8x4096x5632_S8x4096x2816_0_0_0)
          (extractStridedSlice S8x4096x2816 ![0, 0, 0] cv slices_S8x4096x5632_S8x4096x2816_0_0_0))
            (extractStridedSlice S8x4096x2816 ![0, 0, 0] cv slices_S8x4096x5632_S8x4096x2816_0_0_0)))))))))
    (extractStridedSlice S8x4096x2816 ![0, 0, 2816] cv slices_S8x4096x5632_S8x4096x2816_0_0_2816)

/-- The block of its stages. -/
def all (x : T S32768x1024) (g1 : T S1024) (w : T S1024x5632) (cw : T S3x5632) (cb : T S5632) (wd : T S2816x1024) (g2 : T S1024) : T S32768x1024 :=
  shapeCast _ (addf (shapeCast S8x4096x1024 x shapeCasts_S32768x1024_S8x4096x1024)
    (rnorm (Host.dotGeneral dot_S8x4096x2816_S2816x1024_S8x4096x1024_2_0_01_1_n_n none
      (gated (cnv (Host.dotGeneral dot_S8x4096x1024_S1024x5632_S8x4096x5632_2_0_01_1_n_n none
        (rnorm (shapeCast S8x4096x1024 x shapeCasts_S32768x1024_S8x4096x1024) g1) w) cw cb)) wd) g2)) shapeCasts_S8x4096x1024_S32768x1024

theorem rnorm_at (x : T S8x4096x1024) (g : T S1024) (b : Fin 8) (t : Fin 4096) (d : Fin 1024) :
    (rnorm x g (ix3 b t d) : EReal) = norm (fun e => g (ix1 e)) (fun e => x (ix3 b t e)) d := by
  pointwise [rnorm, norm, num]

theorem up_at (x : T S8x4096x1024) (w : T S1024x5632) (b : Fin 8) (t : Fin 4096) (ch : Fin 5632) :
    (Host.dotGeneral dot_S8x4096x1024_S1024x5632_S8x4096x5632_2_0_01_1_n_n none x w (ix3 b t ch) : EReal)
      = up (fun d => x (ix3 b t d)) fun d => w (ix2 d ch) := by
  pointwise [up]

theorem down_at (x : T S8x4096x2816) (w : T S2816x1024) (b : Fin 8) (t : Fin 4096) (d : Fin 1024) :
    (Host.dotGeneral dot_S8x4096x2816_S2816x1024_S8x4096x1024_2_0_01_1_n_n none x w (ix3 b t d) : EReal)
      = ∑ f : Fin 2816, x (ix3 b t f) * w (ix2 f d) := by
  pointwise []

theorem gated_at (cv : T S8x4096x5632) (b : Fin 8) (t : Fin 4096) (f : Fin 2816) :
    (gated cv (ix3 b t f) : EReal) = gelu (cv (ix3 b t ⟨f.val, by omega⟩)) * cv (ix3 b t ⟨2816 + f.val, by omega⟩) := by
  pointwise [gated, cst, gelu, num]
  rw [mul_left_comm, mul_assoc (Ideal.ofBits .f32 _) (cv _) (1 + _)]

theorem rows_at (w : T S5632) (b : Fin 8) (t : Fin 4096) (ch : Fin 5632) : (rows w (ix3 b t ch) : EReal) = w (ix1 ch) := by
  pointwise [rows]

theorem padded_at (hu : T S8x4096x5632) (b : Fin 8) (t : Fin 4098) (ch : Fin 5632) :
    (padded hu (ix3 b t ch) : EReal) = if h : 2 ≤ t.val then hu (ix3 b ⟨t.val - 2, by omega⟩ ch) else 0 := by
  pointwise [padded]
  have hz : FloatOps.sitofp (F := Ideal) .f32 (0#32) = (0 : EReal) := by
    show (((0#32 : BitVec 32).toInt : ℝ) : EReal) = 0
    simp
  rw [hz]
  by_cases h : 2 ≤ t.val
  · rw [dif_pos ⟨h, by omega⟩, dif_pos h]
  · rw [dif_neg (fun hh => h hh.1), dif_neg h]

theorem cnv_at (hu : T S8x4096x5632) (cw : T S3x5632) (cb : T S5632) (b : Fin 8) (t : Fin 4096) (ch : Fin 5632) :
    (cnv hu cw cb (ix3 b t ch) : EReal) = taps (cw (ix2 0 ch)) (cw (ix2 1 ch)) (cw (ix2 2 ch)) (cb (ix1 ch))
      (if h : 2 ≤ t.val then hu (ix3 b ⟨t.val - 2, by omega⟩ ch) else 0) (if h : 1 ≤ t.val then hu (ix3 b ⟨t.val - 1, by omega⟩ ch) else 0)
      (hu (ix3 b t ch)) := by
  have h0 := padded_at hu b ⟨t.val, by omega⟩ ch
  have h1 := padded_at hu b ⟨1 + t.val, by omega⟩ ch
  have h2 := padded_at hu b ⟨2 + t.val, by omega⟩ ch
  generalize hp : padded hu = P at *
  pointwise [cnv, taps, hp, rows_at]
  rw [h0, h1, h2]
  have e1 : (if h : 2 ≤ 1 + t.val then (hu (ix3 b ⟨1 + t.val - 2, by omega⟩ ch) : EReal) else 0)
      = if h : 1 ≤ t.val then hu (ix3 b ⟨t.val - 1, by omega⟩ ch) else 0 := by
    by_cases h : 1 ≤ t.val
    · have e : (⟨1 + t.val - 2, by omega⟩ : Fin 4096) = ⟨t.val - 1, by omega⟩ := Fin.ext (by show 1 + t.val - 2 = t.val - 1; omega)
      rw [dif_pos (by omega), dif_pos h, e]
    · rw [dif_neg (by omega), dif_neg h]
  have e2 : (if h : 2 ≤ 2 + t.val then (hu (ix3 b ⟨2 + t.val - 2, by omega⟩ ch) : EReal) else 0) = hu (ix3 b t ch) := by
    have e : (⟨2 + t.val - 2, by omega⟩ : Fin 4096) = t := Fin.ext (by show 2 + t.val - 2 = t.val; omega)
    rw [dif_pos (by omega), e]
  exact congrArg₂ (fun p q => cw (ix2 0 ch) * (if h : 2 ≤ t.val then hu (ix3 b ⟨t.val - 2, by omega⟩ ch) else 0) + cw (ix2 1 ch) * p
    + cw (ix2 2 ch) * q + cb (ix1 ch)) e1 e2

theorem flat_at (x : T S32768x1024) (b : Fin 8) (t : Fin 4096) (d : Fin 1024) :
    (shapeCast S8x4096x1024 x shapeCasts_S32768x1024_S8x4096x1024 (ix3 b t d) : EReal) = x (ix2 ⟨b.val * 4096 + t.val, by omega⟩ d) := by
  pointwise []

theorem unflat_at (x : T S8x4096x1024) (n : Fin 32768) (d : Fin 1024) :
    (shapeCast S32768x1024 x shapeCasts_S8x4096x1024_S32768x1024 (ix2 n d) : EReal) = x (ix3 ⟨n.val / 4096, by omega⟩ ⟨n.val % 4096, by omega⟩ d) := by
  pointwise []

variable (x : T S32768x1024) (g1 : T S1024) (w : T S1024x5632) (cw : T S3x5632) (cb : T S5632) (wd : T S2816x1024) (g2 : T S1024)

/-- The arrays as functions of their indices. -/
def fns : Args where
  x n d := x (ix2 n d)
  g1 d := g1 (ix1 d)
  w d ch := w (ix2 d ch)
  cw k ch := cw (ix2 k ch)
  cb ch := cb (ix1 ch)
  wd f d := wd (ix2 f d)
  g2 d := g2 (ix1 d)

/-- The up-projection of the reference. -/
def huR : T S8x4096x5632 := Host.dotGeneral dot_S8x4096x1024_S1024x5632_S8x4096x5632_2_0_01_1_n_n none
  (rnorm (shapeCast S8x4096x1024 x shapeCasts_S32768x1024_S8x4096x1024) g1) w

theorem huR_at (b : Fin 8) (t : Fin 4096) (ch : Fin 5632) :
    (huR x g1 w (ix3 b t ch) : EReal) = (fns x g1 w cw cb wd g2).hu ⟨b.val * 4096 + t.val, by omega⟩ ch := by
  refine (up_at _ w b t ch).trans ?_
  simp only [rnorm_at, flat_at]
  rfl

theorem cnvR_at (b : Fin 8) (t : Fin 4096) (ch : Fin 5632) :
    (cnv (huR x g1 w) cw cb (ix3 b t ch) : EReal) = (fns x g1 w cw cb wd g2).conv ⟨b.val * 4096 + t.val, by omega⟩ ch := by
  refine (cnv_at _ cw cb b t ch).trans ?_
  simp only [huR_at x g1 w cw cb wd g2]
  have hm : (b.val * 4096 + t.val) % 4096 = t.val := by omega
  unfold Args.conv
  have e : ∀ k, k ≤ 2 → (if h : k ≤ t.val then (fns x g1 w cw cb wd g2).hu ⟨b.val * 4096 + (t.val - k), by omega⟩ ch else 0)
      = (fns x g1 w cw cb wd g2).back k ⟨b.val * 4096 + t.val, by omega⟩ ch := by
    intro k hk
    unfold Args.back
    by_cases h : k ≤ t.val
    · have ek : (⟨b.val * 4096 + (t.val - k), by omega⟩ : Fin 32768) = ⟨b.val * 4096 + t.val - k, by omega⟩ :=
        Fin.ext (by show b.val * 4096 + (t.val - k) = b.val * 4096 + t.val - k; omega)
      rw [dif_pos h, if_pos (by show k ≤ (b.val * 4096 + t.val) % 4096; omega), ek]
    · rw [dif_neg h, if_neg (by show ¬k ≤ (b.val * 4096 + t.val) % 4096; omega)]
  rw [e 2 (by omega), e 1 (by omega)]
  rfl

/-- The reference's output at an index. -/
theorem all_at (n : Fin 32768) (d : Fin 1024) : (all x g1 w cw cb wd g2 (ix2 n d) : EReal) = (fns x g1 w cw cb wd g2).out n d := by
  have en : (⟨(⟨n.val / 4096, by omega⟩ : Fin 8).val * 4096 + (⟨n.val % 4096, by omega⟩ : Fin 4096).val, by simp only; omega⟩ : Fin 32768) = n :=
    Fin.ext (by show n.val / 4096 * 4096 + n.val % 4096 = n.val; omega)
  refine (unflat_at _ n d).trans ?_
  refine (congrArg₂ (· + ·) (flat_at x _ _ d) (rnorm_at _ g2 _ _ d)).trans ?_
  simp only [down_at, gated_at]
  have hc : ∀ ch, (cnv (huR x g1 w) cw cb (ix3 ⟨n.val / 4096, by omega⟩ ⟨n.val % 4096, by omega⟩ ch) : EReal) = (fns x g1 w cw cb wd g2).conv n ch :=
    fun ch => (cnvR_at x g1 w cw cb wd g2 _ _ ch).trans (by rw [en])
  unfold huR at hc
  simp only [hc, en]
  rfl

end Cert.Ffn.Ref
-- ==== Proof.Ffn.RefEq.lean ====
/- The feed-forward block of the plain reference, as its stages. -/
module

public import proofs.«01_k».proof.Proof.Gen.Reference2Ideal.Run
public import proofs.«01_k».proof.Proof.Ffn.Ref
public import Idealize.ShloMosaic.Lib.Claim
public import Idealize.ShloMosaic.Lib.Pointwise
public import Idealize.ShloMosaic.Lib.IdealHost

@[expose] public section

set_option maxRecDepth 16384
set_option maxHeartbeats 2000000

noncomputable section

namespace Cert.Ffn.Ref

open Cert.Reference2Ideal Cert.Reference2Ideal.Gen Cert.Reference2Ideal.Value Idealize.ShloMosaic Idealize.ShloMosaic.TcCoe Idealize.SL.Sem

theorem result_eq (m : (ℓ : Loc nD τ sig) → Buf (Elt Ideal) ℓ) (c : Dev nD) :
    res_main_v72 m c = all (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  unfold res_main_v72
  simp only [all, rnorm, rows, padded, cnv, cst, gated]
  rfl

end Cert.Ffn.Ref
-- ==== Proof.Ffn.Claim.lean ====
/- The feed-forward block: the reference's frame, and the equality of the kernel's result with the reference's. -/
module

public import proofs.«01_k».proof.Proof.Ffn.Points
public import proofs.«01_k».proof.Proof.Ffn.RefEq
public import proofs.«01_k».proof.Defs
public import Idealize.ShloMosaic.Lib.Quiescent

@[expose] public section

set_option maxRecDepth 16384
set_option maxHeartbeats 1000000

noncomputable section

namespace Cert.Ffn

open Idealize.ShloMosaic Idealize.ShloMosaic.TcCoe Idealize.SL.Sem

/-- The reference runs, keeps its arguments, and leaves no counter above zero: it names no semaphore. -/
theorem reference_frame : Cert.quiescent_Reference2Ideal := fun m g _ =>
  (θ_run _ _ _).mono (fun r h => ⟨fun c => (h c).2, sem_eq_zero_of_no_sems (by decide) r.2⟩) (Cert.Reference2Ideal.Value.run m g)

/-- From the same arrays, the kernel's result and the reference's are equal. -/
theorem algebraic : Cert.algebraic_Kernel2Ideal_Reference2Ideal := by
  intro m g m' g' _ hargs
  refine ⟨fun c => (Cert.Kernel2Ideal.Gen.dats m 0 c).arrAt 11 Cert.Kernel2Ideal.cfg0.N, Cert.Kernel2Ideal.Value.run_blocks m g, ?_⟩
  refine (θ_run _ _ _).mono (fun s h c => ⟨(h c).1.trans ?_, (h c).2⟩) (Cert.Reference2Ideal.Value.run m' g')
  obtain ⟨e0, e1, e2, e3, e4, e5, e6⟩ := hargs c
  refine Eq.trans ?_ (final m c).symm
  refine (Ref.result_eq m' c).trans ?_
  funext j
  idx_vars j
  refine (Ref.all_at _ _ _ _ _ _ _ j0 j1).trans ?_
  rw [e0, e1, e2, e3, e4, e5, e6]
  rfl

end Cert.Ffn
-- ==== Proof.Ple.Math.lean ====
/- The gated per-layer embedding, as functions of the arrays' entries. -/
module

public import proofs.«01_k».proof.Proof.Ffn.Math

@[expose] public section

set_option maxRecDepth 16384
set_option maxHeartbeats 2000000

noncomputable section

namespace Cert.Ple

open Idealize.ShloMosaic Cert.Ffn

/-- The logistic function. -/
def logistic (y : EReal) : EReal := Ideal.div 1 (1 + Ideal.exp (-y))

/-- The arrays: the residual rows, the embedding's rows, the embedding's projection, the norm's scale, the gate's projection. -/
structure Args where
  h : Fin 32768 → Fin 1024 → EReal
  p : Fin 32768 → Fin 256 → EReal
  wp : Fin 256 → Fin 1024 → EReal
  g : Fin 1024 → EReal
  wg : Fin 1024 → Fin 1024 → EReal

/-- One row of the output. -/
def row (wp : Fin 256 → Fin 1024 → EReal) (g : Fin 1024 → EReal) (wg : Fin 1024 → Fin 1024 → EReal) (h : Fin 1024 → EReal) (p : Fin 256 → EReal)
    (d : Fin 1024) : EReal :=
  h d + logistic (∑ e, h e * wg e d) * norm g (fun e => ∑ k, p k * wp k e) d

/-- The output. -/
def Args.out (A : Args) (n : Fin 32768) (d : Fin 1024) : EReal := row A.wp A.g A.wg (A.h n) (A.p n) d

end Cert.Ple
-- ==== Proof.Ple.Points.lean ====
/- What the kernel of the gated per-layer embedding computes. -/
module

public import proofs.«01_k».proof.Proof.Gen.Kernel3Ideal.Value
public import proofs.«01_k».proof.Proof.Ple.Math
public import Idealize.ShloMosaic.Lib.Claim
public import Idealize.ShloMosaic.Lib.Pointwise
public import Idealize.ShloMosaic.Lib.IdealHost
public import Idealize.ShloMosaic.Lib.Pipeline.ValueKit
public import Idealize.ShloMosaic.Lib.StableHlo.ReadAt

@[expose] public section

set_option maxRecDepth 100000
set_option maxHeartbeats 400000

noncomputable section

namespace Cert.Ple

open Cert.Kernel3Ideal Cert.Kernel3Ideal.Gen Idealize.ShloMosaic Idealize.ShloMosaic.TcCoe Idealize.SL.Sem

/-- A float array of shape `s` over the extended reals. -/
abbrev T (s : Shape) : Type := FVec Ideal s .f32

/-- The same for the narrow format, whose values are the same reals. -/
abbrev Tb (s : Shape) : Type := FVec Ideal s .bf16

theorem pay1_at (h : T S512x1024) (p : T S512x256) (wp : Tb S256x1024) (g : T S1x1024) (wg : Tb S1024x1024) (r : Fin 512) (d : Fin 1024) :
    (k0_pay1 (F := Ideal) h p wp g wg (ix2 r d) : EReal)
      = row (fun k e => wp (ix2 k e)) (fun e => g (ix2 0 e)) (fun e d => wg (ix2 e d)) (fun e => h (ix2 r e)) (fun k => p (ix2 r k)) d := by
  pointwise [k0_pay1, row, logistic, Ffn.norm, Ffn.num]
  simp only [zero_sub]

theorem out_at (h : T S512x1024) (p : T S512x256) (wp : Tb S256x1024) (g : T S1x1024) (wg : Tb S1024x1024) (r : Fin 512) (d : Fin 1024) :
    (out0_5 (F := Ideal) h p wp g wg (ix2 r d) : EReal)
      = row (fun k e => wp (ix2 k e)) (fun e => g (ix2 0 e)) (fun e d => wg (ix2 e d)) (fun e => h (ix2 r e)) (fun k => p (ix2 r k)) d := by
  frame_out
  exact pay1_at h p wp g wg r d

theorem idx : ∀ t : Fin grid0.N, win0_0.index t = ![t.val, 0] ∧ win0_1.index t = ![t.val, 0] ∧ win0_2.index t = ![0, 0] ∧ win0_3.index t = ![0, 0]
    ∧ win0_4.index t = ![0, 0] ∧ win0_5.index t = ![t.val, 0] := by
  decide +kernel

variable (m : (ℓ : Loc nD τ sig) → Buf (Elt Ideal) ℓ) (c : Dev nD)

/-- The kernel's arguments. -/
def args : Args where
  h n d := (m ((c : Thread nD τ).loc main_arg0) : T S32768x1024) (ix2 n d)
  p n k := (m ((c : Thread nD τ).loc main_arg1) : T S8x4096x256) (ix3 ⟨n.val / 4096, by omega⟩ ⟨n.val % 4096, by omega⟩ k)
  wp k d := (m ((c : Thread nD τ).loc main_arg2) : T S256x1024) (ix2 k d)
  g d := (m ((c : Thread nD τ).loc main_arg3) : T S1024) (ix1 d)
  wg e d := (m ((c : Thread nD τ).loc main_arg4) : T S1024x1024) (ix2 e d)

theorem V_h : V m c main_arg0 = m ((c : Thread nD τ).loc main_arg0) := by
  unfold V
  after_reads_simp

theorem V_p : V m c main_v0 = fun i => shapeCast S32768x256 (m ((c : Thread nD τ).loc main_arg1)) shapeCasts_S8x4096x256_S32768x256 i := by
  unfold V
  after_reads_simp
  rfl

theorem V_wp : V m c main_v1 = (truncf .bf16 (m ((c : Thread nD τ).loc main_arg2) : T S256x1024) bitsLt_bf16_f32 : Tb S256x1024) := by
  unfold V
  after_reads_simp

theorem V_g : V m c main_v2 = fun i => shapeCast S1x1024 (m ((c : Thread nD τ).loc main_arg3)) shapeCasts_S1024_S1x1024 i := by
  unfold V
  after_reads_simp
  rfl

theorem V_wg : V m c main_v3 = (truncf .bf16 (m ((c : Thread nD τ).loc main_arg4) : T S1024x1024) bitsLt_bf16_f32 : Tb S1024x1024) := by
  unfold V
  after_reads_simp

variable (t : Fin cfg0.N)

theorem t_lt : t.val < 64 := lt_of_lt_of_eq t.isLt N_0

theorem blk_h (r : Fin 512) (d : Fin 1024) :
    (iblk m c 0 t : T S512x1024) (ix2 r d) = (args m c).h ⟨t.val * 512 + r.val, by have := t_lt t; omega⟩ d := by
  have e : (win0_0.blk t).view.emb (ix2 r d) = ix2 (⟨t.val * 512 + r.val, by have := t_lt t; omega⟩ : Fin 32768) d := by
    blk_ext [idx t]
  blk_simp [iblk, idx t]
  rw [e, V_h]
  rfl

theorem rows_at (x : T S8x4096x256) (n : Fin 32768) (k : Fin 256) :
    (shapeCast S32768x256 x shapeCasts_S8x4096x256_S32768x256 (ix2 n k) : EReal) = x (ix3 ⟨n.val / 4096, by omega⟩ ⟨n.val % 4096, by omega⟩ k) := by
  pointwise []

theorem blk_p (r : Fin 512) (k : Fin 256) :
    (iblk m c 1 t : T S512x256) (ix2 r k) = (args m c).p ⟨t.val * 512 + r.val, by have := t_lt t; omega⟩ k := by
  have e : (win0_1.blk t).view.emb (ix2 r k) = ix2 (⟨t.val * 512 + r.val, by have := t_lt t; omega⟩ : Fin 32768) k := by
    blk_ext [idx t]
  blk_simp [iblk, idx t]
  rw [e, V_p]
  exact rows_at _ _ _

theorem blk_wp (k : Fin 256) (d : Fin 1024) : (iblk m c 2 t : Tb S256x1024) (ix2 k d) = (args m c).wp k d := by
  have e : (win0_2.blk t).view.emb (ix2 k d) = ix2 k d := by
    blk_ext [idx t]
  blk_simp [iblk, idx t]
  rw [e, V_wp]
  rfl

theorem blk_g (d : Fin 1024) : (iblk m c 3 t : T S1x1024) (ix2 0 d) = (args m c).g d := by
  have e : (win0_3.blk t).view.emb (ix2 0 d) = ix2 0 d := by
    blk_ext [idx t]
  blk_simp [iblk, idx t]
  rw [e, V_g]
  pointwise [args]

theorem blk_wg (k d : Fin 1024) : (iblk m c 4 t : Tb S1024x1024) (ix2 k d) = (args m c).wg k d := by
  have e : (win0_4.blk t).view.emb (ix2 k d) = ix2 k d := by
    blk_ext [idx t]
  blk_simp [iblk, idx t]
  rw [e, V_wg]
  rfl

/-- Where a grid point's output block lies. -/
theorem out_emb (y : S512x1024.Idx) :
    (win0_5.blk t).view.emb y = ix2 (⟨t.val * 512 + (y 0).val, by have : (y 0).val < 512 := (y 0).isLt; have := t_lt t; omega⟩ : Fin 32768) (y 1) := by
  blk_ext [idx t]

/-- What one grid point leaves. -/
theorem point (r : Fin 512) (d : Fin 1024) :
    (out0_5 (F := Ideal) (iblk m c 0 t) (iblk m c 1 t) (iblk m c 2 t) (iblk m c 3 t) (iblk m c 4 t) (ix2 r d) : EReal)
      = (args m c).out ⟨t.val * 512 + r.val, by have := t_lt t; omega⟩ d := by
  refine (out_at (iblk m c 0 t) (iblk m c 1 t) (iblk m c 2 t) (iblk m c 3 t) (iblk m c 4 t) r d).trans ?_
  have h0 := blk_h m c t r
  have h1 := blk_p m c t r
  have h2 := blk_wp m c t
  have h3 := blk_g m c t
  have h4 := blk_wg m c t
  unfold Args.out
  exact congr (congr (congr (congr (congr (congrArg row (funext fun k => funext fun e => h2 k e)) (funext h3)) (funext fun k => funext fun e => h4 k e))
    (funext h0)) (funext h1)) rfl

/-- The kernel ends with the gated embedding added to the residual. -/
theorem final : (dats m 0 c).arrAt 5 cfg0.N = ((fun j => (args m c).out (j 0) (j 1)) : T S32768x1024) := by
  refine (dats m 0 c).arrAt_eq_of_covers 5 _ (by decide +kernel) fun t hf y => ?_
  have e := point m c t (y 0) (y 1)
  have hy : y = ix2 (y 0) (y 1) := by funext a; fin_cases a <;> rfl
  rw [after0_5]
  blk_simp [idx t]
  rw [out_emb t y]
  exact (congrArg _ hy).trans e

end Cert.Ple
-- ==== Proof.Ple.Ref.lean ====
/- The gated per-layer embedding of the plain reference, read at an index. -/
module

public import proofs.«01_k».proof.Proof.Gen.Reference3Ideal.Run
public import proofs.«01_k».proof.Proof.Ple.Math
public import Idealize.ShloMosaic.Lib.Claim
public import Idealize.ShloMosaic.Lib.Pointwise
public import Idealize.ShloMosaic.Lib.IdealHost

@[expose] public section

set_option maxRecDepth 16384
set_option maxHeartbeats 2000000

noncomputable section

namespace Cert.Ple.Ref

open Cert.Reference3Ideal Cert.Reference3Ideal.Gen Idealize.ShloMosaic Idealize.ShloMosaic.TcCoe Idealize.SL.Sem

/-- A float array of shape `s` over the extended reals. -/
abbrev T (s : Shape) : Type := FVec Ideal s .f32

/-- The root-mean-square norm of every row, scaled. -/
def rnorm (x : T S8x4096x1024) (g : T S1024) : T S8x4096x1024 :=
  mulf (mulf x (broadcastInDim S8x4096x1024 ![0, 1, 2] bcast_S8x4096x1_S8x4096x1024_0_1_2
    (Host.rsqrt (addf (Host.divf (broadcastInDim S8x4096x1 ![0, 1] bcast_S8x4096_S8x4096x1_0_1
      (Host.reduceAdd (mulf x x) (constant S_ .f32 0x00000000#32) reducesTo_S8x4096x1024_S8x4096_d2 h_S_))
        (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- One everywhere. -/
def ones : T S8x4096x1024 := broadcastInDim S8x4096x1024 ![] bcast_S_S8x4096x1024 (constant S_ .f32 0x3F800000#32)

variable (h : T S32768x1024) (p : T S8x4096x256) (wp : T S256x1024) (g : T S1024) (wg : T S1024x1024)

/-- The gate. -/
def gate : T S8x4096x1024 := Host.divf ones (addf ones (Host.exp (Host.negf
  (Host.dotGeneral dot_S8x4096x1024_S1024x1024_S8x4096x1024_2_0_01_1_n_n none (shapeCast _ h shapeCasts_S32768x1024_S8x4096x1024) wg))))

/-- The embedding's projection. -/
def emb : T S8x4096x1024 := Host.dotGeneral dot_S8x4096x256_S256x1024_S8x4096x1024_2_0_01_1_n_n none p wp

/-- The whole. -/
def all : T S32768x1024 :=
  shapeCast _ (addf (shapeCast S8x4096x1024 h shapeCasts_S32768x1024_S8x4096x1024) (mulf (gate h wg) (rnorm (emb p wp) g))) shapeCasts_S8x4096x1024_S32768x1024

theorem rnorm_at (x : T S8x4096x1024) (b : Fin 8) (t : Fin 4096) (d : Fin 1024) :
    (rnorm x g (ix3 b t d) : EReal) = Ffn.norm (fun e => g (ix1 e)) (fun e => x (ix3 b t e)) d := by
  pointwise [rnorm, Ffn.norm, Ffn.num]

theorem flat_at (b : Fin 8) (t : Fin 4096) (d : Fin 1024) :
    (shapeCast S8x4096x1024 h shapeCasts_S32768x1024_S8x4096x1024 (ix3 b t d) : EReal) = h (ix2 ⟨b.val * 4096 + t.val, by omega⟩ d) := by
  pointwise []

theorem gate_at (b : Fin 8) (t : Fin 4096) (d : Fin 1024) :
    (gate h wg (ix3 b t d) : EReal) = logistic (∑ e, h (ix2 ⟨b.val * 4096 + t.val, by omega⟩ e) * wg (ix2 e d)) := by
  pointwise [gate, ones, logistic, flat_at]

theorem emb_at (b : Fin 8) (t : Fin 4096) (d : Fin 1024) : (emb p wp (ix3 b t d) : EReal) = ∑ k, p (ix3 b t k) * wp (ix2 k d) := by
  pointwise [emb]

theorem unflat_at (x : T S8x4096x1024) (n : Fin 32768) (d : Fin 1024) :
    (shapeCast S32768x1024 x shapeCasts_S8x4096x1024_S32768x1024 (ix2 n d) : EReal) = x (ix3 ⟨n.val / 4096, by omega⟩ ⟨n.val % 4096, by omega⟩ d) := by
  pointwise []

/-- The arrays as functions of their indices. -/
def fns : Args where
  h n d := h (ix2 n d)
  p n k := p (ix3 ⟨n.val / 4096, by omega⟩ ⟨n.val % 4096, by omega⟩ k)
  wp k d := wp (ix2 k d)
  g d := g (ix1 d)
  wg e d := wg (ix2 e d)

/-- The reference's output at an index. -/
theorem all_at (n : Fin 32768) (d : Fin 1024) : (all h p wp g wg (ix2 n d) : EReal) = (fns h p wp g wg).out n d := by
  have en : (⟨(⟨n.val / 4096, by omega⟩ : Fin 8).val * 4096 + (⟨n.val % 4096, by omega⟩ : Fin 4096).val, by simp only; omega⟩ : Fin 32768) = n :=
    Fin.ext (by show n.val / 4096 * 4096 + n.val % 4096 = n.val; omega)
  refine (unflat_at _ n d).trans ?_
  refine (congrArg₂ (· + ·) (flat_at h _ _ d) (congrArg₂ (· * ·) (gate_at h wg _ _ d) (rnorm_at g _ _ _ d))).trans ?_
  simp only [emb_at, en]
  rfl

end Cert.Ple.Ref
-- ==== Proof.Ple.Claim.lean ====
/- The gated per-layer embedding: the reference's frame, and the equality of the kernel's result with the reference's. -/
module

public import proofs.«01_k».proof.Proof.Ple.Points
public import proofs.«01_k».proof.Proof.Ple.Ref
public import proofs.«01_k».proof.Defs
public import Idealize.ShloMosaic.Lib.Quiescent

@[expose] public section

set_option maxRecDepth 16384
set_option maxHeartbeats 2000000

noncomputable section

namespace Cert.Ple

open Idealize.ShloMosaic Idealize.ShloMosaic.TcCoe Idealize.SL.Sem

/-- The reference runs, keeps its arguments, and leaves no counter above zero: it names no semaphore. -/
theorem reference_frame : Cert.quiescent_Reference3Ideal := fun m g _ =>
  (θ_run _ _ _).mono (fun r h => ⟨fun c => (h c).2, sem_eq_zero_of_no_sems (by decide) r.2⟩) (Cert.Reference3Ideal.Value.run m g)

/-- From the same arrays, the kernel's result and the reference's are equal. -/
theorem algebraic : Cert.algebraic_Kernel3Ideal_Reference3Ideal := by
  intro m g m' g' _ hargs
  refine ⟨fun c => (Cert.Kernel3Ideal.Gen.dats m 0 c).arrAt 5 Cert.Kernel3Ideal.cfg0.N, Cert.Kernel3Ideal.Value.run_blocks m g, ?_⟩
  refine (θ_run _ _ _).mono (fun s h c => ⟨(h c).1.trans ?_, (h c).2⟩) (Cert.Reference3Ideal.Value.run m' g')
  obtain ⟨e0, e1, e2, e3, e4⟩ := hargs c
  refine Eq.trans ?_ (final m c).symm
  funext j
  idx_vars j
  refine (Ref.all_at _ _ _ _ _ j0 j1).trans ?_
  rw [e0, e1, e2, e3, e4]
  rfl

end Cert.Ple
-- ==== Proof.InProj.Math.lean ====
/- The input projection, and where its columns go. -/
module

public import proofs.«01_k».proof.Proof.Ffn.Math

@[expose] public section

set_option maxRecDepth 16384
set_option maxHeartbeats 1000000

noncomputable section

namespace Cert.InProj

open Idealize.ShloMosaic Cert.Ffn

/-- The recurrence's columns, with the two narrow groups padded with zeros to 128 columns. -/
def layRw (f : Fin 2834 → EReal) (c : Fin 1536) : EReal :=
  if h0 : c.val < 1216 then f ⟨c.val, by omega⟩
  else if h1 : c.val < 1280 then 0
  else if h2 : c.val < 1344 then f ⟨c.val - 64, by omega⟩
  else if h3 : c.val < 1408 then 0
  else f ⟨c.val - 128, by omega⟩

/-- The keys and values to be compressed, side by side in each group. -/
def layKcv (f : Fin 2834 → EReal) (g : Fin 2) (j : Fin 128) : EReal :=
  if h0 : j.val < 64 then f ⟨1792 + 64 * g.val + j.val, by omega⟩ else f ⟨1920 + 64 * g.val + (j.val - 64), by omega⟩

/-- The values of the selected blocks. -/
def layVs (f : Fin 2834 → EReal) (g : Fin 2) (d : Fin 64) : EReal := f ⟨2176 + 64 * g.val + d.val, by omega⟩

/-- The values of the window. -/
def layVw (f : Fin 2834 → EReal) (g : Fin 2) (d : Fin 64) : EReal := f ⟨2432 + 64 * g.val + d.val, by omega⟩

/-- The branches' gates, nine for each group, padded with zeros to sixteen. -/
def layGl (f : Fin 2834 → EReal) (r : Fin 32) : EReal :=
  if h0 : r.val < 9 then f ⟨2560 + r.val, by omega⟩
  else if h1 : r.val < 16 then 0
  else if h2 : r.val < 25 then f ⟨2569 + (r.val - 16), by omega⟩
  else 0

/-- The columns of the state-space group. -/
def layS5 (f : Fin 2834 → EReal) (c : Fin 256) : EReal := f ⟨2578 + c.val, by omega⟩

variable (n : Fin 1024 → EReal) (w : Fin 1024 → Fin 2834 → EReal)

theorem sum_layRw (c : Fin 1536) : ∑ e, n e * layRw (w e) c = layRw (fun k => ∑ e, n e * w e k) c := by
  unfold layRw
  split_ifs <;> simp

theorem sum_layKcv (g : Fin 2) (j : Fin 128) : ∑ e, n e * layKcv (w e) g j = layKcv (fun k => ∑ e, n e * w e k) g j := by
  unfold layKcv
  split_ifs <;> rfl

theorem sum_layVs (g : Fin 2) (d : Fin 64) : ∑ e, layVs (w e) g d * n e = layVs (fun k => ∑ e, n e * w e k) g d := by
  unfold layVs
  exact Finset.sum_congr rfl fun e _ => mul_comm _ _

theorem sum_layVw (g : Fin 2) (d : Fin 64) : ∑ e, layVw (w e) g d * n e = layVw (fun k => ∑ e, n e * w e k) g d := by
  unfold layVw
  exact Finset.sum_congr rfl fun e _ => mul_comm _ _

theorem sum_layGl (r : Fin 32) : ∑ e, layGl (w e) r * n e = layGl (fun k => ∑ e, n e * w e k) r := by
  unfold layGl
  split_ifs <;> first | exact Finset.sum_congr rfl fun e _ => mul_comm _ _ | simp

theorem sum_layS5 (c : Fin 256) : ∑ e, layS5 (w e) c * n e = layS5 (fun k => ∑ e, n e * w e k) c := by
  unfold layS5
  exact Finset.sum_congr rfl fun e _ => mul_comm _ _

/-- The arrays: the residual stream, the norm's scale, the projection. -/
structure Args where
  h : Fin 8 → Fin 4096 → Fin 1024 → EReal
  g : Fin 1024 → EReal
  w : Fin 1024 → Fin 2834 → EReal

/-- The projection of the normalised row. -/
def Args.z (A : Args) (b : Fin 8) (t : Fin 4096) (k : Fin 2834) : EReal := ∑ e, norm A.g (A.h b t) e * A.w e k

end Cert.InProj
-- ==== Proof.InProj.Body.lean ====
/- What one grid point of the input projection leaves in its output blocks. -/
module

public import proofs.«01_k».proof.Proof.Gen.Kernel4Ideal.Value
public import proofs.«01_k».proof.Proof.InProj.Math
public import Idealize.ShloMosaic.Lib.Claim
public import Idealize.ShloMosaic.Lib.Pointwise
public import Idealize.ShloMosaic.Lib.IdealHost
public import Idealize.ShloMosaic.Lib.Pipeline.ValueKit

@[expose] public section

set_option maxRecDepth 100000
set_option maxHeartbeats 1000000

noncomputable section

namespace Cert.InProj

open Cert.Kernel4Ideal Cert.Kernel4Ideal.Gen Idealize.ShloMosaic Idealize.ShloMosaic.TcCoe Idealize.SL.Sem Cert.Ffn

section
variable (h : FVec Ideal S1x256x1024 .f32) (g : FVec Ideal S1x1024 .f32) (wn : FVec Ideal S1024x2304 .bf16) (wt : FVec Ideal S1312x1024 .bf16)
  (q : FVec Ideal S768x1 .f32) (i : grid0.Coords)

theorem pay2_at (r : Fin 256) (e : Fin 1024) :
    (k0_pay2 (F := Ideal) h g (ix2 r e) : EReal) = norm (fun e => g (ix2 0 e)) (fun e => h (ix3 0 r e)) e := by
  pointwise [k0_pay2, Ffn.norm, Ffn.num]

theorem pay3_at (w : FVec Ideal S1024x1536 .bf16) (r : Fin 256) (c : Fin 1536) :
    (k0_pay3 (F := Ideal) h g w (ix3 0 r c) : EReal) = ∑ e, norm (fun e => g (ix2 0 e)) (fun e => h (ix3 0 r e)) e * w (ix2 e c) := by
  pointwise [k0_pay3, pay2_at]

theorem pay35_at (c : Fin 1312) (r : Fin 256) :
    (k0_pay35 (F := Ideal) i h g wn wt q (ix2 c r) : EReal) = ∑ e, wt (ix2 c e) * norm (fun e => g (ix2 0 e)) (fun e => h (ix3 0 r e)) e := by
  unfold k0_pay35 k0_pay29
  frame_out
  pointwise [k0_pay20, pay2_at]

theorem out5_at (r : Fin 256) (c : Fin 1536) :
    (out0_5 (F := Ideal) i h g wn wt q (ix3 0 r c) : EReal)
      = ∑ e, norm (fun e => g (ix2 0 e)) (fun e => h (ix3 0 r e)) e * wn (ix2 e ⟨c.val, by omega⟩) := by
  frame_out
  refine (pay3_at _ _ _ r c).trans ?_
  pointwise []

theorem out6_at (c r : Fin 256) :
    (out0_6 (F := Ideal) i h g wn wt q (ix3 0 c r) : EReal)
      = ∑ e, wt (ix2 ⟨1056 + c.val, by omega⟩ e) * norm (fun e => g (ix2 0 e)) (fun e => h (ix3 0 r e)) e := by
  unfold out0_6
  frame_out
  pointwise [k0_pay1, k0_pay28, pay35_at]

theorem out13_at (c : Fin 32) (r : Fin 256) :
    (out0_13 (F := Ideal) i h g wn wt q (ix3 0 c r) : EReal)
      = ∑ e, wt (ix2 ⟨1024 + c.val, by omega⟩ e) * norm (fun e => g (ix2 0 e)) (fun e => h (ix3 0 r e)) e := by
  unfold out0_13
  frame_out
  pointwise [k0_pay27, pay35_at]

theorem pay29_at (r : Fin 256) (e : Fin 1024) :
    (k0_pay29 (F := Ideal) i h g wn wt q (ix2 r e) : EReal) = norm (fun e => g (ix2 0 e)) (fun e => h (ix3 0 r e)) e := by
  unfold k0_pay29
  frame_out
  exact pay2_at h g r e

theorem out9_at (p : Fin 2) (r : Fin 256) (j : Fin 128) :
    (out0_9 (F := Ideal) i h g wn wt q (ix4 0 p r j) : EReal)
      = ∑ e, norm (fun e => g (ix2 0 e)) (fun e => h (ix3 0 r e)) e * wn (ix2 e ⟨2048 + (128 * p.val + j.val), by omega⟩) := by
  unfold out0_9
  canon_tiles x hx
  · pointwise [k0_pay19, k0_pay17, pay29_at]
    have a : p.val = 1 + (x 1).val := hx1
    have b : j.val = (x 3).val := hx3
    refine Finset.sum_congr rfl fun e _ => congrArg₂ (· * ·) ?_ ?_
    · exact congrArg (fun r => norm (fun e => g (ix2 0 e)) (fun e => h (ix3 0 r e)) e) (Fin.ext hx2.symm)
    · exact congrArg (fun k => wn (ix2 e k)) (Fin.ext (by show 2048 + (128 + (x 3).val) = 2048 + (128 * p.val + j.val); omega))
  · pointwise [k0_pay18, k0_pay17, pay29_at]
    have a : p.val = (x 1).val := hx1
    have b : j.val = (x 3).val := hx3
    refine Finset.sum_congr rfl fun e _ => congrArg₂ (· * ·) ?_ ?_
    · exact congrArg (fun r => norm (fun e => g (ix2 0 e)) (fun e => h (ix3 0 r e)) e) (Fin.ext hx2.symm)
    · exact congrArg (fun k => wn (ix2 e k)) (Fin.ext (by show 2048 + (x 3).val = 2048 + (128 * p.val + j.val); omega))

theorem out11_at (p : Fin 2) (d : Fin 64) (r : Fin 256) :
    (out0_11 (F := Ideal) i h g wn wt q (ix4 0 p d r) : EReal)
      = ∑ e, wt (ix2 ⟨768 + (64 * p.val + d.val), by omega⟩ e) * norm (fun e => g (ix2 0 e)) (fun e => h (ix3 0 r e)) e := by
  unfold out0_11
  canon_tiles x hx
  · pointwise [k0_pay25, pay35_at]
    have a : p.val = 1 + (x 1).val := hx1
    have b : d.val = (x 2).val := hx2
    refine Finset.sum_congr rfl fun e _ => congrArg₂ (· * ·) ?_ ?_
    · exact congrArg (fun k => wt (ix2 k e)) (Fin.ext (by show 832 + (x 2).val = 768 + (64 * p.val + d.val); omega))
    · exact congrArg (fun r => norm (fun e => g (ix2 0 e)) (fun e => h (ix3 0 r e)) e) (Fin.ext hx3.symm)
  · pointwise [k0_pay23, pay35_at]
    have a : p.val = (x 1).val := hx1
    have b : d.val = (x 2).val := hx2
    refine Finset.sum_congr rfl fun e _ => congrArg₂ (· * ·) ?_ ?_
    · exact congrArg (fun k => wt (ix2 k e)) (Fin.ext (by show 768 + (x 2).val = 768 + (64 * p.val + d.val); omega))
    · exact congrArg (fun r => norm (fun e => g (ix2 0 e)) (fun e => h (ix3 0 r e)) e) (Fin.ext hx3.symm)

theorem out12_at (p : Fin 2) (d : Fin 64) (r : Fin 256) :
    (out0_12 (F := Ideal) i h g wn wt q (ix4 0 p d r) : EReal)
      = ∑ e, wt (ix2 ⟨896 + (64 * p.val + d.val), by omega⟩ e) * norm (fun e => g (ix2 0 e)) (fun e => h (ix3 0 r e)) e := by
  unfold out0_12
  canon_tiles x hx
  · pointwise [k0_pay26, pay35_at]
    have a : p.val = 1 + (x 1).val := hx1
    have b : d.val = (x 2).val := hx2
    refine Finset.sum_congr rfl fun e _ => congrArg₂ (· * ·) ?_ ?_
    · exact congrArg (fun k => wt (ix2 k e)) (Fin.ext (by show 960 + (x 2).val = 896 + (64 * p.val + d.val); omega))
    · exact congrArg (fun r => norm (fun e => g (ix2 0 e)) (fun e => h (ix3 0 r e)) e) (Fin.ext hx3.symm)
  · pointwise [k0_pay24, pay35_at]
    have a : p.val = (x 1).val := hx1
    have b : d.val = (x 2).val := hx2
    refine Finset.sum_congr rfl fun e _ => congrArg₂ (· * ·) ?_ ?_
    · exact congrArg (fun k => wt (ix2 k e)) (Fin.ext (by show 896 + (x 2).val = 896 + (64 * p.val + d.val); omega))
    · exact congrArg (fun r => norm (fun e => g (ix2 0 e)) (fun e => h (ix3 0 r e)) e) (Fin.ext hx3.symm)

end

end Cert.InProj
-- ==== Proof.InProj.Weights.lean ====
/- The projection's columns as the kernel lays them out, read at an index. -/
module

public import proofs.«01_k».proof.Proof.Gen.Kernel4Ideal
public import proofs.«01_k».proof.Proof.InProj.Math
public import Idealize.ShloMosaic.Lib.Claim
public import Idealize.ShloMosaic.Lib.Pointwise
public import Idealize.ShloMosaic.Lib.IdealHost
public import Idealize.ShloMosaic.Lib.Pipeline.Value

@[expose] public section

set_option maxRecDepth 16384
set_option maxHeartbeats 1000000

noncomputable section

namespace Cert.InProj

open Cert.Kernel4Ideal Cert.Kernel4Ideal.Gen Idealize.ShloMosaic Idealize.ShloMosaic.TcCoe Idealize.SL.Sem

/-- A float array of shape `s` over the extended reals. -/
abbrev T (s : Shape) : Type := FVec Ideal s .f32

/-- The same for the narrow format, whose values are the same reals. -/
abbrev Tb (s : Shape) : Type := FVec Ideal s .bf16

/-- Zeros between the groups. -/
def zeros64 : T S1024x64 := broadcastInDim S1024x64 ![] bcast_S_S1024x64 (constant S_ .f32 0x00000000#32)

/-- Zeros after the gates. -/
def zeros7 : T S1024x7 := broadcastInDim S1024x7 ![] bcast_S_S1024x7 (constant S_ .f32 0x00000000#32)

variable (w : T S1024x2834)

/-- The attention's columns. -/
def rest : T S1024x1170 := extractStridedSlice S1024x1170 ![0, 1408] w slices_S1024x2834_S1024x1170_0_1408

/-- The recurrence's columns, the keys, and the first group's columns to be compressed. -/
def colsA : T S1024x2176 :=
  concatenate S1024x2176 1 [⟨S1024x1152, extractStridedSlice S1024x1152 ![0, 0] w slices_S1024x2834_S1024x1152_0_0⟩,
    ⟨S1024x64, extractStridedSlice S1024x64 ![0, 1152] w slices_S1024x2834_S1024x64_0_1152⟩,
    ⟨S1024x64, zeros64⟩,
    ⟨S1024x64, extractStridedSlice S1024x64 ![0, 1216] w slices_S1024x2834_S1024x64_0_1216⟩,
    ⟨S1024x64, zeros64⟩,
    ⟨S1024x128, extractStridedSlice S1024x128 ![0, 1280] w slices_S1024x2834_S1024x128_0_1280⟩,
    ⟨S1024x64, extractStridedSlice S1024x64 ![0, 640] (rest w) slices_S1024x1170_S1024x64_0_640⟩,
    ⟨S1024x64, zeros64⟩,
    ⟨S1024x64, extractStridedSlice S1024x64 ![0, 896] (rest w) slices_S1024x1170_S1024x64_0_896⟩,
    ⟨S1024x64, zeros64⟩,
    ⟨S1024x64, extractStridedSlice S1024x64 ![0, 704] (rest w) slices_S1024x1170_S1024x64_0_704⟩,
    ⟨S1024x64, zeros64⟩,
    ⟨S1024x64, extractStridedSlice S1024x64 ![0, 960] (rest w) slices_S1024x1170_S1024x64_0_960⟩,
    ⟨S1024x64, zeros64⟩,
    ⟨S1024x64, extractStridedSlice S1024x64 ![0, 384] (rest w) slices_S1024x1170_S1024x64_0_384⟩,
    ⟨S1024x64, extractStridedSlice S1024x64 ![0, 512] (rest w) slices_S1024x1170_S1024x64_0_512⟩]
    concatenates_S1024x1152_S1024x64_S1024x64_S1024x64_S1024x64_S1024x128_S1024x64_S1024x64_S1024x64_S1024x64_S1024x64_S1024x64_S1024x64_S1024x64_S1024x64_S1024x64_S1024x2176_d1

/-- The second group's columns to be compressed. -/
def colsB : T S1024x128 :=
  concatenate S1024x128 1 [⟨S1024x64, extractStridedSlice S1024x64 ![0, 448] (rest w) slices_S1024x1170_S1024x64_0_448⟩,
    ⟨S1024x64, extractStridedSlice S1024x64 ![0, 576] (rest w) slices_S1024x1170_S1024x64_0_576⟩]
    concatenates_S1024x64_S1024x64_S1024x128_d1

/-- The columns whose products are stored row by row. -/
def wn : T S1024x2304 := concatenate S1024x2304 1 [⟨S1024x2176, colsA w⟩, ⟨S1024x128, colsB w⟩] concatenates_S1024x2176_S1024x128_S1024x2304_d1

/-- The queries and the values. -/
def colsC : T S1024x1024 :=
  concatenate S1024x1024 1 [⟨S1024x64, extractStridedSlice S1024x64 ![0, 0] (rest w) slices_S1024x1170_S1024x64_0_0⟩,
    ⟨S1024x64, zeros64⟩,
    ⟨S1024x64, extractStridedSlice S1024x64 ![0, 64] (rest w) slices_S1024x1170_S1024x64_0_64⟩,
    ⟨S1024x64, zeros64⟩,
    ⟨S1024x64, extractStridedSlice S1024x64 ![0, 128] (rest w) slices_S1024x1170_S1024x64_0_128⟩,
    ⟨S1024x64, zeros64⟩,
    ⟨S1024x64, extractStridedSlice S1024x64 ![0, 192] (rest w) slices_S1024x1170_S1024x64_0_192⟩,
    ⟨S1024x64, zeros64⟩,
    ⟨S1024x64, extractStridedSlice S1024x64 ![0, 256] (rest w) slices_S1024x1170_S1024x64_0_256⟩,
    ⟨S1024x64, zeros64⟩,
    ⟨S1024x64, extractStridedSlice S1024x64 ![0, 320] (rest w) slices_S1024x1170_S1024x64_0_320⟩,
    ⟨S1024x64, zeros64⟩,
    ⟨S1024x64, extractStridedSlice S1024x64 ![0, 768] (rest w) slices_S1024x1170_S1024x64_0_768⟩,
    ⟨S1024x64, extractStridedSlice S1024x64 ![0, 832] (rest w) slices_S1024x1170_S1024x64_0_832⟩,
    ⟨S1024x64, extractStridedSlice S1024x64 ![0, 1024] (rest w) slices_S1024x1170_S1024x64_0_1024⟩,
    ⟨S1024x64, extractStridedSlice S1024x64 ![0, 1088] (rest w) slices_S1024x1170_S1024x64_0_1088⟩]
    concatenates_S1024x64_S1024x64_S1024x64_S1024x64_S1024x64_S1024x64_S1024x64_S1024x64_S1024x64_S1024x64_S1024x64_S1024x64_S1024x64_S1024x64_S1024x64_S1024x64_S1024x1024_d1

/-- The gates and the state-space group's columns. -/
def colsD : T S1024x288 :=
  concatenate S1024x288 1 [⟨S1024x9, extractStridedSlice S1024x9 ![0, 1152] (rest w) slices_S1024x1170_S1024x9_0_1152⟩,
    ⟨S1024x7, zeros7⟩,
    ⟨S1024x9, extractStridedSlice S1024x9 ![0, 1161] (rest w) slices_S1024x1170_S1024x9_0_1161⟩,
    ⟨S1024x7, zeros7⟩,
    ⟨S1024x256, extractStridedSlice S1024x256 ![0, 2578] w slices_S1024x2834_S1024x256_0_2578⟩]
    concatenates_S1024x9_S1024x7_S1024x9_S1024x7_S1024x256_S1024x288_d1

/-- The columns whose products are stored transposed. -/
def wt : T S1312x1024 :=
  transpose S1312x1024 [1, 0] (concatenate S1024x1312 1 [⟨S1024x1024, colsC w⟩, ⟨S1024x288, colsD w⟩] concatenates_S1024x1024_S1024x288_S1024x1312_d1)
    transposes_S1024x1312_S1312x1024_1_0

theorem zeros64_at (e : Fin 1024) (j : Fin 64) : (zeros64 (ix2 e j) : EReal) = 0 := by
  pointwise [zeros64]

theorem zeros7_at (e : Fin 1024) (j : Fin 7) : (zeros7 (ix2 e j) : EReal) = 0 := by
  pointwise [zeros7]

theorem colsA_0 (e : Fin 1024) (c : Fin 2176) (h : 0 ≤ c.val) (h' : c.val < 1152) :
    (colsA w (ix2 e c) : EReal) = w (ix2 e ⟨c.val - 0 + 0, by omega⟩) :=
  (concatenate_apply_piece 1 _ _ (ix2 e c) 0 (by show 0 < 16; decide) S1024x1152 (extractStridedSlice S1024x1152 ![0, 0] w slices_S1024x2834_S1024x1152_0_0) rfl rfl 0 rfl (ix2 e ⟨c.val - 0, by omega⟩)
    (by intro b hb; fin_cases b <;> first | rfl | exact absurd rfl hb) (by show 0 + (c.val - 0) = c.val; omega)).trans
    (by pointwise [rest]; all_goals first | rfl | (congr 2; apply Fin.ext; dsimp only; omega))

theorem colsA_1 (e : Fin 1024) (c : Fin 2176) (h : 1152 ≤ c.val) (h' : c.val < 1216) :
    (colsA w (ix2 e c) : EReal) = w (ix2 e ⟨c.val - 1152 + 1152, by omega⟩) :=
  (concatenate_apply_piece 1 _ _ (ix2 e c) 1 (by show 1 < 16; decide) S1024x64 (extractStridedSlice S1024x64 ![0, 1152] w slices_S1024x2834_S1024x64_0_1152) rfl rfl 1152 rfl (ix2 e ⟨c.val - 1152, by omega⟩)
    (by intro b hb; fin_cases b <;> first | rfl | exact absurd rfl hb) (by show 1152 + (c.val - 1152) = c.val; omega)).trans
    (by pointwise [rest]; all_goals first | rfl | (congr 2; apply Fin.ext; dsimp only; omega))

theorem colsA_2 (e : Fin 1024) (c : Fin 2176) (h : 1216 ≤ c.val) (h' : c.val < 1280) :
    (colsA w (ix2 e c) : EReal) = 0 :=
  (concatenate_apply_piece 1 _ _ (ix2 e c) 2 (by show 2 < 16; decide) S1024x64 (zeros64) rfl rfl 1216 rfl (ix2 e ⟨c.val - 1216, by omega⟩)
    (by intro b hb; fin_cases b <;> first | rfl | exact absurd rfl hb) (by show 1216 + (c.val - 1216) = c.val; omega)).trans
    (zeros64_at e _)

theorem colsA_3 (e : Fin 1024) (c : Fin 2176) (h : 1280 ≤ c.val) (h' : c.val < 1344) :
    (colsA w (ix2 e c) : EReal) = w (ix2 e ⟨c.val - 1280 + 1216, by omega⟩) :=
  (concatenate_apply_piece 1 _ _ (ix2 e c) 3 (by show 3 < 16; decide) S1024x64 (extractStridedSlice S1024x64 ![0, 1216] w slices_S1024x2834_S1024x64_0_1216) rfl rfl 1280 rfl (ix2 e ⟨c.val - 1280, by omega⟩)
    (by intro b hb; fin_cases b <;> first | rfl | exact absurd rfl hb) (by show 1280 + (c.val - 1280) = c.val; omega)).trans
    (by pointwise [rest]; all_goals first | rfl | (congr 2; apply Fin.ext; dsimp only; omega))

theorem colsA_4 (e : Fin 1024) (c : Fin 2176) (h : 1344 ≤ c.val) (h' : c.val < 1408) :
    (colsA w (ix2 e c) : EReal) = 0 :=
  (concatenate_apply_piece 1 _ _ (ix2 e c) 4 (by show 4 < 16; decide) S1024x64 (zeros64) rfl rfl 1344 rfl (ix2 e ⟨c.val - 1344, by omega⟩)
    (by intro b hb; fin_cases b <;> first | rfl | exact absurd rfl hb) (by show 1344 + (c.val - 1344) = c.val; omega)).trans
    (zeros64_at e _)

theorem colsA_5 (e : Fin 1024) (c : Fin 2176) (h : 1408 ≤ c.val) (h' : c.val < 1536) :
    (colsA w (ix2 e c) : EReal) = w (ix2 e ⟨c.val - 1408 + 1280, by omega⟩) :=
  (concatenate_apply_piece 1 _ _ (ix2 e c) 5 (by show 5 < 16; decide) S1024x128 (extractStridedSlice S1024x128 ![0, 1280] w slices_S1024x2834_S1024x128_0_1280) rfl rfl 1408 rfl (ix2 e ⟨c.val - 1408, by omega⟩)
    (by intro b hb; fin_cases b <;> first | rfl | exact absurd rfl hb) (by show 1408 + (c.val - 1408) = c.val; omega)).trans
    (by pointwise [rest]; all_goals first | rfl | (congr 2; apply Fin.ext; dsimp only; omega))

theorem colsA_14 (e : Fin 1024) (c : Fin 2176) (h : 2048 ≤ c.val) (h' : c.val < 2112) :
    (colsA w (ix2 e c) : EReal) = w (ix2 e ⟨c.val - 2048 + 1792, by omega⟩) :=
  (concatenate_apply_piece 1 _ _ (ix2 e c) 14 (by show 14 < 16; decide) S1024x64 (extractStridedSlice S1024x64 ![0, 384] (rest w) slices_S1024x1170_S1024x64_0_384) rfl rfl 2048 rfl (ix2 e ⟨c.val - 2048, by omega⟩)
    (by intro b hb; fin_cases b <;> first | rfl | exact absurd rfl hb) (by show 2048 + (c.val - 2048) = c.val; omega)).trans
    (by pointwise [rest]; all_goals first | rfl | (congr 2; apply Fin.ext; dsimp only; omega))

theorem colsA_15 (e : Fin 1024) (c : Fin 2176) (h : 2112 ≤ c.val) (h' : c.val < 2176) :
    (colsA w (ix2 e c) : EReal) = w (ix2 e ⟨c.val - 2112 + 1920, by omega⟩) :=
  (concatenate_apply_piece 1 _ _ (ix2 e c) 15 (by show 15 < 16; decide) S1024x64 (extractStridedSlice S1024x64 ![0, 512] (rest w) slices_S1024x1170_S1024x64_0_512) rfl rfl 2112 rfl (ix2 e ⟨c.val - 2112, by omega⟩)
    (by intro b hb; fin_cases b <;> first | rfl | exact absurd rfl hb) (by show 2112 + (c.val - 2112) = c.val; omega)).trans
    (by pointwise [rest]; all_goals first | rfl | (congr 2; apply Fin.ext; dsimp only; omega))

theorem colsB_0 (e : Fin 1024) (c : Fin 128) (h : 0 ≤ c.val) (h' : c.val < 64) :
    (colsB w (ix2 e c) : EReal) = w (ix2 e ⟨c.val - 0 + 1856, by omega⟩) :=
  (concatenate_apply_piece 1 _ _ (ix2 e c) 0 (by show 0 < 2; decide) S1024x64 (extractStridedSlice S1024x64 ![0, 448] (rest w) slices_S1024x1170_S1024x64_0_448) rfl rfl 0 rfl (ix2 e ⟨c.val - 0, by omega⟩)
    (by intro b hb; fin_cases b <;> first | rfl | exact absurd rfl hb) (by show 0 + (c.val - 0) = c.val; omega)).trans
    (by pointwise [rest]; all_goals first | rfl | (congr 2; apply Fin.ext; dsimp only; omega))

theorem colsB_1 (e : Fin 1024) (c : Fin 128) (h : 64 ≤ c.val) (h' : c.val < 128) :
    (colsB w (ix2 e c) : EReal) = w (ix2 e ⟨c.val - 64 + 1984, by omega⟩) :=
  (concatenate_apply_piece 1 _ _ (ix2 e c) 1 (by show 1 < 2; decide) S1024x64 (extractStridedSlice S1024x64 ![0, 576] (rest w) slices_S1024x1170_S1024x64_0_576) rfl rfl 64 rfl (ix2 e ⟨c.val - 64, by omega⟩)
    (by intro b hb; fin_cases b <;> first | rfl | exact absurd rfl hb) (by show 64 + (c.val - 64) = c.val; omega)).trans
    (by pointwise [rest]; all_goals first | rfl | (congr 2; apply Fin.ext; dsimp only; omega))

theorem colsC_12 (e : Fin 1024) (c : Fin 1024) (h : 768 ≤ c.val) (h' : c.val < 832) :
    (colsC w (ix2 e c) : EReal) = w (ix2 e ⟨c.val - 768 + 2176, by omega⟩) :=
  (concatenate_apply_piece 1 _ _ (ix2 e c) 12 (by show 12 < 16; decide) S1024x64 (extractStridedSlice S1024x64 ![0, 768] (rest w) slices_S1024x1170_S1024x64_0_768) rfl rfl 768 rfl (ix2 e ⟨c.val - 768, by omega⟩)
    (by intro b hb; fin_cases b <;> first | rfl | exact absurd rfl hb) (by show 768 + (c.val - 768) = c.val; omega)).trans
    (by pointwise [rest]; all_goals first | rfl | (congr 2; apply Fin.ext; dsimp only; omega))

theorem colsC_13 (e : Fin 1024) (c : Fin 1024) (h : 832 ≤ c.val) (h' : c.val < 896) :
    (colsC w (ix2 e c) : EReal) = w (ix2 e ⟨c.val - 832 + 2240, by omega⟩) :=
  (concatenate_apply_piece 1 _ _ (ix2 e c) 13 (by show 13 < 16; decide) S1024x64 (extractStridedSlice S1024x64 ![0, 832] (rest w) slices_S1024x1170_S1024x64_0_832) rfl rfl 832 rfl (ix2 e ⟨c.val - 832, by omega⟩)
    (by intro b hb; fin_cases b <;> first | rfl | exact absurd rfl hb) (by show 832 + (c.val - 832) = c.val; omega)).trans
    (by pointwise [rest]; all_goals first | rfl | (congr 2; apply Fin.ext; dsimp only; omega))

theorem colsC_14 (e : Fin 1024) (c : Fin 1024) (h : 896 ≤ c.val) (h' : c.val < 960) :
    (colsC w (ix2 e c) : EReal) = w (ix2 e ⟨c.val - 896 + 2432, by omega⟩) :=
  (concatenate_apply_piece 1 _ _ (ix2 e c) 14 (by show 14 < 16; decide) S1024x64 (extractStridedSlice S1024x64 ![0, 1024] (rest w) slices_S1024x1170_S1024x64_0_1024) rfl rfl 896 rfl (ix2 e ⟨c.val - 896, by omega⟩)
    (by intro b hb; fin_cases b <;> first | rfl | exact absurd rfl hb) (by show 896 + (c.val - 896) = c.val; omega)).trans
    (by pointwise [rest]; all_goals first | rfl | (congr 2; apply Fin.ext; dsimp only; omega))

theorem colsC_15 (e : Fin 1024) (c : Fin 1024) (h : 960 ≤ c.val) (h' : c.val < 1024) :
    (colsC w (ix2 e c) : EReal) = w (ix2 e ⟨c.val - 960 + 2496, by omega⟩) :=
  (concatenate_apply_piece 1 _ _ (ix2 e c) 15 (by show 15 < 16; decide) S1024x64 (extractStridedSlice S1024x64 ![0, 1088] (rest w) slices_S1024x1170_S1024x64_0_1088) rfl rfl 960 rfl (ix2 e ⟨c.val - 960, by omega⟩)
    (by intro b hb; fin_cases b <;> first | rfl | exact absurd rfl hb) (by show 960 + (c.val - 960) = c.val; omega)).trans
    (by pointwise [rest]; all_goals first | rfl | (congr 2; apply Fin.ext; dsimp only; omega))

theorem colsD_0 (e : Fin 1024) (c : Fin 288) (h : 0 ≤ c.val) (h' : c.val < 9) :
    (colsD w (ix2 e c) : EReal) = w (ix2 e ⟨c.val - 0 + 2560, by omega⟩) :=
  (concatenate_apply_piece 1 _ _ (ix2 e c) 0 (by show 0 < 5; decide) S1024x9 (extractStridedSlice S1024x9 ![0, 1152] (rest w) slices_S1024x1170_S1024x9_0_1152) rfl rfl 0 rfl (ix2 e ⟨c.val - 0, by omega⟩)
    (by intro b hb; fin_cases b <;> first | rfl | exact absurd rfl hb) (by show 0 + (c.val - 0) = c.val; omega)).trans
    (by pointwise [rest]; all_goals first | rfl | (congr 2; apply Fin.ext; dsimp only; omega))

theorem colsD_1 (e : Fin 1024) (c : Fin 288) (h : 9 ≤ c.val) (h' : c.val < 16) :
    (colsD w (ix2 e c) : EReal) = 0 :=
  (concatenate_apply_piece 1 _ _ (ix2 e c) 1 (by show 1 < 5; decide) S1024x7 (zeros7) rfl rfl 9 rfl (ix2 e ⟨c.val - 9, by omega⟩)
    (by intro b hb; fin_cases b <;> first | rfl | exact absurd rfl hb) (by show 9 + (c.val - 9) = c.val; omega)).trans
    (zeros7_at e _)

theorem colsD_2 (e : Fin 1024) (c : Fin 288) (h : 16 ≤ c.val) (h' : c.val < 25) :
    (colsD w (ix2 e c) : EReal) = w (ix2 e ⟨c.val - 16 + 2569, by omega⟩) :=
  (concatenate_apply_piece 1 _ _ (ix2 e c) 2 (by show 2 < 5; decide) S1024x9 (extractStridedSlice S1024x9 ![0, 1161] (rest w) slices_S1024x1170_S1024x9_0_1161) rfl rfl 16 rfl (ix2 e ⟨c.val - 16, by omega⟩)
    (by intro b hb; fin_cases b <;> first | rfl | exact absurd rfl hb) (by show 16 + (c.val - 16) = c.val; omega)).trans
    (by pointwise [rest]; all_goals first | rfl | (congr 2; apply Fin.ext; dsimp only; omega))

theorem colsD_3 (e : Fin 1024) (c : Fin 288) (h : 25 ≤ c.val) (h' : c.val < 32) :
    (colsD w (ix2 e c) : EReal) = 0 :=
  (concatenate_apply_piece 1 _ _ (ix2 e c) 3 (by show 3 < 5; decide) S1024x7 (zeros7) rfl rfl 25 rfl (ix2 e ⟨c.val - 25, by omega⟩)
    (by intro b hb; fin_cases b <;> first | rfl | exact absurd rfl hb) (by show 25 + (c.val - 25) = c.val; omega)).trans
    (zeros7_at e _)

theorem colsD_4 (e : Fin 1024) (c : Fin 288) (h : 32 ≤ c.val) (h' : c.val < 288) :
    (colsD w (ix2 e c) : EReal) = w (ix2 e ⟨c.val - 32 + 2578, by omega⟩) :=
  (concatenate_apply_piece 1 _ _ (ix2 e c) 4 (by show 4 < 5; decide) S1024x256 (extractStridedSlice S1024x256 ![0, 2578] w slices_S1024x2834_S1024x256_0_2578) rfl rfl 32 rfl (ix2 e ⟨c.val - 32, by omega⟩)
    (by intro b hb; fin_cases b <;> first | rfl | exact absurd rfl hb) (by show 32 + (c.val - 32) = c.val; omega)).trans
    (by pointwise [rest]; all_goals first | rfl | (congr 2; apply Fin.ext; dsimp only; omega))

theorem wn_A (e : Fin 1024) (c : Fin 2304) (h : c.val < 2176) : (wn w (ix2 e c) : EReal) = colsA w (ix2 e ⟨c.val, h⟩) := by
  unfold wn
  exact concatenate_apply_piece 1 _ _ (ix2 e c) 0 (by show 0 < 2; decide) S1024x2176 (colsA w) rfl rfl 0 rfl (ix2 e ⟨c.val, h⟩)
    (by intro b hb; fin_cases b <;> first | rfl | exact absurd rfl hb) (by show 0 + c.val = c.val; omega)

theorem wn_B (e : Fin 1024) (c : Fin 2304) (h : 2176 ≤ c.val) : (wn w (ix2 e c) : EReal) = colsB w (ix2 e ⟨c.val - 2176, by omega⟩) := by
  unfold wn
  exact concatenate_apply_piece 1 _ _ (ix2 e c) 1 (by show 1 < 2; decide) S1024x128 (colsB w) rfl rfl 2176 rfl (ix2 e ⟨c.val - 2176, by omega⟩)
    (by intro b hb; fin_cases b <;> first | rfl | exact absurd rfl hb) (by show 2176 + (c.val - 2176) = c.val; omega)

theorem wt_C (e : Fin 1024) (c : Fin 1312) (h : c.val < 1024) : (wt w (ix2 c e) : EReal) = colsC w (ix2 e ⟨c.val, h⟩) := by
  have et : (wt w (ix2 c e) : EReal) = concatenate S1024x1312 1 [⟨S1024x1024, colsC w⟩, ⟨S1024x288, colsD w⟩]
      concatenates_S1024x1024_S1024x288_S1024x1312_d1 (ix2 e c) := by
    unfold wt
    exact congrArg (concatenate S1024x1312 1 [⟨S1024x1024, colsC w⟩, ⟨S1024x288, colsD w⟩] concatenates_S1024x1024_S1024x288_S1024x1312_d1)
      (show transposes_S1024x1312_S1312x1024_1_0.src (ix2 c e) = ix2 e c from by funext b; fin_cases b <;> rfl)
  exact et.trans (concatenate_apply_piece 1 _ _ (ix2 e c) 0 (by show 0 < 2; decide) S1024x1024 (colsC w) rfl rfl 0 rfl (ix2 e ⟨c.val, h⟩)
    (by intro b hb; fin_cases b <;> first | rfl | exact absurd rfl hb) (by show 0 + c.val = c.val; omega))

theorem wt_D (e : Fin 1024) (c : Fin 1312) (h : 1024 ≤ c.val) : (wt w (ix2 c e) : EReal) = colsD w (ix2 e ⟨c.val - 1024, by omega⟩) := by
  have et : (wt w (ix2 c e) : EReal) = concatenate S1024x1312 1 [⟨S1024x1024, colsC w⟩, ⟨S1024x288, colsD w⟩]
      concatenates_S1024x1024_S1024x288_S1024x1312_d1 (ix2 e c) := by
    unfold wt
    exact congrArg (concatenate S1024x1312 1 [⟨S1024x1024, colsC w⟩, ⟨S1024x288, colsD w⟩] concatenates_S1024x1024_S1024x288_S1024x1312_d1)
      (show transposes_S1024x1312_S1312x1024_1_0.src (ix2 c e) = ix2 e c from by funext b; fin_cases b <;> rfl)
  exact et.trans (concatenate_apply_piece 1 _ _ (ix2 e c) 1 (by show 1 < 2; decide) S1024x288 (colsD w) rfl rfl 1024 rfl (ix2 e ⟨c.val - 1024, by omega⟩)
    (by intro b hb; fin_cases b <;> first | rfl | exact absurd rfl hb) (by show 1024 + (c.val - 1024) = c.val; omega))

theorem same (e : Fin 1024) (k k' : Fin 2834) (h : k.val = k'.val) : (w (ix2 e k) : EReal) = w (ix2 e k') := by
  rw [Fin.ext h]

theorem wn_rw (e : Fin 1024) (c : Fin 1536) : (wn w (ix2 e ⟨c.val, by omega⟩) : EReal) = layRw (fun k => w (ix2 e k)) c := by
  refine (wn_A w e _ (by show c.val < 2176; omega)).trans ?_
  unfold layRw
  split_ifs with h0 h1 h2 h3
  · by_cases h : c.val < 1152
    · exact (colsA_0 w e _ (by show 0 ≤ c.val; omega) h).trans (same w e _ _ (by show c.val - 0 + 0 = c.val; omega))
    · exact (colsA_1 w e _ (by show 1152 ≤ c.val; omega) h0).trans (same w e _ _ (by show c.val - 1152 + 1152 = c.val; omega))
  · exact colsA_2 w e _ (by show 1216 ≤ c.val; omega) h1
  · exact (colsA_3 w e _ (by show 1280 ≤ c.val; omega) h2).trans (same w e _ _ (by show c.val - 1280 + 1216 = c.val - 64; omega))
  · exact colsA_4 w e _ (by show 1344 ≤ c.val; omega) h3
  · exact (colsA_5 w e _ (by show 1408 ≤ c.val; omega) (by show c.val < 1536; omega)).trans
      (same w e _ _ (by show c.val - 1408 + 1280 = c.val - 128; omega))

theorem wn_kcv (e : Fin 1024) (g : Fin 2) (j : Fin 128) :
    (wn w (ix2 e ⟨2048 + (128 * g.val + j.val), by omega⟩) : EReal) = layKcv (fun k => w (ix2 e k)) g j := by
  unfold layKcv
  rcases (by omega : g.val = 0 ∨ g.val = 1) with hg | hg
  · refine (wn_A w e _ (by show 2048 + (128 * g.val + j.val) < 2176; omega)).trans ?_
    split_ifs with h
    · exact (colsA_14 w e _ (by show 2048 ≤ 2048 + (128 * g.val + j.val); omega) (by show 2048 + (128 * g.val + j.val) < 2112; omega)).trans
        (same w e _ _ (by show 2048 + (128 * g.val + j.val) - 2048 + 1792 = 1792 + 64 * g.val + j.val; omega))
    · exact (colsA_15 w e _ (by show 2112 ≤ 2048 + (128 * g.val + j.val); omega) (by show 2048 + (128 * g.val + j.val) < 2176; omega)).trans
        (same w e _ _ (by show 2048 + (128 * g.val + j.val) - 2112 + 1920 = 1920 + 64 * g.val + (j.val - 64); omega))
  · refine (wn_B w e _ (by show 2176 ≤ 2048 + (128 * g.val + j.val); omega)).trans ?_
    split_ifs with h
    · exact (colsB_0 w e _ (by show 0 ≤ 2048 + (128 * g.val + j.val) - 2176; omega) (by show 2048 + (128 * g.val + j.val) - 2176 < 64; omega)).trans
        (same w e _ _ (by show 2048 + (128 * g.val + j.val) - 2176 - 0 + 1856 = 1792 + 64 * g.val + j.val; omega))
    · exact (colsB_1 w e _ (by show 64 ≤ 2048 + (128 * g.val + j.val) - 2176; omega) (by show 2048 + (128 * g.val + j.val) - 2176 < 128; omega)).trans
        (same w e _ _ (by show 2048 + (128 * g.val + j.val) - 2176 - 64 + 1984 = 1920 + 64 * g.val + (j.val - 64); omega))

theorem wt_vs (e : Fin 1024) (g : Fin 2) (d : Fin 64) :
    (wt w (ix2 ⟨768 + (64 * g.val + d.val), by omega⟩ e) : EReal) = layVs (fun k => w (ix2 e k)) g d := by
  refine (wt_C w e _ (by show 768 + (64 * g.val + d.val) < 1024; omega)).trans ?_
  unfold layVs
  rcases (by omega : g.val = 0 ∨ g.val = 1) with hg | hg
  · exact (colsC_12 w e _ (by show 768 ≤ 768 + (64 * g.val + d.val); omega) (by show 768 + (64 * g.val + d.val) < 832; omega)).trans
      (same w e _ _ (by show 768 + (64 * g.val + d.val) - 768 + 2176 = 2176 + 64 * g.val + d.val; omega))
  · exact (colsC_13 w e _ (by show 832 ≤ 768 + (64 * g.val + d.val); omega) (by show 768 + (64 * g.val + d.val) < 896; omega)).trans
      (same w e _ _ (by show 768 + (64 * g.val + d.val) - 832 + 2240 = 2176 + 64 * g.val + d.val; omega))

theorem wt_vw (e : Fin 1024) (g : Fin 2) (d : Fin 64) :
    (wt w (ix2 ⟨896 + (64 * g.val + d.val), by omega⟩ e) : EReal) = layVw (fun k => w (ix2 e k)) g d := by
  refine (wt_C w e _ (by show 896 + (64 * g.val + d.val) < 1024; omega)).trans ?_
  unfold layVw
  rcases (by omega : g.val = 0 ∨ g.val = 1) with hg | hg
  · exact (colsC_14 w e _ (by show 896 ≤ 896 + (64 * g.val + d.val); omega) (by show 896 + (64 * g.val + d.val) < 960; omega)).trans
      (same w e _ _ (by show 896 + (64 * g.val + d.val) - 896 + 2432 = 2432 + 64 * g.val + d.val; omega))
  · exact (colsC_15 w e _ (by show 960 ≤ 896 + (64 * g.val + d.val); omega) (by show 896 + (64 * g.val + d.val) < 1024; omega)).trans
      (same w e _ _ (by show 896 + (64 * g.val + d.val) - 960 + 2496 = 2432 + 64 * g.val + d.val; omega))

theorem wt_gl (e : Fin 1024) (r : Fin 32) : (wt w (ix2 ⟨1024 + r.val, by omega⟩ e) : EReal) = layGl (fun k => w (ix2 e k)) r := by
  refine (wt_D w e _ (by show 1024 ≤ 1024 + r.val; omega)).trans ?_
  unfold layGl
  split_ifs with h0 h1 h2
  · exact (colsD_0 w e _ (by show 0 ≤ 1024 + r.val - 1024; omega) (by show 1024 + r.val - 1024 < 9; omega)).trans
      (same w e _ _ (by show 1024 + r.val - 1024 - 0 + 2560 = 2560 + r.val; omega))
  · exact colsD_1 w e _ (by show 9 ≤ 1024 + r.val - 1024; omega) (by show 1024 + r.val - 1024 < 16; omega)
  · exact (colsD_2 w e _ (by show 16 ≤ 1024 + r.val - 1024; omega) (by show 1024 + r.val - 1024 < 25; omega)).trans
      (same w e _ _ (by show 1024 + r.val - 1024 - 16 + 2569 = 2569 + (r.val - 16); omega))
  · exact colsD_3 w e _ (by show 25 ≤ 1024 + r.val - 1024; omega) (by show 1024 + r.val - 1024 < 32; omega)

theorem wt_s5 (e : Fin 1024) (c : Fin 256) : (wt w (ix2 ⟨1056 + c.val, by omega⟩ e) : EReal) = layS5 (fun k => w (ix2 e k)) c := by
  refine (wt_D w e _ (by show 1024 ≤ 1056 + c.val; omega)).trans ?_
  unfold layS5
  exact (colsD_4 w e _ (by show 32 ≤ 1056 + c.val - 1024; omega) (by show 1056 + c.val - 1024 < 288; omega)).trans
    (same w e _ _ (by show 1056 + c.val - 1024 - 32 + 2578 = 2578 + c.val; omega))

end Cert.InProj
-- ==== Proof.InProj.Points.lean ====
/- What the input projection's kernel computes. -/
module

public import proofs.«01_k».proof.Proof.InProj.Body
public import proofs.«01_k».proof.Proof.InProj.Weights
public import Idealize.ShloMosaic.Lib.Claim
public import Idealize.ShloMosaic.Lib.Pointwise
public import Idealize.ShloMosaic.Lib.IdealHost
public import Idealize.ShloMosaic.Lib.Pipeline.ValueKit
public import Idealize.ShloMosaic.Lib.StableHlo.ReadAt

@[expose] public section

set_option maxRecDepth 100000
set_option maxHeartbeats 400000

noncomputable section

namespace Cert.InProj

open Cert.Kernel4Ideal Cert.Kernel4Ideal.Gen Idealize.ShloMosaic Idealize.ShloMosaic.TcCoe Idealize.SL.Sem Cert.Ffn

variable (m : (ℓ : Loc nD τ sig) → Buf (Elt Ideal) ℓ) (c : Dev nD)

/-- The projection's array. -/
def wIn : T S1024x2834 := m ((c : Thread nD τ).loc main_arg2)

/-- The kernel's arguments. -/
def args : Args where
  h b t e := (m ((c : Thread nD τ).loc main_arg0) : T S8x4096x1024) (ix3 b t e)
  g e := (m ((c : Thread nD τ).loc main_arg1) : T S1024) (ix1 e)
  w e k := wIn m c (ix2 e k)

theorem V_h : V m c main_arg0 = m ((c : Thread nD τ).loc main_arg0) := by
  unfold V
  after_reads_simp

theorem V_g : V m c main_v57 = fun i => shapeCast S1x1024 (m ((c : Thread nD τ).loc main_arg1)) shapeCasts_S1024_S1x1024 i := by
  unfold V
  after_reads_simp
  rfl

theorem V_wn : V m c main_v23 = (truncf .bf16 (wn (wIn m c)) bitsLt_bf16_f32 : Tb S1024x2304) := by
  unfold V
  after_reads_simp
  rfl

theorem V_wt : V m c main_v48 = (truncf .bf16 (wt (wIn m c)) bitsLt_bf16_f32 : Tb S1312x1024) := by
  unfold V
  after_reads_simp
  rfl

theorem idx : ∀ t : Fin grid0.N, win0_0.index t = ![t.val / 16, t.val % 16, 0] ∧ win0_1.index t = ![0, 0] ∧ win0_2.index t = ![0, 0]
    ∧ win0_3.index t = ![0, 0] ∧ win0_5.index t = ![t.val / 16, t.val % 16, 0] ∧ win0_6.index t = ![t.val / 16, 0, t.val % 16]
    ∧ win0_9.index t = ![t.val / 16, 0, t.val % 16, 0] ∧ win0_11.index t = ![t.val / 16, 0, 0, t.val % 16]
    ∧ win0_12.index t = ![t.val / 16, 0, 0, t.val % 16] ∧ win0_13.index t = ![t.val / 16, 0, t.val % 16] := by
  decide +kernel

variable (t : Fin cfg0.N)

theorem t_lt : t.val < 128 := lt_of_lt_of_eq t.isLt N_0

/-- A grid point's batch row. -/
def tb : Fin 8 := ⟨t.val / 16, by have := t_lt t; omega⟩

/-- A grid point's positions. -/
def tp (r : Fin 256) : Fin 4096 := ⟨t.val % 16 * 256 + r.val, by omega⟩

theorem blk_h (r : Fin 256) (e : Fin 1024) : (iblk m c 0 t : T S1x256x1024) (ix3 0 r e) = (args m c).h (tb t) (tp t r) e := by
  have en : (win0_0.blk t).view.emb (ix3 0 r e) = ix3 (tb t) (tp t r) e := by
    blk_ext [idx t]
    all_goals rfl
  blk_simp [iblk, idx t]
  rw [en, V_h]
  rfl

theorem blk_g (e : Fin 1024) : (iblk m c 1 t : T S1x1024) (ix2 0 e) = (args m c).g e := by
  have en : (win0_1.blk t).view.emb (ix2 0 e) = ix2 0 e := by
    blk_ext [idx t]
  blk_simp [iblk, idx t]
  rw [en, V_g]
  pointwise [args]

theorem blk_wn (e : Fin 1024) (k : Fin 2304) : (iblk m c 2 t : Tb S1024x2304) (ix2 e k) = wn (wIn m c) (ix2 e k) := by
  have en : (win0_2.blk t).view.emb (ix2 e k) = ix2 e k := by
    blk_ext [idx t]
  blk_simp [iblk, idx t]
  rw [en, V_wn]
  rfl

theorem blk_wt (k : Fin 1312) (e : Fin 1024) : (iblk m c 3 t : Tb S1312x1024) (ix2 k e) = wt (wIn m c) (ix2 k e) := by
  have en : (win0_3.blk t).view.emb (ix2 k e) = ix2 k e := by
    blk_ext [idx t]
  blk_simp [iblk, idx t]
  rw [en, V_wt]
  rfl

/-- The block's normalised rows. -/
theorem blk_norm (r : Fin 256) :
    norm (fun e => (iblk m c 1 t : T S1x1024) (ix2 0 e)) (fun e => (iblk m c 0 t : T S1x256x1024) (ix3 0 r e)) = norm (args m c).g ((args m c).h (tb t) (tp t r)) :=
  congr (congrArg norm (funext fun e => blk_g m c t e)) (funext fun e => blk_h m c t r e)

theorem point_rw (r : Fin 256) (k : Fin 1536) :
    (out0_5 (F := Ideal) (grid0.coords t) (iblk m c 0 t) (iblk m c 1 t) (iblk m c 2 t) (iblk m c 3 t) (iblk m c 4 t) (ix3 0 r k) : EReal) = layRw ((args m c).z (tb t) (tp t r)) k := by
  refine (out5_at _ _ _ _ _ _ r k).trans ?_
  refine Eq.trans ?_ (sum_layRw (norm (args m c).g ((args m c).h (tb t) (tp t r))) (args m c).w k)
  refine Finset.sum_congr rfl fun e _ => congrArg₂ (· * ·) (congrFun (blk_norm m c t r) e) ?_
  exact (blk_wn m c t e _).trans (wn_rw (wIn m c) e k)

theorem final_rw : (dats m 0 c).arrAt 5 cfg0.N = ((fun j => layRw ((args m c).z (j 0) (j 1)) (j 2)) : T S8x4096x1536) := by
  refine (dats m 0 c).arrAt_eq_of_covers 5 _ (by decide +kernel) fun t hf y => ?_
  have e := point_rw m c t (y 1) (y 2)
  have hy : y = ix3 0 (y 1) (y 2) := by funext a; fin_cases a <;> first | rfl | exact Subsingleton.elim (α := Fin 1) _ _
  have en : (win0_5.blk t).view.emb y = ix3 (tb t) (tp t (y 1)) (y 2) := by
    blk_ext [idx t]
    all_goals rfl
  rw [after0_5]
  blk_simp [idx t]
  rw [en]
  exact (congrArg _ hy).trans e

theorem point_s5 (k r : Fin 256) :
    (out0_6 (F := Ideal) (grid0.coords t) (iblk m c 0 t) (iblk m c 1 t) (iblk m c 2 t) (iblk m c 3 t) (iblk m c 4 t) (ix3 0 k r) : EReal) = layS5 ((args m c).z (tb t) (tp t r)) k := by
  refine (out6_at _ _ _ _ _ _ k r).trans ?_
  refine Eq.trans ?_ (sum_layS5 (norm (args m c).g ((args m c).h (tb t) (tp t r))) (args m c).w k)
  refine Finset.sum_congr rfl fun e _ => congrArg₂ (· * ·) ?_ (congrFun (blk_norm m c t r) e)
  exact (blk_wt m c t _ e).trans (wt_s5 (wIn m c) e k)

theorem final_s5 : (dats m 0 c).arrAt 6 cfg0.N = ((fun j => layS5 ((args m c).z (j 0) (j 2)) (j 1)) : T S8x256x4096) := by
  refine (dats m 0 c).arrAt_eq_of_covers 6 _ (by decide +kernel) fun t hf y => ?_
  have e := point_s5 m c t (y 1) (y 2)
  have hy : y = ix3 0 (y 1) (y 2) := by funext a; fin_cases a <;> first | rfl | exact Subsingleton.elim (α := Fin 1) _ _
  have en : (win0_6.blk t).view.emb y = ix3 (tb t) (y 1) (tp t (y 2)) := by
    blk_ext [idx t]
    all_goals rfl
  rw [after0_6]
  blk_simp [idx t]
  rw [en]
  exact (congrArg _ hy).trans e

theorem point_kcv (p : Fin 2) (r : Fin 256) (k : Fin 128) :
    (out0_9 (F := Ideal) (grid0.coords t) (iblk m c 0 t) (iblk m c 1 t) (iblk m c 2 t) (iblk m c 3 t) (iblk m c 4 t) (ix4 0 p r k) : EReal) = layKcv ((args m c).z (tb t) (tp t r)) p k := by
  refine (out9_at _ _ _ _ _ _ p r k).trans ?_
  refine Eq.trans ?_ (sum_layKcv (norm (args m c).g ((args m c).h (tb t) (tp t r))) (args m c).w p k)
  refine Finset.sum_congr rfl fun e _ => congrArg₂ (· * ·) (congrFun (blk_norm m c t r) e) ?_
  exact (blk_wn m c t e _).trans (wn_kcv (wIn m c) e p k)

theorem final_kcv : (dats m 0 c).arrAt 9 cfg0.N = ((fun j => layKcv ((args m c).z (j 0) (j 2)) (j 1) (j 3)) : Tb S8x2x4096x128) := by
  refine (dats m 0 c).arrAt_eq_of_covers 9 _ (by decide +kernel) fun t hf y => ?_
  have e := point_kcv m c t (y 1) (y 2) (y 3)
  have hy : y = ix4 0 (y 1) (y 2) (y 3) := by funext a; fin_cases a <;> first | rfl | exact Subsingleton.elim (α := Fin 1) _ _
  have en : (win0_9.blk t).view.emb y = ix4 (tb t) (y 1) (tp t (y 2)) (y 3) := by
    blk_ext [idx t]
    all_goals rfl
  rw [after0_9]
  blk_simp [idx t]
  rw [en]
  exact (congrArg _ hy).trans e

theorem point_vs (p : Fin 2) (k : Fin 64) (r : Fin 256) :
    (out0_11 (F := Ideal) (grid0.coords t) (iblk m c 0 t) (iblk m c 1 t) (iblk m c 2 t) (iblk m c 3 t) (iblk m c 4 t) (ix4 0 p k r) : EReal) = layVs ((args m c).z (tb t) (tp t r)) p k := by
  refine (out11_at _ _ _ _ _ _ p k r).trans ?_
  refine Eq.trans ?_ (sum_layVs (norm (args m c).g ((args m c).h (tb t) (tp t r))) (args m c).w p k)
  refine Finset.sum_congr rfl fun e _ => congrArg₂ (· * ·) ?_ (congrFun (blk_norm m c t r) e)
  exact (blk_wt m c t _ e).trans (wt_vs (wIn m c) e p k)

theorem final_vs : (dats m 0 c).arrAt 11 cfg0.N = ((fun j => layVs ((args m c).z (j 0) (j 3)) (j 1) (j 2)) : Tb S8x2x64x4096) := by
  refine (dats m 0 c).arrAt_eq_of_covers 11 _ (by decide +kernel) fun t hf y => ?_
  have e := point_vs m c t (y 1) (y 2) (y 3)
  have hy : y = ix4 0 (y 1) (y 2) (y 3) := by funext a; fin_cases a <;> first | rfl | exact Subsingleton.elim (α := Fin 1) _ _
  have en : (win0_11.blk t).view.emb y = ix4 (tb t) (y 1) (y 2) (tp t (y 3)) := by
    blk_ext [idx t]
    all_goals rfl
  rw [after0_11]
  blk_simp [idx t]
  rw [en]
  exact (congrArg _ hy).trans e

theorem point_vw (p : Fin 2) (k : Fin 64) (r : Fin 256) :
    (out0_12 (F := Ideal) (grid0.coords t) (iblk m c 0 t) (iblk m c 1 t) (iblk m c 2 t) (iblk m c 3 t) (iblk m c 4 t) (ix4 0 p k r) : EReal) = layVw ((args m c).z (tb t) (tp t r)) p k := by
  refine (out12_at _ _ _ _ _ _ p k r).trans ?_
  refine Eq.trans ?_ (sum_layVw (norm (args m c).g ((args m c).h (tb t) (tp t r))) (args m c).w p k)
  refine Finset.sum_congr rfl fun e _ => congrArg₂ (· * ·) ?_ (congrFun (blk_norm m c t r) e)
  exact (blk_wt m c t _ e).trans (wt_vw (wIn m c) e p k)

theorem final_vw : (dats m 0 c).arrAt 12 cfg0.N = ((fun j => layVw ((args m c).z (j 0) (j 3)) (j 1) (j 2)) : Tb S8x2x64x4096) := by
  refine (dats m 0 c).arrAt_eq_of_covers 12 _ (by decide +kernel) fun t hf y => ?_
  have e := point_vw m c t (y 1) (y 2) (y 3)
  have hy : y = ix4 0 (y 1) (y 2) (y 3) := by funext a; fin_cases a <;> first | rfl | exact Subsingleton.elim (α := Fin 1) _ _
  have en : (win0_12.blk t).view.emb y = ix4 (tb t) (y 1) (y 2) (tp t (y 3)) := by
    blk_ext [idx t]
    all_goals rfl
  rw [after0_12]
  blk_simp [idx t]
  rw [en]
  exact (congrArg _ hy).trans e

theorem point_gl (k : Fin 32) (r : Fin 256) :
    (out0_13 (F := Ideal) (grid0.coords t) (iblk m c 0 t) (iblk m c 1 t) (iblk m c 2 t) (iblk m c 3 t) (iblk m c 4 t) (ix3 0 k r) : EReal) = layGl ((args m c).z (tb t) (tp t r)) k := by
  refine (out13_at _ _ _ _ _ _ k r).trans ?_
  refine Eq.trans ?_ (sum_layGl (norm (args m c).g ((args m c).h (tb t) (tp t r))) (args m c).w k)
  refine Finset.sum_congr rfl fun e _ => congrArg₂ (· * ·) ?_ (congrFun (blk_norm m c t r) e)
  exact (blk_wt m c t _ e).trans (wt_gl (wIn m c) e k)

theorem final_gl : (dats m 0 c).arrAt 13 cfg0.N = ((fun j => layGl ((args m c).z (j 0) (j 2)) (j 1)) : T S8x32x4096) := by
  refine (dats m 0 c).arrAt_eq_of_covers 13 _ (by decide +kernel) fun t hf y => ?_
  have e := point_gl m c t (y 1) (y 2)
  have hy : y = ix3 0 (y 1) (y 2) := by funext a; fin_cases a <;> first | rfl | exact Subsingleton.elim (α := Fin 1) _ _
  have en : (win0_13.blk t).view.emb y = ix3 (tb t) (y 1) (tp t (y 2)) := by
    blk_ext [idx t]
    all_goals rfl
  rw [after0_13]
  blk_simp [idx t]
  rw [en]
  exact (congrArg _ hy).trans e

end Cert.InProj
-- ==== Proof.InProj.Ref.lean ====
/- The input projection of the plain reference, read at an index. -/
module

public import proofs.«01_k».proof.Proof.Gen.Reference4Ideal.Run
public import proofs.«01_k».proof.Proof.InProj.Math
public import Idealize.ShloMosaic.Lib.Claim
public import Idealize.ShloMosaic.Lib.Pointwise
public import Idealize.ShloMosaic.Lib.IdealHost
public import Idealize.ShloMosaic.Lib.Pipeline.Value

@[expose] public section

set_option maxRecDepth 16384
set_option maxHeartbeats 2000000

noncomputable section

namespace Cert.InProj.Ref

open Cert.Reference4Ideal Cert.Reference4Ideal.Gen Idealize.ShloMosaic Idealize.ShloMosaic.TcCoe Idealize.SL.Sem

/-- A float array of shape `s` over the extended reals. -/
abbrev T (s : Shape) : Type := FVec Ideal s .f32

/-- The same for the narrow format, whose values are the same reals. -/
abbrev Tb (s : Shape) : Type := FVec Ideal s .bf16

/-- The root-mean-square norm of every row, scaled. -/
def rnorm (x : T S8x4096x1024) (g : T S1024) : T S8x4096x1024 :=
  mulf (mulf x (broadcastInDim S8x4096x1024 ![0, 1, 2] bcast_S8x4096x1_S8x4096x1024_0_1_2
    (Host.rsqrt (addf (Host.divf (broadcastInDim S8x4096x1 ![0, 1] bcast_S8x4096_S8x4096x1_0_1
      (Host.reduceAdd (mulf x x) (constant S_ .f32 0x00000000#32) reducesTo_S8x4096x1024_S8x4096_d2 h_S_))
        (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- The projection of every normalised row. -/
def proj (h : T S8x4096x1024) (g : T S1024) (w : T S1024x2834) : T S8x4096x2834 :=
  Host.dotGeneral dot_S8x4096x1024_S1024x2834_S8x4096x2834_2_0_01_1_n_n none (rnorm h g) w

variable (z : T S8x4096x2834)

/-- The recurrence's columns. -/
def zRw : T S8x4096x1408 := extractStridedSlice S8x4096x1408 ![0, 0, 0] z slices_S8x4096x2834_S8x4096x1408_0_0_0

/-- The attention's columns. -/
def zNsa : T S8x4096x1170 := extractStridedSlice S8x4096x1170 ![0, 0, 1408] z slices_S8x4096x2834_S8x4096x1170_0_0_1408

/-- The gates' columns. -/
def zGl : T S8x4096x18 := extractStridedSlice S8x4096x18 ![0, 0, 1152] (zNsa z) slices_S8x4096x1170_S8x4096x18_0_0_1152

/-- A group's 128 columns as two heads. -/
def heads (x : T S8x4096x128) : T S8x2x4096x64 :=
  transpose S8x2x4096x64 [0, 2, 1, 3] (shapeCast S8x4096x2x64 x shapeCasts_S8x4096x128_S8x4096x2x64) transposes_S8x4096x2x64_S8x2x4096x64_0_2_1_3

/-- Zeros between the groups. -/
def z64 : T S8x4096x64 := broadcastInDim S8x4096x64 ![] bcast_S_S8x4096x64 (constant S_ .f32 0x00000000#32)

/-- Zeros after the gates. -/
def z7 : T S8x4096x7 := broadcastInDim S8x4096x7 ![] bcast_S_S8x4096x7 (constant S_ .f32 0x00000000#32)

/-- The first result: the recurrence's columns, padded. -/
def oRw : T S8x4096x1536 :=
  concatenate S8x4096x1536 2 [⟨S8x4096x1152, extractStridedSlice S8x4096x1152 ![0, 0, 0] (zRw z) slices_S8x4096x1408_S8x4096x1152_0_0_0⟩,
    ⟨S8x4096x64, extractStridedSlice S8x4096x64 ![0, 0, 1152] (zRw z) slices_S8x4096x1408_S8x4096x64_0_0_1152⟩,
    ⟨S8x4096x64, z64⟩,
    ⟨S8x4096x64, extractStridedSlice S8x4096x64 ![0, 0, 1216] (zRw z) slices_S8x4096x1408_S8x4096x64_0_0_1216⟩,
    ⟨S8x4096x64, z64⟩,
    ⟨S8x4096x128, extractStridedSlice S8x4096x128 ![0, 0, 1280] (zRw z) slices_S8x4096x1408_S8x4096x128_0_0_1280⟩]
    concatenates_S8x4096x1152_S8x4096x64_S8x4096x64_S8x4096x64_S8x4096x64_S8x4096x128_S8x4096x1536_d2

/-- The second: the state-space group's columns. -/
def oS5 : T S8x256x4096 :=
  transpose S8x256x4096 [0, 2, 1] (extractStridedSlice S8x4096x256 ![0, 0, 2578] z slices_S8x4096x2834_S8x4096x256_0_0_2578) transposes_S8x4096x256_S8x256x4096_0_2_1

/-- The keys to be compressed. -/
def kc : T S8x2x4096x64 := heads (extractStridedSlice S8x4096x128 ![0, 0, 384] (zNsa z) slices_S8x4096x1170_S8x4096x128_0_0_384)

/-- The values to be compressed. -/
def vc : T S8x2x4096x64 := heads (extractStridedSlice S8x4096x128 ![0, 0, 512] (zNsa z) slices_S8x4096x1170_S8x4096x128_0_0_512)

/-- They side by side. -/
def kcv : T S8x2x4096x128 :=
  concatenate S8x2x4096x128 3 [⟨S8x2x4096x64, kc z⟩, ⟨S8x2x4096x64, vc z⟩] concatenates_S8x2x4096x64_S8x2x4096x64_S8x2x4096x128_d3

/-- The third result. -/
def oKcv : Tb S8x2x4096x128 := truncf .bf16 (kcv z) bitsLt_bf16_f32

/-- The fourth: the values of the selected blocks. -/
def oVs : Tb S8x2x64x4096 :=
  truncf .bf16 (transpose S8x2x64x4096 [0, 1, 3, 2] (heads (extractStridedSlice S8x4096x128 ![0, 0, 768] (zNsa z) slices_S8x4096x1170_S8x4096x128_0_0_768))
    transposes_S8x2x4096x64_S8x2x64x4096_0_1_3_2) bitsLt_bf16_f32

/-- The fifth: the values of the window. -/
def oVw : Tb S8x2x64x4096 :=
  truncf .bf16 (transpose S8x2x64x4096 [0, 1, 3, 2] (heads (extractStridedSlice S8x4096x128 ![0, 0, 1024] (zNsa z) slices_S8x4096x1170_S8x4096x128_0_0_1024))
    transposes_S8x2x4096x64_S8x2x64x4096_0_1_3_2) bitsLt_bf16_f32

/-- The gates, padded. -/
def gl : T S8x4096x32 :=
  concatenate S8x4096x32 2 [⟨S8x4096x9, extractStridedSlice S8x4096x9 ![0, 0, 0] (zGl z) slices_S8x4096x18_S8x4096x9_0_0_0⟩,
    ⟨S8x4096x7, z7⟩,
    ⟨S8x4096x9, extractStridedSlice S8x4096x9 ![0, 0, 9] (zGl z) slices_S8x4096x18_S8x4096x9_0_0_9⟩,
    ⟨S8x4096x7, z7⟩]
    concatenates_S8x4096x9_S8x4096x7_S8x4096x9_S8x4096x7_S8x4096x32_d2

/-- The sixth: they transposed. -/
def oGl : T S8x32x4096 := transpose S8x32x4096 [0, 2, 1] (gl z) transposes_S8x4096x32_S8x32x4096_0_2_1

/-- The arrays as functions of their indices. -/
def fns (h : T S8x4096x1024) (g : T S1024) (w : T S1024x2834) : Args where
  h b t e := h (ix3 b t e)
  g e := g (ix1 e)
  w e k := w (ix2 e k)

theorem rnorm_at (x : T S8x4096x1024) (g : T S1024) (b : Fin 8) (t : Fin 4096) (d : Fin 1024) :
    (rnorm x g (ix3 b t d) : EReal) = Ffn.norm (fun e => g (ix1 e)) (fun e => x (ix3 b t e)) d := by
  pointwise [rnorm, Ffn.norm, Ffn.num]

theorem proj_at (h : T S8x4096x1024) (g : T S1024) (w : T S1024x2834) (b : Fin 8) (t : Fin 4096) (k : Fin 2834) :
    (proj h g w (ix3 b t k) : EReal) = (fns h g w).z b t k := by
  pointwise [proj, rnorm_at, Args.z, fns]

variable (b : Fin 8) (t : Fin 4096)

theorem same (k k' : Fin 2834) (h : k.val = k'.val) : (z (ix3 b t k) : EReal) = z (ix3 b t k') := by
  rw [Fin.ext h]

theorem heads_at (x : T S8x4096x128) (p : Fin 2) (d : Fin 64) : (heads x (ix4 b p t d) : EReal) = x (ix3 b t ⟨64 * p.val + d.val, by omega⟩) := by
  pointwise [heads]
  congr 2
  apply Fin.ext
  dsimp only
  omega

theorem oRw_0 (c : Fin 1536) (h : 0 ≤ c.val) (h' : c.val < 1152) : (oRw z (ix3 b t c) : EReal) = z (ix3 b t ⟨c.val - 0 + 0, by omega⟩) :=
  (concatenate_apply_piece 2 _ _ (ix3 b t c) 0 (by show 0 < 6; decide) S8x4096x1152 (extractStridedSlice S8x4096x1152 ![0, 0, 0] (zRw z) slices_S8x4096x1408_S8x4096x1152_0_0_0) rfl rfl 0 rfl (ix3 b t ⟨c.val - 0, by omega⟩)
    (by intro a ha; fin_cases a <;> first | rfl | exact absurd rfl ha) (by show 0 + (c.val - 0) = c.val; omega)).trans
    (by
      pointwise [zRw, zNsa, zGl]
      all_goals first | rfl | (congr 2; apply Fin.ext; dsimp only; omega))

theorem oRw_1 (c : Fin 1536) (h : 1152 ≤ c.val) (h' : c.val < 1216) : (oRw z (ix3 b t c) : EReal) = z (ix3 b t ⟨c.val - 1152 + 1152, by omega⟩) :=
  (concatenate_apply_piece 2 _ _ (ix3 b t c) 1 (by show 1 < 6; decide) S8x4096x64 (extractStridedSlice S8x4096x64 ![0, 0, 1152] (zRw z) slices_S8x4096x1408_S8x4096x64_0_0_1152) rfl rfl 1152 rfl (ix3 b t ⟨c.val - 1152, by omega⟩)
    (by intro a ha; fin_cases a <;> first | rfl | exact absurd rfl ha) (by show 1152 + (c.val - 1152) = c.val; omega)).trans
    (by
      pointwise [zRw, zNsa, zGl]
      all_goals first | rfl | (congr 2; apply Fin.ext; dsimp only; omega))

theorem oRw_2 (c : Fin 1536) (h : 1216 ≤ c.val) (h' : c.val < 1280) : (oRw z (ix3 b t c) : EReal) = 0 :=
  (concatenate_apply_piece 2 _ _ (ix3 b t c) 2 (by show 2 < 6; decide) S8x4096x64 (z64) rfl rfl 1216 rfl (ix3 b t ⟨c.val - 1216, by omega⟩)
    (by intro a ha; fin_cases a <;> first | rfl | exact absurd rfl ha) (by show 1216 + (c.val - 1216) = c.val; omega)).trans
    (by pointwise [z64])

theorem oRw_3 (c : Fin 1536) (h : 1280 ≤ c.val) (h' : c.val < 1344) : (oRw z (ix3 b t c) : EReal) = z (ix3 b t ⟨c.val - 1280 + 1216, by omega⟩) :=
  (concatenate_apply_piece 2 _ _ (ix3 b t c) 3 (by show 3 < 6; decide) S8x4096x64 (extractStridedSlice S8x4096x64 ![0, 0, 1216] (zRw z) slices_S8x4096x1408_S8x4096x64_0_0_1216) rfl rfl 1280 rfl (ix3 b t ⟨c.val - 1280, by omega⟩)
    (by intro a ha; fin_cases a <;> first | rfl | exact absurd rfl ha) (by show 1280 + (c.val - 1280) = c.val; omega)).trans
    (by
      pointwise [zRw, zNsa, zGl]
      all_goals first | rfl | (congr 2; apply Fin.ext; dsimp only; omega))

theorem oRw_4 (c : Fin 1536) (h : 1344 ≤ c.val) (h' : c.val < 1408) : (oRw z (ix3 b t c) : EReal) = 0 :=
  (concatenate_apply_piece 2 _ _ (ix3 b t c) 4 (by show 4 < 6; decide) S8x4096x64 (z64) rfl rfl 1344 rfl (ix3 b t ⟨c.val - 1344, by omega⟩)
    (by intro a ha; fin_cases a <;> first | rfl | exact absurd rfl ha) (by show 1344 + (c.val - 1344) = c.val; omega)).trans
    (by pointwise [z64])

theorem oRw_5 (c : Fin 1536) (h : 1408 ≤ c.val) (h' : c.val < 1536) : (oRw z (ix3 b t c) : EReal) = z (ix3 b t ⟨c.val - 1408 + 1280, by omega⟩) :=
  (concatenate_apply_piece 2 _ _ (ix3 b t c) 5 (by show 5 < 6; decide) S8x4096x128 (extractStridedSlice S8x4096x128 ![0, 0, 1280] (zRw z) slices_S8x4096x1408_S8x4096x128_0_0_1280) rfl rfl 1408 rfl (ix3 b t ⟨c.val - 1408, by omega⟩)
    (by intro a ha; fin_cases a <;> first | rfl | exact absurd rfl ha) (by show 1408 + (c.val - 1408) = c.val; omega)).trans
    (by
      pointwise [zRw, zNsa, zGl]
      all_goals first | rfl | (congr 2; apply Fin.ext; dsimp only; omega))

theorem gl_0 (c : Fin 32) (h : 0 ≤ c.val) (h' : c.val < 9) : (gl z (ix3 b t c) : EReal) = z (ix3 b t ⟨c.val - 0 + 2560, by omega⟩) :=
  (concatenate_apply_piece 2 _ _ (ix3 b t c) 0 (by show 0 < 4; decide) S8x4096x9 (extractStridedSlice S8x4096x9 ![0, 0, 0] (zGl z) slices_S8x4096x18_S8x4096x9_0_0_0) rfl rfl 0 rfl (ix3 b t ⟨c.val - 0, by omega⟩)
    (by intro a ha; fin_cases a <;> first | rfl | exact absurd rfl ha) (by show 0 + (c.val - 0) = c.val; omega)).trans
    (by
      pointwise [zRw, zNsa, zGl]
      all_goals first | rfl | (congr 2; apply Fin.ext; dsimp only; omega))

theorem gl_1 (c : Fin 32) (h : 9 ≤ c.val) (h' : c.val < 16) : (gl z (ix3 b t c) : EReal) = 0 :=
  (concatenate_apply_piece 2 _ _ (ix3 b t c) 1 (by show 1 < 4; decide) S8x4096x7 (z7) rfl rfl 9 rfl (ix3 b t ⟨c.val - 9, by omega⟩)
    (by intro a ha; fin_cases a <;> first | rfl | exact absurd rfl ha) (by show 9 + (c.val - 9) = c.val; omega)).trans
    (by pointwise [z7])

theorem gl_2 (c : Fin 32) (h : 16 ≤ c.val) (h' : c.val < 25) : (gl z (ix3 b t c) : EReal) = z (ix3 b t ⟨c.val - 16 + 2569, by omega⟩) :=
  (concatenate_apply_piece 2 _ _ (ix3 b t c) 2 (by show 2 < 4; decide) S8x4096x9 (extractStridedSlice S8x4096x9 ![0, 0, 9] (zGl z) slices_S8x4096x18_S8x4096x9_0_0_9) rfl rfl 16 rfl (ix3 b t ⟨c.val - 16, by omega⟩)
    (by intro a ha; fin_cases a <;> first | rfl | exact absurd rfl ha) (by show 16 + (c.val - 16) = c.val; omega)).trans
    (by
      pointwise [zRw, zNsa, zGl]
      all_goals first | rfl | (congr 2; apply Fin.ext; dsimp only; omega))

theorem gl_3 (c : Fin 32) (h : 25 ≤ c.val) (h' : c.val < 32) : (gl z (ix3 b t c) : EReal) = 0 :=
  (concatenate_apply_piece 2 _ _ (ix3 b t c) 3 (by show 3 < 4; decide) S8x4096x7 (z7) rfl rfl 25 rfl (ix3 b t ⟨c.val - 25, by omega⟩)
    (by intro a ha; fin_cases a <;> first | rfl | exact absurd rfl ha) (by show 25 + (c.val - 25) = c.val; omega)).trans
    (by pointwise [z7])

theorem oRw_at (c : Fin 1536) : (oRw z (ix3 b t c) : EReal) = layRw (fun k => z (ix3 b t k)) c := by
  unfold layRw
  split_ifs with h0 h1 h2 h3
  · by_cases h : c.val < 1152
    · exact (oRw_0 z b t c (by omega) h).trans (same z b t _ _ (by show c.val - 0 + 0 = c.val; omega))
    · exact (oRw_1 z b t c (by omega) h0).trans (same z b t _ _ (by show c.val - 1152 + 1152 = c.val; omega))
  · exact oRw_2 z b t c (by omega) h1
  · exact (oRw_3 z b t c (by omega) h2).trans (same z b t _ _ (by show c.val - 1280 + 1216 = c.val - 64; omega))
  · exact oRw_4 z b t c (by omega) h3
  · exact (oRw_5 z b t c (by omega) (by omega)).trans (same z b t _ _ (by show c.val - 1408 + 1280 = c.val - 128; omega))

theorem gl_at (c : Fin 32) : (gl z (ix3 b t c) : EReal) = layGl (fun k => z (ix3 b t k)) c := by
  unfold layGl
  split_ifs with h0 h1 h2
  · exact (gl_0 z b t c (by omega) h0).trans (same z b t _ _ (by show c.val - 0 + 2560 = 2560 + c.val; omega))
  · exact gl_1 z b t c (by omega) h1
  · exact (gl_2 z b t c (by omega) h2).trans (same z b t _ _ (by show c.val - 16 + 2569 = 2569 + (c.val - 16); omega))
  · exact gl_3 z b t c (by omega) (by omega)

theorem oGl_at (c : Fin 32) : (oGl z (ix3 b c t) : EReal) = layGl (fun k => z (ix3 b t k)) c := by
  pointwise [oGl, gl_at]

theorem oS5_at (c : Fin 256) : (oS5 z (ix3 b c t) : EReal) = layS5 (fun k => z (ix3 b t k)) c := by
  pointwise [oS5, layS5]

theorem kc_at (p : Fin 2) (d : Fin 64) : (kc z (ix4 b p t d) : EReal) = z (ix3 b t ⟨1792 + 64 * p.val + d.val, by omega⟩) := by
  unfold kc
  refine (heads_at b t _ p d).trans ?_
  pointwise [zNsa]
  exact same z b t _ _ (by show 1408 + (384 + (64 * p.val + d.val)) = 1792 + 64 * p.val + d.val; omega)

theorem vc_at (p : Fin 2) (d : Fin 64) : (vc z (ix4 b p t d) : EReal) = z (ix3 b t ⟨1920 + 64 * p.val + d.val, by omega⟩) := by
  unfold vc
  refine (heads_at b t _ p d).trans ?_
  pointwise [zNsa]
  exact same z b t _ _ (by show 1408 + (512 + (64 * p.val + d.val)) = 1920 + 64 * p.val + d.val; omega)

theorem oVs_at (p : Fin 2) (d : Fin 64) : (oVs z (ix4 b p d t) : EReal) = layVs (fun k => z (ix3 b t k)) p d := by
  pointwise [oVs, heads_at, zNsa]
  exact same z b t _ _ (by show 1408 + (768 + (64 * p.val + d.val)) = 2176 + 64 * p.val + d.val; omega)

theorem oVw_at (p : Fin 2) (d : Fin 64) : (oVw z (ix4 b p d t) : EReal) = layVw (fun k => z (ix3 b t k)) p d := by
  pointwise [oVw, heads_at, zNsa]
  exact same z b t _ _ (by show 1408 + (1024 + (64 * p.val + d.val)) = 2432 + 64 * p.val + d.val; omega)

theorem kcv_at (p : Fin 2) (j : Fin 128) : (kcv z (ix4 b p t j) : EReal) = layKcv (fun k => z (ix3 b t k)) p j := by
  unfold layKcv
  split_ifs with h0
  · exact (concatenate_apply_piece 3 _ _ (ix4 b p t j) 0 (by show 0 < 2; decide) S8x2x4096x64 (kc z) rfl rfl 0 rfl (ix4 b p t ⟨j.val, h0⟩)
      (by intro a ha; fin_cases a <;> first | rfl | exact absurd rfl ha) (by show 0 + j.val = j.val; omega)).trans (kc_at z b t p _)
  · exact (concatenate_apply_piece 3 _ _ (ix4 b p t j) 1 (by show 1 < 2; decide) S8x2x4096x64 (vc z) rfl rfl 64 rfl (ix4 b p t ⟨j.val - 64, by omega⟩)
      (by intro a ha; fin_cases a <;> first | rfl | exact absurd rfl ha) (by show 64 + (j.val - 64) = j.val; omega)).trans (vc_at z b t p _)

theorem oKcv_at (p : Fin 2) (j : Fin 128) : (oKcv z (ix4 b p t j) : EReal) = layKcv (fun k => z (ix3 b t k)) p j := kcv_at z b t p j

end Cert.InProj.Ref
-- ==== Proof.InProj.Claim.lean ====
/- The input projection: the reference's frame, and the equality of the kernel's results with the reference's. -/
module

public import proofs.«01_k».proof.Proof.InProj.Points
public import proofs.«01_k».proof.Proof.InProj.Ref
public import proofs.«01_k».proof.Defs
public import Idealize.ShloMosaic.Lib.Quiescent

@[expose] public section

set_option maxRecDepth 16384
set_option maxHeartbeats 2000000

noncomputable section

namespace Cert.InProj

open Idealize.ShloMosaic Idealize.ShloMosaic.TcCoe Idealize.SL.Sem

/-- The reference runs, keeps its arguments, and leaves no counter above zero: it names no semaphore. -/
theorem reference_frame : Cert.quiescent_Reference4Ideal := fun m g _ =>
  (θ_run _ _ _).mono (fun r h => ⟨fun c => (h c).2.2.2.2.2.2, sem_eq_zero_of_no_sems (by decide) r.2⟩) (Cert.Reference4Ideal.Value.run m g)

section
variable (m : (ℓ : Loc Cert.Kernel4Ideal.nD Cert.Kernel4Ideal.τ Cert.Kernel4Ideal.sig) → Buf (Elt Ideal) ℓ)
  (m' : (ℓ : Loc Cert.Reference4Ideal.nD Cert.Reference4Ideal.τ Cert.Reference4Ideal.sig) → Buf (Elt Ideal) ℓ) (c : Dev Cert.Kernel4Ideal.nD)

/-- The reference's projection. -/
def refProj : Ref.T Cert.Reference4Ideal.S8x4096x2834 :=
  Ref.proj (m' ((c : Thread Cert.Reference4Ideal.nD Cert.Reference4Ideal.τ).loc Cert.Reference4Ideal.main_arg0))
    (m' ((c : Thread Cert.Reference4Ideal.nD Cert.Reference4Ideal.τ).loc Cert.Reference4Ideal.main_arg1))
    (m' ((c : Thread Cert.Reference4Ideal.nD Cert.Reference4Ideal.τ).loc Cert.Reference4Ideal.main_arg2))

variable
  (e0 : m' ((c : Thread Cert.Reference4Ideal.nD Cert.Reference4Ideal.τ).loc Cert.Reference4Ideal.main_arg0)
    = m ((c : Thread Cert.Kernel4Ideal.nD Cert.Kernel4Ideal.τ).loc Cert.Kernel4Ideal.main_arg0))
  (e1 : m' ((c : Thread Cert.Reference4Ideal.nD Cert.Reference4Ideal.τ).loc Cert.Reference4Ideal.main_arg1)
    = m ((c : Thread Cert.Kernel4Ideal.nD Cert.Kernel4Ideal.τ).loc Cert.Kernel4Ideal.main_arg1))
  (e2 : m' ((c : Thread Cert.Reference4Ideal.nD Cert.Reference4Ideal.τ).loc Cert.Reference4Ideal.main_arg2)
    = m ((c : Thread Cert.Kernel4Ideal.nD Cert.Kernel4Ideal.τ).loc Cert.Kernel4Ideal.main_arg2))
include e0 e1 e2

theorem refProj_at (b : Fin 8) (t : Fin 4096) : (fun k => (refProj m' c (ix3 b t k) : EReal)) = (args m c).z b t := by
  funext k
  refine (Ref.proj_at _ _ _ b t k).trans ?_
  rw [e0, e1, e2]
  rfl

theorem eq_rw : Ref.oRw (refProj m' c) = (Cert.Kernel4Ideal.Gen.dats m 0 c).arrAt 5 Cert.Kernel4Ideal.cfg0.N := by
  refine Eq.trans ?_ (final_rw m c).symm
  funext j
  idx_vars j
  refine (Ref.oRw_at (refProj m' c) j0 j1 j2).trans ?_
  rw [refProj_at m m' c e0 e1 e2]

theorem eq_s5 : Ref.oS5 (refProj m' c) = (Cert.Kernel4Ideal.Gen.dats m 0 c).arrAt 6 Cert.Kernel4Ideal.cfg0.N := by
  refine Eq.trans ?_ (final_s5 m c).symm
  funext j
  idx_vars j
  refine (Ref.oS5_at (refProj m' c) j0 j2 j1).trans ?_
  rw [refProj_at m m' c e0 e1 e2]

theorem eq_kcv : Ref.oKcv (refProj m' c) = (Cert.Kernel4Ideal.Gen.dats m 0 c).arrAt 9 Cert.Kernel4Ideal.cfg0.N := by
  refine Eq.trans ?_ (final_kcv m c).symm
  funext j
  idx_vars j
  refine (Ref.oKcv_at (refProj m' c) j0 j2 j1 j3).trans ?_
  rw [refProj_at m m' c e0 e1 e2]

theorem eq_vs : Ref.oVs (refProj m' c) = (Cert.Kernel4Ideal.Gen.dats m 0 c).arrAt 11 Cert.Kernel4Ideal.cfg0.N := by
  refine Eq.trans ?_ (final_vs m c).symm
  funext j
  idx_vars j
  refine (Ref.oVs_at (refProj m' c) j0 j3 j1 j2).trans ?_
  rw [refProj_at m m' c e0 e1 e2]

theorem eq_vw : Ref.oVw (refProj m' c) = (Cert.Kernel4Ideal.Gen.dats m 0 c).arrAt 12 Cert.Kernel4Ideal.cfg0.N := by
  refine Eq.trans ?_ (final_vw m c).symm
  funext j
  idx_vars j
  refine (Ref.oVw_at (refProj m' c) j0 j3 j1 j2).trans ?_
  rw [refProj_at m m' c e0 e1 e2]

theorem eq_gl : Ref.oGl (refProj m' c) = (Cert.Kernel4Ideal.Gen.dats m 0 c).arrAt 13 Cert.Kernel4Ideal.cfg0.N := by
  refine Eq.trans ?_ (final_gl m c).symm
  funext j
  idx_vars j
  refine (Ref.oGl_at (refProj m' c) j0 j2 j1).trans ?_
  rw [refProj_at m m' c e0 e1 e2]

end

/-- From the same arrays, the kernel's results and the reference's are equal. -/
theorem algebraic : Cert.algebraic_Kernel4Ideal_Reference4Ideal := by
  intro m g m' g' _ hargs
  refine ⟨fun c => (Cert.Kernel4Ideal.Gen.dats m 0 c).arrAt 5 Cert.Kernel4Ideal.cfg0.N, fun c => (Cert.Kernel4Ideal.Gen.dats m 0 c).arrAt 6 Cert.Kernel4Ideal.cfg0.N,
    fun c => (Cert.Kernel4Ideal.Gen.dats m 0 c).arrAt 9 Cert.Kernel4Ideal.cfg0.N, fun c => (Cert.Kernel4Ideal.Gen.dats m 0 c).arrAt 11 Cert.Kernel4Ideal.cfg0.N,
    fun c => (Cert.Kernel4Ideal.Gen.dats m 0 c).arrAt 12 Cert.Kernel4Ideal.cfg0.N, fun c => (Cert.Kernel4Ideal.Gen.dats m 0 c).arrAt 13 Cert.Kernel4Ideal.cfg0.N, ?_, ?_⟩
  · refine (θ_run _ _ _).mono (fun s h c => ?_) (Cert.Kernel4Ideal.Value.run_blocks m g)
    obtain ⟨h5, h6, h7, h8, h9, h10, h11, h12, h13, hk⟩ := h c
    exact ⟨h5, h6, h9, h11, h12, h13, hk⟩
  · refine (θ_run _ _ _).mono (fun s h c => ?_) (Cert.Reference4Ideal.Value.run m' g')
    obtain ⟨h0, h1, h2, h3, h4, h5, hk⟩ := h c
    obtain ⟨e0, e1, e2, e3⟩ := hargs c
    exact ⟨h0.trans (eq_rw m m' c e0 e1 e2), h1.trans (eq_s5 m m' c e0 e1 e2), h2.trans (eq_kcv m m' c e0 e1 e2), h3.trans (eq_vs m m' c e0 e1 e2),
      h4.trans (eq_vw m m' c e0 e1 e2), h5.trans (eq_gl m m' c e0 e1 e2), hk⟩

end Cert.InProj
-- ==== Proof.OutProj.Math.lean ====
/- The output projection: three groups of columns against the rows of one array, normed and added to the residual. -/
module

public import proofs.«01_k».proof.Proof.Ffn.Math

@[expose] public section

set_option maxRecDepth 16384
set_option maxHeartbeats 1000000

noncomputable section

namespace Cert.OutProj

open Idealize.ShloMosaic Cert.Ffn

/-- The three mixers' products, added up. -/
def mix (w : Fin 1024 → Fin 1024 → EReal) (a n : Fin 384 → EReal) (s : Fin 256 → EReal) (d : Fin 1024) : EReal :=
  ∑ k, a k * w ⟨k.val, by omega⟩ d + ∑ k, n k * w ⟨384 + k.val, by omega⟩ d + ∑ k, s k * w ⟨768 + k.val, by omega⟩ d

/-- The three mixers' columns side by side. -/
def cat (a n : Fin 384 → EReal) (s : Fin 256 → EReal) (k : Fin 1024) : EReal :=
  if h0 : k.val < 384 then a ⟨k.val, h0⟩ else if h1 : k.val < 768 then n ⟨k.val - 384, by omega⟩ else s ⟨k.val - 768, by omega⟩

/-- The product of all columns is the sum of the three products. -/
theorem sum_cat (w : Fin 1024 → Fin 1024 → EReal) (a n : Fin 384 → EReal) (s : Fin 256 → EReal) (d : Fin 1024) :
    ∑ k, cat a n s k * w k d = mix w a n s d := by
  refine (Fin.sum_univ_add (a := 768) (b := 256) (fun k : Fin (768 + 256) => cat a n s k * w k d)).trans ?_
  refine congrArg₂ (· + ·) ((Fin.sum_univ_add (a := 384) (b := 384) _).trans (congrArg₂ (· + ·) ?_ ?_)) ?_
  · refine Finset.sum_congr rfl fun k _ => congrArg₂ (· * ·) ?_ rfl
    exact dif_pos (show k.val < 384 from k.isLt)
  · refine Finset.sum_congr rfl fun k _ => congrArg₂ (· * ·) ?_ rfl
    refine (dif_neg (show ¬384 + k.val < 384 by omega)).trans ((dif_pos (show 384 + k.val < 768 by omega)).trans ?_)
    exact congrArg n (Fin.ext (by show 384 + k.val - 384 = k.val; omega))
  · refine Finset.sum_congr rfl fun k _ => congrArg₂ (· * ·) ?_ rfl
    refine (dif_neg (show ¬768 + k.val < 384 by omega)).trans ((dif_neg (show ¬768 + k.val < 768 by omega)).trans ?_)
    exact congrArg s (Fin.ext (by show 768 + k.val - 768 = k.val; omega))

/-- The arrays: the residual stream, the three mixers' outputs, the projection, the norm's scale. -/
structure Args where
  h : Fin 8 → Fin 4096 → Fin 1024 → EReal
  a : Fin 8 → Fin 4096 → Fin 384 → EReal
  n : Fin 8 → Fin 4096 → Fin 384 → EReal
  s : Fin 8 → Fin 4096 → Fin 256 → EReal
  w : Fin 1024 → Fin 1024 → EReal
  g : Fin 1024 → EReal

/-- The residual with the normed projection added. -/
def Args.out (A : Args) (b : Fin 8) (t : Fin 4096) (d : Fin 1024) : EReal :=
  A.h b t d + norm A.g (mix A.w (A.a b t) (A.n b t) (A.s b t)) d

end Cert.OutProj
-- ==== Proof.OutProj.Points.lean ====
/- What the kernel of the output projection computes. -/
module

public import proofs.«01_k».proof.Proof.Gen.Kernel5Ideal.Value
public import proofs.«01_k».proof.Proof.OutProj.Math
public import Idealize.ShloMosaic.Lib.Claim
public import Idealize.ShloMosaic.Lib.Pointwise
public import Idealize.ShloMosaic.Lib.IdealHost
public import Idealize.ShloMosaic.Lib.Pipeline.ValueKit
public import Idealize.ShloMosaic.Lib.StableHlo.ReadAt

@[expose] public section

set_option maxRecDepth 100000
set_option maxHeartbeats 400000

noncomputable section

namespace Cert.OutProj

open Cert.Kernel5Ideal Cert.Kernel5Ideal.Gen Idealize.ShloMosaic Idealize.ShloMosaic.TcCoe Idealize.SL.Sem Cert.Ffn

/-- A float array of shape `s` over the extended reals. -/
abbrev T (s : Shape) : Type := FVec Ideal s .f32

/-- The same for the narrow format, whose values are the same reals. -/
abbrev Tb (s : Shape) : Type := FVec Ideal s .bf16

theorem pay2_at (a : T S1x512x384) (wa : Tb S384x1024) (n : T S1x384x512) (wn : Tb S384x1024) (s : T S1x512x256) (ws : Tb S256x1024) (r : Fin 512) (d : Fin 1024) :
    (k0_pay2 (F := Ideal) a wa n wn s ws (ix2 r d) : EReal)
      = ∑ k, a (ix3 0 r k) * wa (ix2 k d) + ∑ k, n (ix3 0 k r) * wn (ix2 k d) + ∑ k, s (ix3 0 r k) * ws (ix2 k d) := by
  pointwise [k0_pay2]

theorem out_at (h : T S1x512x1024) (a : T S1x512x384) (n : T S1x384x512) (s : T S1x512x256) (w : Tb S1024x1024) (g : T S1x1024) (r : Fin 512) (d : Fin 1024) :
    (out0_6 (F := Ideal) h a n s w g (ix3 0 r d) : EReal)
      = h (ix3 0 r d) + norm (fun e => g (ix2 0 e)) (mix (fun e d => w (ix2 e d)) (fun k => a (ix3 0 r k)) (fun k => n (ix3 0 k r)) (fun k => s (ix3 0 r k))) d := by
  frame_out
  pointwise [k0_pay1, k0_pay3, k0_pay4, k0_pay5, pay2_at, mix, Ffn.norm, Ffn.num]

theorem idx : ∀ t : Fin grid0.N, win0_0.index t = ![t.val / 8, t.val % 8, 0] ∧ win0_1.index t = ![t.val / 8, t.val % 8, 0]
    ∧ win0_2.index t = ![t.val / 8, 0, t.val % 8] ∧ win0_3.index t = ![t.val / 8, t.val % 8, 0] ∧ win0_4.index t = ![0, 0] ∧ win0_5.index t = ![0, 0]
    ∧ win0_6.index t = ![t.val / 8, t.val % 8, 0] := by
  decide +kernel

variable (m : (ℓ : Loc nD τ sig) → Buf (Elt Ideal) ℓ) (c : Dev nD)

/-- The kernel's arguments. -/
def args : Args where
  h b t d := (m ((c : Thread nD τ).loc main_arg0) : T S8x4096x1024) (ix3 b t d)
  a b t k := (m ((c : Thread nD τ).loc main_arg1) : T S8x4096x384) (ix3 b t k)
  n b t k := (m ((c : Thread nD τ).loc main_arg2) : T S8x384x4096) (ix3 b k t)
  s b t k := (m ((c : Thread nD τ).loc main_arg3) : T S8x4096x256) (ix3 b t k)
  w e d := (m ((c : Thread nD τ).loc main_arg4) : T S1024x1024) (ix2 e d)
  g d := (m ((c : Thread nD τ).loc main_arg5) : T S1024) (ix1 d)

theorem V_h : V m c main_arg0 = m ((c : Thread nD τ).loc main_arg0) := by
  unfold V
  after_reads_simp

theorem V_a : V m c main_arg1 = m ((c : Thread nD τ).loc main_arg1) := by
  unfold V
  after_reads_simp

theorem V_n : V m c main_arg2 = m ((c : Thread nD τ).loc main_arg2) := by
  unfold V
  after_reads_simp

theorem V_s : V m c main_arg3 = m ((c : Thread nD τ).loc main_arg3) := by
  unfold V
  after_reads_simp

theorem V_w : V m c main_v0 = (truncf .bf16 (m ((c : Thread nD τ).loc main_arg4) : T S1024x1024) bitsLt_bf16_f32 : Tb S1024x1024) := by
  unfold V
  after_reads_simp

theorem V_g : V m c main_v1 = fun i => shapeCast S1x1024 (m ((c : Thread nD τ).loc main_arg5)) shapeCasts_S1024_S1x1024 i := by
  unfold V
  after_reads_simp
  rfl

variable (t : Fin cfg0.N)

theorem t_lt : t.val < 64 := lt_of_lt_of_eq t.isLt N_0

/-- A grid point's batch row. -/
def tb : Fin 8 := ⟨t.val / 8, by have := t_lt t; omega⟩

/-- A grid point's positions. -/
def tp (r : Fin 512) : Fin 4096 := ⟨t.val % 8 * 512 + r.val, by omega⟩

theorem blk_h (r : Fin 512) (k : Fin 1024) : (iblk m c 0 t : T S1x512x1024) (ix3 0 r k) = (args m c).h (tb t) (tp t r) k := by
  have e : (win0_0.blk t).view.emb (ix3 0 r k) = ix3 (tb t) (tp t r) k := by
    blk_ext [idx t]
    all_goals rfl
  blk_simp [iblk, idx t]
  rw [e, V_h]
  rfl

theorem blk_a (r : Fin 512) (k : Fin 384) : (iblk m c 1 t : T S1x512x384) (ix3 0 r k) = (args m c).a (tb t) (tp t r) k := by
  have e : (win0_1.blk t).view.emb (ix3 0 r k) = ix3 (tb t) (tp t r) k := by
    blk_ext [idx t]
    all_goals rfl
  blk_simp [iblk, idx t]
  rw [e, V_a]
  rfl

theorem blk_s (r : Fin 512) (k : Fin 256) : (iblk m c 3 t : T S1x512x256) (ix3 0 r k) = (args m c).s (tb t) (tp t r) k := by
  have e : (win0_3.blk t).view.emb (ix3 0 r k) = ix3 (tb t) (tp t r) k := by
    blk_ext [idx t]
    all_goals rfl
  blk_simp [iblk, idx t]
  rw [e, V_s]
  rfl

theorem blk_n (k : Fin 384) (r : Fin 512) : (iblk m c 2 t : T S1x384x512) (ix3 0 k r) = (args m c).n (tb t) (tp t r) k := by
  have e : (win0_2.blk t).view.emb (ix3 0 k r) = ix3 (tb t) k (tp t r) := by
    blk_ext [idx t]
    all_goals rfl
  blk_simp [iblk, idx t]
  rw [e, V_n]
  rfl

theorem blk_w (e d : Fin 1024) : (iblk m c 4 t : Tb S1024x1024) (ix2 e d) = (args m c).w e d := by
  have en : (win0_4.blk t).view.emb (ix2 e d) = ix2 e d := by
    blk_ext [idx t]
  blk_simp [iblk, idx t]
  rw [en, V_w]
  rfl

theorem blk_g (d : Fin 1024) : (iblk m c 5 t : T S1x1024) (ix2 0 d) = (args m c).g d := by
  have e : (win0_5.blk t).view.emb (ix2 0 d) = ix2 0 d := by
    blk_ext [idx t]
  blk_simp [iblk, idx t]
  rw [e, V_g]
  pointwise [args]

/-- What one grid point leaves. -/
theorem point (r : Fin 512) (d : Fin 1024) :
    (out0_6 (F := Ideal) (iblk m c 0 t) (iblk m c 1 t) (iblk m c 2 t) (iblk m c 3 t) (iblk m c 4 t) (iblk m c 5 t) (ix3 0 r d) : EReal)
      = (args m c).out (tb t) (tp t r) d := by
  refine (out_at (iblk m c 0 t) (iblk m c 1 t) (iblk m c 2 t) (iblk m c 3 t) (iblk m c 4 t) (iblk m c 5 t) r d).trans ?_
  have h0 := blk_h m c t r d
  have h1 := blk_a m c t r
  have h2 := fun k => blk_n m c t k r
  have h3 := blk_s m c t r
  have h4 := blk_w m c t
  have h5 := blk_g m c t
  unfold Args.out
  exact congrArg₂ (· + ·) h0 (congrFun (congrArg₂ norm (funext h5)
    (congr (congr (congr (congrArg mix (funext fun e => funext fun d => h4 e d)) (funext h1)) (funext h2)) (funext h3))) d)

/-- The kernel ends with the normed projection added to the residual. -/
theorem final : (dats m 0 c).arrAt 6 cfg0.N = ((fun j => (args m c).out (j 0) (j 1) (j 2)) : T S8x4096x1024) := by
  refine (dats m 0 c).arrAt_eq_of_covers 6 _ (by decide +kernel) fun t hf y => ?_
  have e := point m c t (y 1) (y 2)
  have hy : y = ix3 0 (y 1) (y 2) := by funext a; fin_cases a <;> first | rfl | exact Subsingleton.elim (α := Fin 1) _ _
  have en : (win0_6.blk t).view.emb y = ix3 (tb t) (tp t (y 1)) (y 2) := by
    blk_ext [idx t]
    all_goals rfl
  rw [after0_6]
  blk_simp [idx t]
  rw [en]
  exact (congrArg _ hy).trans e

end Cert.OutProj
-- ==== Proof.OutProj.Ref.lean ====
/- The output projection of the plain reference, read at an index. -/
module

public import proofs.«01_k».proof.Proof.Gen.Reference5Ideal.Run
public import proofs.«01_k».proof.Proof.OutProj.Math
public import Idealize.ShloMosaic.Lib.Claim
public import Idealize.ShloMosaic.Lib.Pointwise
public import Idealize.ShloMosaic.Lib.IdealHost
public import Idealize.ShloMosaic.Lib.Pipeline.Value

@[expose] public section

set_option maxRecDepth 16384
set_option maxHeartbeats 2000000

noncomputable section

namespace Cert.OutProj.Ref

open Cert.Reference5Ideal Cert.Reference5Ideal.Gen Idealize.ShloMosaic Idealize.ShloMosaic.TcCoe Idealize.SL.Sem

/-- A float array of shape `s` over the extended reals. -/
abbrev T (s : Shape) : Type := FVec Ideal s .f32

/-- The root-mean-square norm of every row, scaled. -/
def rnorm (x : T S8x4096x1024) (g : T S1024) : T S8x4096x1024 :=
  mulf (mulf x (broadcastInDim S8x4096x1024 ![0, 1, 2] bcast_S8x4096x1_S8x4096x1024_0_1_2
    (Host.rsqrt (addf (Host.divf (broadcastInDim S8x4096x1 ![0, 1] bcast_S8x4096_S8x4096x1_0_1
      (Host.reduceAdd (mulf x x) (constant S_ .f32 0x00000000#32) reducesTo_S8x4096x1024_S8x4096_d2 h_S_))
        (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

variable (h : T S8x4096x1024) (a : T S8x4096x384) (n : T S8x384x4096) (s : T S8x4096x256) (w : T S1024x1024) (g : T S1024)

/-- The attention's output with its columns last. -/
def nT : T S8x4096x384 := transpose S8x4096x384 [0, 2, 1] n transposes_S8x384x4096_S8x4096x384_0_2_1

/-- The three mixers' columns. -/
def cols : T S8x4096x1024 :=
  concatenate S8x4096x1024 2 [⟨S8x4096x384, a⟩, ⟨S8x4096x384, nT n⟩, ⟨S8x4096x256, s⟩] concatenates_S8x4096x384_S8x4096x384_S8x4096x256_S8x4096x1024_d2

/-- Their product with the projection. -/
def prod : T S8x4096x1024 := Host.dotGeneral dot_S8x4096x1024_S1024x1024_S8x4096x1024_2_0_01_1_n_n none (cols a n s) w

/-- The whole. -/
def all : T S8x4096x1024 := addf h (rnorm (prod a n s w) g)

theorem rnorm_at (x : T S8x4096x1024) (g : T S1024) (b : Fin 8) (t : Fin 4096) (d : Fin 1024) :
    (rnorm x g (ix3 b t d) : EReal) = Ffn.norm (fun e => g (ix1 e)) (fun e => x (ix3 b t e)) d := by
  pointwise [rnorm, Ffn.norm, Ffn.num]

variable (b : Fin 8) (t : Fin 4096)

theorem nT_at (k : Fin 384) : (nT n (ix3 b t k) : EReal) = n (ix3 b k t) := by
  pointwise [nT]

theorem cols_0 (k : Fin 1024) (h : 0 ≤ k.val) (h' : k.val < 384) : (cols a n s (ix3 b t k) : EReal) = a (ix3 b t ⟨k.val - 0, by omega⟩) :=
  (concatenate_apply_piece 2 _ _ (ix3 b t k) 0 (by show 0 < 3; decide) S8x4096x384 a rfl rfl 0 rfl (ix3 b t ⟨k.val - 0, by omega⟩)
    (by intro x hx; fin_cases x <;> first | rfl | exact absurd rfl hx) (by show 0 + (k.val - 0) = k.val; omega)).trans
    rfl

theorem cols_1 (k : Fin 1024) (h : 384 ≤ k.val) (h' : k.val < 768) : (cols a n s (ix3 b t k) : EReal) = n (ix3 b ⟨k.val - 384, by omega⟩ t) :=
  (concatenate_apply_piece 2 _ _ (ix3 b t k) 1 (by show 1 < 3; decide) S8x4096x384 (nT n) rfl rfl 384 rfl (ix3 b t ⟨k.val - 384, by omega⟩)
    (by intro x hx; fin_cases x <;> first | rfl | exact absurd rfl hx) (by show 384 + (k.val - 384) = k.val; omega)).trans
    (nT_at n b t _)

theorem cols_2 (k : Fin 1024) (h : 768 ≤ k.val) (h' : k.val < 1024) : (cols a n s (ix3 b t k) : EReal) = s (ix3 b t ⟨k.val - 768, by omega⟩) :=
  (concatenate_apply_piece 2 _ _ (ix3 b t k) 2 (by show 2 < 3; decide) S8x4096x256 s rfl rfl 768 rfl (ix3 b t ⟨k.val - 768, by omega⟩)
    (by intro x hx; fin_cases x <;> first | rfl | exact absurd rfl hx) (by show 768 + (k.val - 768) = k.val; omega)).trans
    rfl

theorem cols_at (k : Fin 1024) : (cols a n s (ix3 b t k) : EReal) = cat (fun k => a (ix3 b t k)) (fun k => n (ix3 b k t)) (fun k => s (ix3 b t k)) k := by
  unfold cat
  split_ifs with h0 h1
  · exact cols_0 a n s b t k (by omega) h0
  · exact cols_1 a n s b t k (by omega) h1
  · exact cols_2 a n s b t k (by omega) k.isLt

/-- The arrays as functions of their indices. -/
def fns : Args where
  h b t d := h (ix3 b t d)
  a b t k := a (ix3 b t k)
  n b t k := n (ix3 b k t)
  s b t k := s (ix3 b t k)
  w e d := w (ix2 e d)
  g d := g (ix1 d)

theorem prod_at (d : Fin 1024) :
    (prod a n s w (ix3 b t d) : EReal) = mix (fun e d => w (ix2 e d)) (fun k => a (ix3 b t k)) (fun k => n (ix3 b k t)) (fun k => s (ix3 b t k)) d := by
  refine Eq.trans ?_ (sum_cat (fun e d => w (ix2 e d)) _ _ _ d)
  pointwise [prod, cols_at]

/-- The reference's output at an index. -/
theorem all_at (d : Fin 1024) : (all h a n s w g (ix3 b t d) : EReal) = (fns h a n s w g).out b t d := by
  unfold Args.out
  exact congrArg₂ (· + ·) rfl ((rnorm_at _ g b t d).trans (congrFun (congrArg (Ffn.norm (fun e => g (ix1 e))) (funext fun d => prod_at a n s w b t d)) d))

end Cert.OutProj.Ref
-- ==== Proof.OutProj.Claim.lean ====
/- The output projection: the reference's frame, and the equality of the kernel's result with the reference's. -/
module

public import proofs.«01_k».proof.Proof.OutProj.Points
public import proofs.«01_k».proof.Proof.OutProj.Ref
public import proofs.«01_k».proof.Defs
public import Idealize.ShloMosaic.Lib.Quiescent

@[expose] public section

set_option maxRecDepth 16384
set_option maxHeartbeats 2000000

noncomputable section

namespace Cert.OutProj

open Idealize.ShloMosaic Idealize.ShloMosaic.TcCoe Idealize.SL.Sem

/-- The reference runs, keeps its arguments, and leaves no counter above zero: it names no semaphore. -/
theorem reference_frame : Cert.quiescent_Reference5Ideal := fun m g _ =>
  (θ_run _ _ _).mono (fun r h => ⟨fun c => (h c).2, sem_eq_zero_of_no_sems (by decide) r.2⟩) (Cert.Reference5Ideal.Value.run m g)

/-- From the same arrays, the kernel's result and the reference's are equal. -/
theorem algebraic : Cert.algebraic_Kernel5Ideal_Reference5Ideal := by
  intro m g m' g' _ hargs
  refine ⟨fun c => (Cert.Kernel5Ideal.Gen.dats m 0 c).arrAt 6 Cert.Kernel5Ideal.cfg0.N, Cert.Kernel5Ideal.Value.run_blocks m g, ?_⟩
  refine (θ_run _ _ _).mono (fun s h c => ⟨(h c).1.trans ?_, (h c).2⟩) (Cert.Reference5Ideal.Value.run m' g')
  obtain ⟨e0, e1, e2, e3, e4, e5⟩ := hargs c
  refine Eq.trans ?_ (final m c).symm
  funext j
  idx_vars j
  refine (Ref.all_at _ _ _ _ _ _ j0 j1 j2).trans ?_
  rw [e0, e1, e2, e3, e4, e5]
  rfl

end Cert.OutProj
-- ==== Proof.S5Gate.Math.lean ====
/- The S5 mixer after its scan: the skip term, the gelu and the gated linear unit. -/
module

public import proofs.«01_k».proof.Proof.Ple.Math

@[expose] public section

set_option maxRecDepth 16384
set_option maxHeartbeats 1000000

noncomputable section

namespace Cert.S5Gate

open Idealize.ShloMosaic Cert.Ffn Cert.Ple

/-- One channel's gelu, of the scan's output with the skip term. -/
def act (y d u : EReal) : EReal := gelu (y + d * u)

/-- One half of the product times the logistic of the other. -/
def glu (w : Fin 256 → Fin 512 → EReal) (a : Fin 256 → EReal) (ch : Fin 256) : EReal :=
  (∑ e, a e * w e ⟨ch.val, by omega⟩) * logistic (∑ e, a e * w e ⟨256 + ch.val, by omega⟩)

/-- The arrays: the scan's output, its input, the skip term's scale, the unit's product. -/
structure Args where
  y : Fin 8 → Fin 4096 → Fin 256 → EReal
  u : Fin 8 → Fin 4096 → Fin 256 → EReal
  d : Fin 256 → EReal
  w : Fin 256 → Fin 512 → EReal

/-- The mixer's output. -/
def Args.out (A : Args) (b : Fin 8) (t : Fin 4096) (ch : Fin 256) : EReal :=
  glu A.w (fun e => act (A.y b t e) (A.d e) (A.u b t e)) ch

end Cert.S5Gate
-- ==== Proof.S5Gate.Points.lean ====
/- What the kernel after the S5 scan computes. -/
module

public import proofs.«01_k».proof.Proof.Gen.Kernel6Ideal.Value
public import proofs.«01_k».proof.Proof.S5Gate.Math
public import Idealize.ShloMosaic.Lib.Claim
public import Idealize.ShloMosaic.Lib.Pointwise
public import Idealize.ShloMosaic.Lib.IdealHost
public import Idealize.ShloMosaic.Lib.Pipeline.ValueKit
public import Idealize.ShloMosaic.Lib.StableHlo.ReadAt

@[expose] public section

set_option maxRecDepth 100000
set_option maxHeartbeats 400000

noncomputable section

namespace Cert.S5Gate

open Cert.Kernel6Ideal Cert.Kernel6Ideal.Gen Idealize.ShloMosaic Idealize.ShloMosaic.TcCoe Idealize.SL.Sem

/-- A float array of shape `s` over the extended reals. -/
abbrev T (s : Shape) : Type := FVec Ideal s .f32

/-- The same for the narrow format, whose values are the same reals. -/
abbrev Tb (s : Shape) : Type := FVec Ideal s .bf16

theorem out_at (y u : T S1x256x1024) (d : T S256x1) (w : Tb S256x512) (r : Fin 1024) (ch : Fin 256) :
    (out0_4 (F := Ideal) y u d w (ix3 0 r ch) : EReal)
      = glu (fun e k => w (ix2 e k)) (fun e => act (y (ix3 0 e r)) (d (ix2 e 0)) (u (ix3 0 e r))) ch := by
  frame_out
  pointwise [k0_pay1, k0_pay2, glu, act, Ple.logistic, Ffn.gelu, Ffn.num]
  simp only [zero_sub]

theorem idx : ∀ t : Fin grid0.N, win0_0.index t = ![t.val / 4, 0, t.val % 4] ∧ win0_1.index t = ![t.val / 4, 0, t.val % 4]
    ∧ win0_2.index t = ![0, 0] ∧ win0_3.index t = ![0, 0] ∧ win0_4.index t = ![t.val / 4, t.val % 4, 0] := by
  decide +kernel

variable (m : (ℓ : Loc nD τ sig) → Buf (Elt Ideal) ℓ) (c : Dev nD)

/-- The kernel's arguments. -/
def args : Args where
  y b t e := (m ((c : Thread nD τ).loc main_arg0) : T S8x256x4096) (ix3 b e t)
  u b t e := (m ((c : Thread nD τ).loc main_arg1) : T S8x256x4096) (ix3 b e t)
  d e := (m ((c : Thread nD τ).loc main_arg2) : T S256) (ix1 e)
  w e k := (m ((c : Thread nD τ).loc main_arg3) : T S256x512) (ix2 e k)

theorem V_y : V m c main_arg0 = m ((c : Thread nD τ).loc main_arg0) := by
  unfold V
  after_reads_simp

theorem V_u : V m c main_arg1 = m ((c : Thread nD τ).loc main_arg1) := by
  unfold V
  after_reads_simp

theorem V_d : V m c main_v0 = fun i => shapeCast S256x1 (m ((c : Thread nD τ).loc main_arg2)) shapeCasts_S256_S256x1 i := by
  unfold V
  after_reads_simp
  rfl

theorem V_w : V m c main_v1 = (truncf .bf16 (m ((c : Thread nD τ).loc main_arg3) : T S256x512) bitsLt_bf16_f32 : Tb S256x512) := by
  unfold V
  after_reads_simp

variable (t : Fin cfg0.N)

theorem t_lt : t.val < 32 := lt_of_lt_of_eq t.isLt N_0

/-- A grid point's batch row. -/
def tb : Fin 8 := ⟨t.val / 4, by have := t_lt t; omega⟩

/-- A grid point's positions. -/
def tp (r : Fin 1024) : Fin 4096 := ⟨t.val % 4 * 1024 + r.val, by omega⟩

theorem blk_y (e : Fin 256) (r : Fin 1024) : (iblk m c 0 t : T S1x256x1024) (ix3 0 e r) = (args m c).y (tb t) (tp t r) e := by
  have en : (win0_0.blk t).view.emb (ix3 0 e r) = ix3 (tb t) e (tp t r) := by
    blk_ext [idx t]
    all_goals rfl
  blk_simp [iblk, idx t]
  rw [en, V_y]
  rfl

theorem blk_u (e : Fin 256) (r : Fin 1024) : (iblk m c 1 t : T S1x256x1024) (ix3 0 e r) = (args m c).u (tb t) (tp t r) e := by
  have en : (win0_1.blk t).view.emb (ix3 0 e r) = ix3 (tb t) e (tp t r) := by
    blk_ext [idx t]
    all_goals rfl
  blk_simp [iblk, idx t]
  rw [en, V_u]
  rfl

theorem blk_d (e : Fin 256) : (iblk m c 2 t : T S256x1) (ix2 e 0) = (args m c).d e := by
  have en : (win0_2.blk t).view.emb (ix2 e 0) = ix2 e 0 := by
    blk_ext [idx t]
  blk_simp [iblk, idx t]
  rw [en, V_d]
  pointwise [args]

theorem blk_w (e : Fin 256) (k : Fin 512) : (iblk m c 3 t : Tb S256x512) (ix2 e k) = (args m c).w e k := by
  have en : (win0_3.blk t).view.emb (ix2 e k) = ix2 e k := by
    blk_ext [idx t]
  blk_simp [iblk, idx t]
  rw [en, V_w]
  rfl

/-- What one grid point leaves. -/
theorem point (r : Fin 1024) (ch : Fin 256) :
    (out0_4 (F := Ideal) (iblk m c 0 t) (iblk m c 1 t) (iblk m c 2 t) (iblk m c 3 t) (ix3 0 r ch) : EReal)
      = (args m c).out (tb t) (tp t r) ch := by
  refine (out_at (iblk m c 0 t) (iblk m c 1 t) (iblk m c 2 t) (iblk m c 3 t) r ch).trans ?_
  unfold Args.out
  exact congrFun (congrArg₂ glu (funext fun e => funext fun k => blk_w m c t e k)
    (funext fun e => congr (congrArg₂ act (blk_y m c t e r) (blk_d m c t e)) (blk_u m c t e r))) ch

/-- The kernel ends with the mixer's output. -/
theorem final : (dats m 0 c).arrAt 4 cfg0.N = ((fun j => (args m c).out (j 0) (j 1) (j 2)) : T S8x4096x256) := by
  refine (dats m 0 c).arrAt_eq_of_covers 4 _ (by decide +kernel) fun t hf y => ?_
  have e := point m c t (y 1) (y 2)
  have hy : y = ix3 0 (y 1) (y 2) := by funext a; fin_cases a <;> first | rfl | exact Subsingleton.elim (α := Fin 1) _ _
  have en : (win0_4.blk t).view.emb y = ix3 (tb t) (tp t (y 1)) (y 2) := by
    blk_ext [idx t]
    all_goals rfl
  rw [after0_4]
  blk_simp [idx t]
  rw [en]
  exact (congrArg _ hy).trans e

end Cert.S5Gate
-- ==== Proof.S5Gate.Ref.lean ====
/- The S5 mixer of the plain reference after its scan, read at an index. -/
module

public import proofs.«01_k».proof.Proof.Gen.Reference6Ideal.Run
public import proofs.«01_k».proof.Proof.S5Gate.Math
public import Idealize.ShloMosaic.Lib.Claim
public import Idealize.ShloMosaic.Lib.Pointwise
public import Idealize.ShloMosaic.Lib.IdealHost
public import Idealize.ShloMosaic.Lib.Pipeline.Value

@[expose] public section

set_option maxRecDepth 16384
set_option maxHeartbeats 2000000

noncomputable section

namespace Cert.S5Gate.Ref

open Cert.Reference6Ideal Cert.Reference6Ideal.Gen Idealize.ShloMosaic Idealize.ShloMosaic.TcCoe Idealize.SL.Sem

/-- A float array of shape `s` over the extended reals. -/
abbrev T (s : Shape) : Type := FVec Ideal s .f32

/-- A constant everywhere. -/
def cst (w : BitVec 32) : T S8x4096x256 := broadcastInDim S8x4096x256 ![] bcast_S_S8x4096x256 (constant S_ .f32 w)

variable (y u : T S8x256x4096) (d : T S256) (w : T S256x512)

/-- The scan's output with the skip term. -/
def skip : T S8x4096x256 :=
  addf (transpose S8x4096x256 [0, 2, 1] y transposes_S8x256x4096_S8x4096x256_0_2_1)
    (mulf (broadcastInDim S8x4096x256 ![0, 1, 2] bcast_S1x1x256_S8x4096x256_0_1_2 (broadcastInDim S1x1x256 ![2] bcast_S256_S1x1x256_2 d))
      (transpose S8x4096x256 [0, 2, 1] u transposes_S8x256x4096_S8x4096x256_0_2_1))

/-- The gelu. -/
def gel (x : T S8x4096x256) : T S8x4096x256 :=
  mulf x (mulf (cst 0x3F000000#32) (addf (cst 0x3F800000#32) (Host.tanh (mulf (cst 0x3F4C422A#32)
    (addf x (mulf (cst 0x3D372713#32) (mulf (mulf x x) x)))))))

/-- The product of the gated linear unit. -/
def prod (x : T S8x4096x256) : T S8x4096x512 := Host.dotGeneral dot_S8x4096x256_S256x512_S8x4096x512_2_0_01_1_n_n none x w

/-- One half of it times the logistic of the other. -/
def unit (x : T S8x4096x512) : T S8x4096x256 :=
  mulf (extractStridedSlice S8x4096x256 ![0, 0, 0] x slices_S8x4096x512_S8x4096x256_0_0_0)
    (Host.divf (cst 0x3F800000#32) (addf (cst 0x3F800000#32) (Host.exp (Host.negf
      (extractStridedSlice S8x4096x256 ![0, 0, 256] x slices_S8x4096x512_S8x4096x256_0_0_256)))))

/-- The whole. -/
def all : T S8x4096x256 := unit (prod w (gel (skip y u d)))

variable (b : Fin 8) (t : Fin 4096)

theorem gel_at (x : T S8x4096x256) (e : Fin 256) : (gel x (ix3 b t e) : EReal) = Ffn.gelu (x (ix3 b t e)) := by
  pointwise [gel, cst, Ffn.gelu, Ffn.num]
  rw [mul_left_comm, mul_assoc (Ideal.ofBits .f32 _) (x _) (1 + _)]

theorem skip_at (e : Fin 256) : (skip y u d (ix3 b t e) : EReal) = y (ix3 b e t) + d (ix1 e) * u (ix3 b e t) := by
  pointwise [skip]

theorem prod_at (x : T S8x4096x256) (k : Fin 512) : (prod w x (ix3 b t k) : EReal) = ∑ e, x (ix3 b t e) * w (ix2 e k) := by
  pointwise [prod]

theorem unit_at (x : T S8x4096x512) (ch : Fin 256) :
    (unit x (ix3 b t ch) : EReal) = x (ix3 b t ⟨ch.val, by omega⟩) * Ple.logistic (x (ix3 b t ⟨256 + ch.val, by omega⟩)) := by
  pointwise [unit, cst, Ple.logistic]

/-- The arrays as functions of their indices. -/
def fns : Args where
  y b t e := y (ix3 b e t)
  u b t e := u (ix3 b e t)
  d e := d (ix1 e)
  w e k := w (ix2 e k)

/-- The reference's output at an index. -/
theorem all_at (ch : Fin 256) : (all y u d w (ix3 b t ch) : EReal) = (fns y u d w).out b t ch := by
  refine (unit_at b t _ ch).trans ?_
  simp only [prod_at, gel_at, skip_at]
  rfl

end Cert.S5Gate.Ref
-- ==== Proof.S5Gate.Claim.lean ====
/- The S5 mixer after its scan: the reference's frame, and the equality of the kernel's result with the reference's. -/
module

public import proofs.«01_k».proof.Proof.S5Gate.Points
public import proofs.«01_k».proof.Proof.S5Gate.Ref
public import proofs.«01_k».proof.Defs
public import Idealize.ShloMosaic.Lib.Quiescent

@[expose] public section

set_option maxRecDepth 16384
set_option maxHeartbeats 2000000

noncomputable section

namespace Cert.S5Gate

open Idealize.ShloMosaic Idealize.ShloMosaic.TcCoe Idealize.SL.Sem

/-- The reference runs, keeps its arguments, and leaves no counter above zero: it names no semaphore. -/
theorem reference_frame : Cert.quiescent_Reference6Ideal := fun m g _ =>
  (θ_run _ _ _).mono (fun r h => ⟨fun c => (h c).2, sem_eq_zero_of_no_sems (by decide) r.2⟩) (Cert.Reference6Ideal.Value.run m g)

/-- From the same arrays, the kernel's result and the reference's are equal. -/
theorem algebraic : Cert.algebraic_Kernel6Ideal_Reference6Ideal := by
  intro m g m' g' _ hargs
  refine ⟨fun c => (Cert.Kernel6Ideal.Gen.dats m 0 c).arrAt 4 Cert.Kernel6Ideal.cfg0.N, Cert.Kernel6Ideal.Value.run_blocks m g, ?_⟩
  refine (θ_run _ _ _).mono (fun s h c => ⟨(h c).1.trans ?_, (h c).2⟩) (Cert.Reference6Ideal.Value.run m' g')
  obtain ⟨e0, e1, e2, e3⟩ := hargs c
  refine Eq.trans ?_ (final m c).symm
  funext j
  idx_vars j
  refine (Ref.all_at _ _ _ _ j0 j1 j2).trans ?_
  rw [e0, e1, e2, e3]
  rfl

end Cert.S5Gate
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.S5.Claim
public import proofs.«01_k».proof.Proof.Ffn.Claim
public import proofs.«01_k».proof.Proof.Ple.Claim
public import proofs.«01_k».proof.Proof.InProj.Claim
public import proofs.«01_k».proof.Proof.OutProj.Claim
public import proofs.«01_k».proof.Proof.S5Gate.Claim

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite.Gen.facts,
  fun m g _ => Cert.Kernel.Gen.frame m g,
  fun m g _ => Cert.KernelIdeal.Gen.frame m g,
  fun m g _ => Cert.KernelIdeal.Gen.frame m g,
  Cert.S5.reference_frame,
  Cert.S5.reference_frame_finite,
  fun m g _ => Cert.Kernel2.Gen.frame m g,
  fun m g _ => Cert.Kernel2Ideal.Gen.frame m g,
  Cert.Ffn.reference_frame,
  fun m g _ => Cert.Kernel3.Gen.frame m g,
  fun m g _ => Cert.Kernel3Ideal.Gen.frame m g,
  Cert.Ple.reference_frame,
  fun m g _ => Cert.Kernel4.Gen.frame m g,
  fun m g _ => Cert.Kernel4Ideal.Gen.frame m g,
  Cert.InProj.reference_frame,
  fun m g _ => Cert.Kernel5.Gen.frame m g,
  fun m g _ => Cert.Kernel5Ideal.Gen.frame m g,
  Cert.OutProj.reference_frame,
  fun m g _ => Cert.Kernel6.Gen.frame m g,
  fun m g _ => Cert.Kernel6Ideal.Gen.frame m g,
  Cert.S5Gate.reference_frame,
  trivial,
  Cert.S5.algebraic,
  trivial,
  Cert.Ffn.algebraic,
  trivial,
  Cert.Ple.algebraic,
  trivial,
  Cert.InProj.algebraic,
  trivial,
  Cert.OutProj.algebraic,
  trivial,
  Cert.S5Gate.algebraic⟩

end Cert.Proof

end
